-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S4x8192x1088 : Shape := ⟨3, ![4, 8192, 1088]⟩
abbrev S1024 : Shape := ⟨1, ![1024]⟩
abbrev S4 : Shape := ⟨1, ![4]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x8192x1088 .bf16) (main_arg1 : FVec F S1024 .f32) (main_arg2 : IVec S4 32) : IVec S_ 1 :=
  let main_v0 : FVec F S1024 .f32 := Host.absf main_arg1
  let main_cst : FVec F S_ .f32 := constant S_ .f32 0x7F7FFFFF#32
  let main_v1 : FVec F S1024 .f32 := broadcastInDim S1024 ![] bcast_S_S1024 main_cst
  let main_v2 : IVec S1024 1 := cmpf .ole main_v0 main_v1
  let main_c : IVec S_ 1 := constantI S_ 1 1#1
  let main_v3 : IVec S_ 1 := (fun x v => Host.reduce IntOp.andi x v reducesTo_S1024_S_d0 h_S_) main_v2 main_c
  let main_c_0 : IVec S_ 32 := constantI S_ 32 2147475456#32
  let main_v4 : IVec S4 32 := broadcastInDim S4 ![] bcast_S_S4 main_c_0
  let main_v5 : IVec S4 1 := cmpi .sle main_arg2 main_v4
  let main_c_1 : IVec S_ 1 := constantI S_ 1 1#1
  let main_v6 : IVec S_ 1 := (fun x v => Host.reduce IntOp.andi x v reducesTo_S4_S_d0 h_S_) main_v5 main_c_1
  let main_v7 : IVec S_ 1 := andi main_v3 main_v6
  main_v7
-- ==== Kernel.lean ====
abbrev S4x8192x1088 : Shape := ⟨3, ![4, 8192, 1088]⟩
abbrev S1024 : Shape := ⟨1, ![1024]⟩
abbrev S4 : Shape := ⟨1, ![4]⟩
abbrev S4x1088x8192 : Shape := ⟨3, ![4, 1088, 8192]⟩
abbrev S8x128 : Shape := ⟨2, ![8, 128]⟩
abbrev S4x1184x8192 : Shape := ⟨3, ![4, 1184, 8192]⟩
abbrev S4x8192x1024 : Shape := ⟨3, ![4, 8192, 1024]⟩
abbrev S4x8x8192 : Shape := ⟨3, ![4, 8, 8192]⟩
abbrev S1x1088x1024 : Shape := ⟨3, ![1, 1088, 1024]⟩
abbrev S1x1184x1024 : Shape := ⟨3, ![1, 1184, 1024]⟩
abbrev S1x1024x1024 : Shape := ⟨3, ![1, 1024, 1024]⟩
abbrev S1x8x1024 : Shape := ⟨3, ![1, 8, 1024]⟩
abbrev S1024x128 : Shape := ⟨2, ![1024, 128]⟩
abbrev S3x32x128 : Shape := ⟨3, ![3, 32, 128]⟩
abbrev S2x32x1024 : Shape := ⟨3, ![2, 32, 1024]⟩
abbrev S2x32x128 : Shape := ⟨3, ![2, 32, 128]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S1 : Shape := ⟨1, ![1]⟩
abbrev S32x128x1 : Shape := ⟨3, ![32, 128, 1]⟩
abbrev S1x16x128 : Shape := ⟨3, ![1, 16, 128]⟩
abbrev S16x128 : Shape := ⟨2, ![16, 128]⟩
abbrev S128 : Shape := ⟨1, ![128]⟩
abbrev S1x128x128 : Shape := ⟨3, ![1, 128, 128]⟩
abbrev S1x8x128 : Shape := ⟨3, ![1, 8, 128]⟩
abbrev S1x64x128 : Shape := ⟨3, ![1, 64, 128]⟩
abbrev S64x128 : Shape := ⟨2, ![64, 128]⟩

abbrev nBuf : Space → Nat
  | .hbm => 7
  | .vmem => 14
  | .smem => 1
  | _ => 0

abbrev bufTy : (tb : Table) → Fin (tcTables nBuf tb) → BufTy
  | .hbm, ⟨0, _⟩ => ⟨S4x8192x1088, .bf16⟩
  | .hbm, ⟨1, _⟩ => ⟨S1024, .f32⟩
  | .hbm, ⟨2, _⟩ => ⟨S4x1088x8192, .bf16⟩
  | .hbm, ⟨3, _⟩ => ⟨S8x128, .f32⟩
  | .hbm, ⟨4, _⟩ => ⟨S4x1184x8192, .i8⟩
  | .hbm, ⟨5, _⟩ => ⟨S4x8192x1024, .fp8e4m3⟩
  | .hbm, ⟨6, _⟩ => ⟨S4x8x8192, .f32⟩
  | .local _ .vmem, ⟨0, _⟩ => ⟨S1x1088x1024, .bf16⟩
  | .local _ .vmem, ⟨1, _⟩ => ⟨S1x1088x1024, .bf16⟩
  | .local _ .vmem, ⟨2, _⟩ => ⟨S8x128, .f32⟩
  | .local _ .vmem, ⟨3, _⟩ => ⟨S1x1184x1024, .i8⟩
  | .local _ .vmem, ⟨4, _⟩ => ⟨S1x1184x1024, .i8⟩
  | .local _ .vmem, ⟨5, _⟩ => ⟨S1x1024x1024, .fp8e4m3⟩
  | .local _ .vmem, ⟨6, _⟩ => ⟨S1x1024x1024, .fp8e4m3⟩
  | .local _ .vmem, ⟨7, _⟩ => ⟨S1x8x1024, .f32⟩
  | .local _ .vmem, ⟨8, _⟩ => ⟨S1x8x1024, .f32⟩
  | .local _ .vmem, ⟨9, _⟩ => ⟨S1024x128, .f32⟩
  | .local _ .vmem, ⟨10, _⟩ => ⟨S3x32x128, .f32⟩
  | .local _ .vmem, ⟨11, _⟩ => ⟨S2x32x1024, .f32⟩
  | .local _ .vmem, ⟨12, _⟩ => ⟨S2x32x128, .f32⟩
  | .local _ .vmem, ⟨13, _⟩ => ⟨S1024x128, .f32⟩
  | .local _ .smem, ⟨0, _⟩ => ⟨S4, .i32⟩
  | _, _ => ⟨S4x8192x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v28 : Index := Scalar.indexCast arg0
  ![v28.toNat]
@[reducible] def k0_t1_loop : Scf.Loop 32 :=
  let c0_i32_9 : BitVec 32 := 0#32
  let c8_i32_10 : BitVec 32 := 8#32
  let v32 : BitVec 32 := Scalar.addi c0_i32_9 c8_i32_10
  let c1_i32 : BitVec 32 := 1#32
  ⟨c0_i32_9, v32, c1_i32⟩
def k0_mult1 (k0_t1 : Fin k0_t1_loop.trips) : BitVec 32 :=
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  v33
def k0_off2 (k0_t1 : Fin k0_t1_loop.trips) : Fin 3 → Nat :=
  let c0_13 : Index := 0#32
  let c0_14 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v35 : Index := Scalar.indexCast v34
  ![0, 0, v35.toNat]
def k0_off3 (k0_t1 : Fin k0_t1_loop.trips) : Fin 3 → Nat :=
  let c0_15 : Index := 0#32
  let c16 : Index := 16#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v40 : Index := Scalar.indexCast v34
  ![0, 16, v40.toNat]
def k0_off4 (k0_t1 : Fin k0_t1_loop.trips) : Fin 3 → Nat :=
  let c0_16 : Index := 0#32
  let c32 : Index := 32#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v45 : Index := Scalar.indexCast v34
  ![0, 32, v45.toNat]
def k0_off5 (k0_t1 : Fin k0_t1_loop.trips) : Fin 3 → Nat :=
  let c0_17 : Index := 0#32
  let c48 : Index := 48#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v50 : Index := Scalar.indexCast v34
  ![0, 48, v50.toNat]
def k0_off6 (k0_t1 : Fin k0_t1_loop.trips) : Fin 3 → Nat :=
  let c0_18 : Index := 0#32
  let c64 : Index := 64#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v55 : Index := Scalar.indexCast v34
  ![0, 64, v55.toNat]
def k0_off7 (k0_t1 : Fin k0_t1_loop.trips) : Fin 3 → Nat :=
  let c0_19 : Index := 0#32
  let c80 : Index := 80#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v61 : Index := Scalar.indexCast v34
  ![0, 80, v61.toNat]
def k0_off8 (k0_t1 : Fin k0_t1_loop.trips) : Fin 3 → Nat :=
  let c0_20 : Index := 0#32
  let c96 : Index := 96#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v67 : Index := Scalar.indexCast v34
  ![0, 96, v67.toNat]
def k0_off9 (k0_t1 : Fin k0_t1_loop.trips) : Fin 3 → Nat :=
  let c0_21 : Index := 0#32
  let c112 : Index := 112#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v73 : Index := Scalar.indexCast v34
  ![0, 112, v73.toNat]
def k0_off10 (k0_t1 : Fin k0_t1_loop.trips) : Fin 3 → Nat :=
  let c0_22 : Index := 0#32
  let c128 : Index := 128#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v79 : Index := Scalar.indexCast v34
  ![0, 128, v79.toNat]
def k0_off11 (k0_t1 : Fin k0_t1_loop.trips) : Fin 3 → Nat :=
  let c0_23 : Index := 0#32
  let c144 : Index := 144#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v85 : Index := Scalar.indexCast v34
  ![0, 144, v85.toNat]
def k0_off12 (k0_t1 : Fin k0_t1_loop.trips) : Fin 3 → Nat :=
  let c0_24 : Index := 0#32
  let c160 : Index := 160#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v91 : Index := Scalar.indexCast v34
  ![0, 160, v91.toNat]
def k0_off13 (k0_t1 : Fin k0_t1_loop.trips) : Fin 3 → Nat :=
  let c0_25 : Index := 0#32
  let c176 : Index := 176#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v97 : Index := Scalar.indexCast v34
  ![0, 176, v97.toNat]
def k0_off14 (k0_t1 : Fin k0_t1_loop.trips) : Fin 3 → Nat :=
  let c0_26 : Index := 0#32
  let c192 : Index := 192#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v103 : Index := Scalar.indexCast v34
  ![0, 192, v103.toNat]
def k0_off15 (k0_t1 : Fin k0_t1_loop.trips) : Fin 3 → Nat :=
  let c0_27 : Index := 0#32
  let c208 : Index := 208#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v109 : Index := Scalar.indexCast v34
  ![0, 208, v109.toNat]
def k0_off16 (k0_t1 : Fin k0_t1_loop.trips) : Fin 3 → Nat :=
  let c0_28 : Index := 0#32
  let c224 : Index := 224#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v115 : Index := Scalar.indexCast v34
  ![0, 224, v115.toNat]
def k0_off17 (k0_t1 : Fin k0_t1_loop.trips) : Fin 3 → Nat :=
  let c0_29 : Index := 0#32
  let c240 : Index := 240#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v121 : Index := Scalar.indexCast v34
  ![0, 240, v121.toNat]
def k0_off18 (k0_t1 : Fin k0_t1_loop.trips) : Fin 3 → Nat :=
  let c0_30 : Index := 0#32
  let c256 : Index := 256#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v127 : Index := Scalar.indexCast v34
  ![0, 256, v127.toNat]
def k0_off19 (k0_t1 : Fin k0_t1_loop.trips) : Fin 3 → Nat :=
  let c0_31 : Index := 0#32
  let c272 : Index := 272#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v133 : Index := Scalar.indexCast v34
  ![0, 272, v133.toNat]
def k0_off20 (k0_t1 : Fin k0_t1_loop.trips) : Fin 3 → Nat :=
  let c0_32 : Index := 0#32
  let c288 : Index := 288#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v139 : Index := Scalar.indexCast v34
  ![0, 288, v139.toNat]
def k0_off21 (k0_t1 : Fin k0_t1_loop.trips) : Fin 3 → Nat :=
  let c0_33 : Index := 0#32
  let c304 : Index := 304#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v145 : Index := Scalar.indexCast v34
  ![0, 304, v145.toNat]
def k0_off22 (k0_t1 : Fin k0_t1_loop.trips) : Fin 3 → Nat :=
  let c0_34 : Index := 0#32
  let c320 : Index := 320#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v151 : Index := Scalar.indexCast v34
  ![0, 320, v151.toNat]
def k0_off23 (k0_t1 : Fin k0_t1_loop.trips) : Fin 3 → Nat :=
  let c0_35 : Index := 0#32
  let c336 : Index := 336#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v157 : Index := Scalar.indexCast v34
  ![0, 336, v157.toNat]
def k0_off24 (k0_t1 : Fin k0_t1_loop.trips) : Fin 3 → Nat :=
  let c0_36 : Index := 0#32
  let c352 : Index := 352#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v163 : Index := Scalar.indexCast v34
  ![0, 352, v163.toNat]
def k0_off25 (k0_t1 : Fin k0_t1_loop.trips) : Fin 3 → Nat :=
  let c0_37 : Index := 0#32
  let c368 : Index := 368#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v169 : Index := Scalar.indexCast v34
  ![0, 368, v169.toNat]
def k0_off26 (k0_t1 : Fin k0_t1_loop.trips) : Fin 3 → Nat :=
  let c0_38 : Index := 0#32
  let c384 : Index := 384#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v175 : Index := Scalar.indexCast v34
  ![0, 384, v175.toNat]
def k0_off27 (k0_t1 : Fin k0_t1_loop.trips) : Fin 3 → Nat :=
  let c0_39 : Index := 0#32
  let c400 : Index := 400#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v181 : Index := Scalar.indexCast v34
  ![0, 400, v181.toNat]
def k0_off28 (k0_t1 : Fin k0_t1_loop.trips) : Fin 3 → Nat :=
  let c0_40 : Index := 0#32
  let c416 : Index := 416#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v187 : Index := Scalar.indexCast v34
  ![0, 416, v187.toNat]
def k0_off29 (k0_t1 : Fin k0_t1_loop.trips) : Fin 3 → Nat :=
  let c0_41 : Index := 0#32
  let c432 : Index := 432#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v193 : Index := Scalar.indexCast v34
  ![0, 432, v193.toNat]
def k0_off30 (k0_t1 : Fin k0_t1_loop.trips) : Fin 3 → Nat :=
  let c0_42 : Index := 0#32
  let c448 : Index := 448#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v199 : Index := Scalar.indexCast v34
  ![0, 448, v199.toNat]
def k0_off31 (k0_t1 : Fin k0_t1_loop.trips) : Fin 3 → Nat :=
  let c0_43 : Index := 0#32
  let c464 : Index := 464#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v205 : Index := Scalar.indexCast v34
  ![0, 464, v205.toNat]
def k0_off32 (k0_t1 : Fin k0_t1_loop.trips) : Fin 3 → Nat :=
  let c0_44 : Index := 0#32
  let c480 : Index := 480#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v211 : Index := Scalar.indexCast v34
  ![0, 480, v211.toNat]
def k0_off33 (k0_t1 : Fin k0_t1_loop.trips) : Fin 3 → Nat :=
  let c0_45 : Index := 0#32
  let c496 : Index := 496#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v217 : Index := Scalar.indexCast v34
  ![0, 496, v217.toNat]
def k0_off34 (k0_t1 : Fin k0_t1_loop.trips) : Fin 3 → Nat :=
  let c0_46 : Index := 0#32
  let c512 : Index := 512#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v223 : Index := Scalar.indexCast v34
  ![0, 512, v223.toNat]
def k0_off35 (k0_t1 : Fin k0_t1_loop.trips) : Fin 3 → Nat :=
  let c0_47 : Index := 0#32
  let c528 : Index := 528#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v229 : Index := Scalar.indexCast v34
  ![0, 528, v229.toNat]
def k0_off36 (k0_t1 : Fin k0_t1_loop.trips) : Fin 3 → Nat :=
  let c0_48 : Index := 0#32
  let c544 : Index := 544#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v235 : Index := Scalar.indexCast v34
  ![0, 544, v235.toNat]
def k0_off37 (k0_t1 : Fin k0_t1_loop.trips) : Fin 3 → Nat :=
  let c0_49 : Index := 0#32
  let c560 : Index := 560#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v241 : Index := Scalar.indexCast v34
  ![0, 560, v241.toNat]
def k0_off38 (k0_t1 : Fin k0_t1_loop.trips) : Fin 3 → Nat :=
  let c0_50 : Index := 0#32
  let c576 : Index := 576#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v247 : Index := Scalar.indexCast v34
  ![0, 576, v247.toNat]
def k0_off39 (k0_t1 : Fin k0_t1_loop.trips) : Fin 3 → Nat :=
  let c0_51 : Index := 0#32
  let c592 : Index := 592#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v253 : Index := Scalar.indexCast v34
  ![0, 592, v253.toNat]
def k0_off40 (k0_t1 : Fin k0_t1_loop.trips) : Fin 3 → Nat :=
  let c0_52 : Index := 0#32
  let c608 : Index := 608#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v259 : Index := Scalar.indexCast v34
  ![0, 608, v259.toNat]
def k0_off41 (k0_t1 : Fin k0_t1_loop.trips) : Fin 3 → Nat :=
  let c0_53 : Index := 0#32
  let c624 : Index := 624#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v265 : Index := Scalar.indexCast v34
  ![0, 624, v265.toNat]
def k0_off42 (k0_t1 : Fin k0_t1_loop.trips) : Fin 3 → Nat :=
  let c0_54 : Index := 0#32
  let c640 : Index := 640#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v271 : Index := Scalar.indexCast v34
  ![0, 640, v271.toNat]
def k0_off43 (k0_t1 : Fin k0_t1_loop.trips) : Fin 3 → Nat :=
  let c0_55 : Index := 0#32
  let c656 : Index := 656#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v277 : Index := Scalar.indexCast v34
  ![0, 656, v277.toNat]
def k0_off44 (k0_t1 : Fin k0_t1_loop.trips) : Fin 3 → Nat :=
  let c0_56 : Index := 0#32
  let c672 : Index := 672#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v283 : Index := Scalar.indexCast v34
  ![0, 672, v283.toNat]
def k0_off45 (k0_t1 : Fin k0_t1_loop.trips) : Fin 3 → Nat :=
  let c0_57 : Index := 0#32
  let c688 : Index := 688#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v289 : Index := Scalar.indexCast v34
  ![0, 688, v289.toNat]
def k0_off46 (k0_t1 : Fin k0_t1_loop.trips) : Fin 3 → Nat :=
  let c0_58 : Index := 0#32
  let c704 : Index := 704#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v295 : Index := Scalar.indexCast v34
  ![0, 704, v295.toNat]
def k0_off47 (k0_t1 : Fin k0_t1_loop.trips) : Fin 3 → Nat :=
  let c0_59 : Index := 0#32
  let c720 : Index := 720#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v301 : Index := Scalar.indexCast v34
  ![0, 720, v301.toNat]
def k0_off48 (k0_t1 : Fin k0_t1_loop.trips) : Fin 3 → Nat :=
  let c0_60 : Index := 0#32
  let c736 : Index := 736#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v307 : Index := Scalar.indexCast v34
  ![0, 736, v307.toNat]
def k0_off49 (k0_t1 : Fin k0_t1_loop.trips) : Fin 3 → Nat :=
  let c0_61 : Index := 0#32
  let c752 : Index := 752#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v313 : Index := Scalar.indexCast v34
  ![0, 752, v313.toNat]
def k0_off50 (k0_t1 : Fin k0_t1_loop.trips) : Fin 3 → Nat :=
  let c0_62 : Index := 0#32
  let c768 : Index := 768#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v319 : Index := Scalar.indexCast v34
  ![0, 768, v319.toNat]
def k0_off51 (k0_t1 : Fin k0_t1_loop.trips) : Fin 3 → Nat :=
  let c0_63 : Index := 0#32
  let c784 : Index := 784#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v325 : Index := Scalar.indexCast v34
  ![0, 784, v325.toNat]
def k0_off52 (k0_t1 : Fin k0_t1_loop.trips) : Fin 3 → Nat :=
  let c0_64 : Index := 0#32
  let c800 : Index := 800#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v331 : Index := Scalar.indexCast v34
  ![0, 800, v331.toNat]
def k0_off53 (k0_t1 : Fin k0_t1_loop.trips) : Fin 3 → Nat :=
  let c0_65 : Index := 0#32
  let c816 : Index := 816#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v337 : Index := Scalar.indexCast v34
  ![0, 816, v337.toNat]
def k0_off54 (k0_t1 : Fin k0_t1_loop.trips) : Fin 3 → Nat :=
  let c0_66 : Index := 0#32
  let c832 : Index := 832#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v343 : Index := Scalar.indexCast v34
  ![0, 832, v343.toNat]
def k0_off55 (k0_t1 : Fin k0_t1_loop.trips) : Fin 3 → Nat :=
  let c0_67 : Index := 0#32
  let c848 : Index := 848#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v349 : Index := Scalar.indexCast v34
  ![0, 848, v349.toNat]
def k0_off56 (k0_t1 : Fin k0_t1_loop.trips) : Fin 3 → Nat :=
  let c0_68 : Index := 0#32
  let c864 : Index := 864#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v355 : Index := Scalar.indexCast v34
  ![0, 864, v355.toNat]
def k0_off57 (k0_t1 : Fin k0_t1_loop.trips) : Fin 3 → Nat :=
  let c0_69 : Index := 0#32
  let c880 : Index := 880#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v361 : Index := Scalar.indexCast v34
  ![0, 880, v361.toNat]
def k0_off58 (k0_t1 : Fin k0_t1_loop.trips) : Fin 3 → Nat :=
  let c0_70 : Index := 0#32
  let c896 : Index := 896#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v367 : Index := Scalar.indexCast v34
  ![0, 896, v367.toNat]
def k0_off59 (k0_t1 : Fin k0_t1_loop.trips) : Fin 3 → Nat :=
  let c0_71 : Index := 0#32
  let c912 : Index := 912#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v373 : Index := Scalar.indexCast v34
  ![0, 912, v373.toNat]
def k0_off60 (k0_t1 : Fin k0_t1_loop.trips) : Fin 3 → Nat :=
  let c0_72 : Index := 0#32
  let c928 : Index := 928#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v379 : Index := Scalar.indexCast v34
  ![0, 928, v379.toNat]
def k0_off61 (k0_t1 : Fin k0_t1_loop.trips) : Fin 3 → Nat :=
  let c0_73 : Index := 0#32
  let c944 : Index := 944#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v385 : Index := Scalar.indexCast v34
  ![0, 944, v385.toNat]
def k0_off62 (k0_t1 : Fin k0_t1_loop.trips) : Fin 3 → Nat :=
  let c0_74 : Index := 0#32
  let c960 : Index := 960#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v391 : Index := Scalar.indexCast v34
  ![0, 960, v391.toNat]
def k0_off63 (k0_t1 : Fin k0_t1_loop.trips) : Fin 3 → Nat :=
  let c0_75 : Index := 0#32
  let c976 : Index := 976#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v397 : Index := Scalar.indexCast v34
  ![0, 976, v397.toNat]
def k0_off64 (k0_t1 : Fin k0_t1_loop.trips) : Fin 3 → Nat :=
  let c0_76 : Index := 0#32
  let c992 : Index := 992#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v403 : Index := Scalar.indexCast v34
  ![0, 992, v403.toNat]
def k0_off65 (k0_t1 : Fin k0_t1_loop.trips) : Fin 3 → Nat :=
  let c0_77 : Index := 0#32
  let c1008 : Index := 1008#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v409 : Index := Scalar.indexCast v34
  ![0, 1008, v409.toNat]
def k0_off66 (k0_t1 : Fin k0_t1_loop.trips) : Fin 3 → Nat :=
  let c0_80 : Index := 0#32
  let c0_81 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v425 : Index := Scalar.indexCast v34
  ![0, 0, v425.toNat]
def k0_off67 (k0_t1 : Fin k0_t1_loop.trips) : Fin 3 → Nat :=
  let c0_87 : Index := 0#32
  let c128_88 : Index := 128#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v437 : Index := Scalar.indexCast v34
  ![0, 128, v437.toNat]
def k0_off68 (k0_t1 : Fin k0_t1_loop.trips) : Fin 3 → Nat :=
  let c0_94 : Index := 0#32
  let c256_95 : Index := 256#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v449 : Index := Scalar.indexCast v34
  ![0, 256, v449.toNat]
def k0_off69 (k0_t1 : Fin k0_t1_loop.trips) : Fin 3 → Nat :=
  let c0_101 : Index := 0#32
  let c384_102 : Index := 384#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v461 : Index := Scalar.indexCast v34
  ![0, 384, v461.toNat]
def k0_off70 (k0_t1 : Fin k0_t1_loop.trips) : Fin 3 → Nat :=
  let c0_108 : Index := 0#32
  let c512_109 : Index := 512#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v473 : Index := Scalar.indexCast v34
  ![0, 512, v473.toNat]
def k0_off71 (k0_t1 : Fin k0_t1_loop.trips) : Fin 3 → Nat :=
  let c0_115 : Index := 0#32
  let c640_116 : Index := 640#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v485 : Index := Scalar.indexCast v34
  ![0, 640, v485.toNat]
def k0_off72 (k0_t1 : Fin k0_t1_loop.trips) : Fin 3 → Nat :=
  let c0_122 : Index := 0#32
  let c768_123 : Index := 768#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v497 : Index := Scalar.indexCast v34
  ![0, 768, v497.toNat]
def k0_off73 (k0_t1 : Fin k0_t1_loop.trips) : Fin 3 → Nat :=
  let c0_129 : Index := 0#32
  let c896_130 : Index := 896#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v509 : Index := Scalar.indexCast v34
  ![0, 896, v509.toNat]
def k0_off74 (k0_t1 : Fin k0_t1_loop.trips) : Fin 3 → Nat :=
  let c0_166 : Index := 0#32
  let c0_167 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v629 : Index := Scalar.indexCast v34
  ![0, 0, v629.toNat]
def k0_off75 (k0_t1 : Fin k0_t1_loop.trips) : Fin 3 → Nat :=
  let c0_168 : Index := 0#32
  let c1024 : Index := 1024#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v634 : Index := Scalar.indexCast v34
  ![0, 1024, v634.toNat]
def k0_off76 (k0_t1 : Fin k0_t1_loop.trips) : Fin 3 → Nat :=
  let c0_192 : Index := 0#32
  let c0_193 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v707 : Index := Scalar.indexCast v34
  ![0, 0, v707.toNat]
def k0_off77 (k0_t1 : Fin k0_t1_loop.trips) : Fin 3 → Nat :=
  let c0_194 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v714 : Index := Scalar.indexCast v34
  let c0_195 : Index := 0#32
  ![0, v714.toNat, 0]
def k0_off78 (k0_t1 : Fin k0_t1_loop.trips) : Fin 3 → Nat :=
  let c0_220 : Index := 0#32
  let c128_221 : Index := 128#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v782 : Index := Scalar.indexCast v34
  ![0, 128, v782.toNat]
def k0_off79 (k0_t1 : Fin k0_t1_loop.trips) : Fin 3 → Nat :=
  let c0_222 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v789 : Index := Scalar.indexCast v34
  let c128_223 : Index := 128#32
  ![0, v789.toNat, 128]
def k0_off80 (k0_t1 : Fin k0_t1_loop.trips) : Fin 3 → Nat :=
  let c0_248 : Index := 0#32
  let c256_249 : Index := 256#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v857 : Index := Scalar.indexCast v34
  ![0, 256, v857.toNat]
def k0_off81 (k0_t1 : Fin k0_t1_loop.trips) : Fin 3 → Nat :=
  let c0_250 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v864 : Index := Scalar.indexCast v34
  let c256_251 : Index := 256#32
  ![0, v864.toNat, 256]
def k0_off82 (k0_t1 : Fin k0_t1_loop.trips) : Fin 3 → Nat :=
  let c0_276 : Index := 0#32
  let c384_277 : Index := 384#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v932 : Index := Scalar.indexCast v34
  ![0, 384, v932.toNat]
def k0_off83 (k0_t1 : Fin k0_t1_loop.trips) : Fin 3 → Nat :=
  let c0_278 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v939 : Index := Scalar.indexCast v34
  let c384_279 : Index := 384#32
  ![0, v939.toNat, 384]
def k0_off84 (k0_t1 : Fin k0_t1_loop.trips) : Fin 3 → Nat :=
  let c0_304 : Index := 0#32
  let c512_305 : Index := 512#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1007 : Index := Scalar.indexCast v34
  ![0, 512, v1007.toNat]
def k0_off85 (k0_t1 : Fin k0_t1_loop.trips) : Fin 3 → Nat :=
  let c0_306 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1014 : Index := Scalar.indexCast v34
  let c512_307 : Index := 512#32
  ![0, v1014.toNat, 512]
def k0_off86 (k0_t1 : Fin k0_t1_loop.trips) : Fin 3 → Nat :=
  let c0_332 : Index := 0#32
  let c640_333 : Index := 640#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1082 : Index := Scalar.indexCast v34
  ![0, 640, v1082.toNat]
def k0_off87 (k0_t1 : Fin k0_t1_loop.trips) : Fin 3 → Nat :=
  let c0_334 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1089 : Index := Scalar.indexCast v34
  let c640_335 : Index := 640#32
  ![0, v1089.toNat, 640]
def k0_off88 (k0_t1 : Fin k0_t1_loop.trips) : Fin 3 → Nat :=
  let c0_360 : Index := 0#32
  let c768_361 : Index := 768#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1157 : Index := Scalar.indexCast v34
  ![0, 768, v1157.toNat]
def k0_off89 (k0_t1 : Fin k0_t1_loop.trips) : Fin 3 → Nat :=
  let c0_362 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1164 : Index := Scalar.indexCast v34
  let c768_363 : Index := 768#32
  ![0, v1164.toNat, 768]
def k0_off90 (k0_t1 : Fin k0_t1_loop.trips) : Fin 3 → Nat :=
  let c0_388 : Index := 0#32
  let c896_389 : Index := 896#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1232 : Index := Scalar.indexCast v34
  ![0, 896, v1232.toNat]
def k0_off91 (k0_t1 : Fin k0_t1_loop.trips) : Fin 3 → Nat :=
  let c0_390 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1239 : Index := Scalar.indexCast v34
  let c896_391 : Index := 896#32
  ![0, v1239.toNat, 896]
def k0_off92 (k0_t1 : Fin k0_t1_loop.trips) : Fin 3 → Nat :=
  let c0_400 : Index := 0#32
  let c0_401 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1262 : Index := Scalar.indexCast v34
  ![0, 0, v1262.toNat]
def k0_off93 (k0_t1 : Fin k0_t1_loop.trips) : Fin 3 → Nat :=
  let c1_402 : Index := 1#32
  let c0_403 : Index := 0#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1265 : Index := Scalar.indexCast v34
  ![1, 0, v1265.toNat]
def k0_off94 (k0_t1 : Fin k0_t1_loop.trips) : Fin 3 → Nat :=
  let c0_404 : Index := 0#32
  let c1024_405 : Index := 1024#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1274 : Index := Scalar.indexCast v34
  ![0, 1024, v1274.toNat]
def k0_off95 (k0_t1 : Fin k0_t1_loop.trips) : Fin 3 → Nat :=
  let c0_441 : Index := 0#32
  let c1056 : Index := 1056#32
  let c0_i32_9 : BitVec 32 := 0#32
  let c1_i32 : BitVec 32 := 1#32
  let arg13 : BitVec 32 := Scf.iv c0_i32_9 c1_i32 k0_t1
  let c128_i32_12 : BitVec 32 := 128#32
  let v33 : BitVec 32 := Scalar.muli arg13 c128_i32_12
  let v34 : BitVec 32 := v33
  let v1386 : Index := Scalar.indexCast v34
  ![0, 1056, v1386.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1184x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x1088 : Shape := ⟨3, ![4, 8192, 1088]⟩
abbrev S1024 : Shape := ⟨1, ![1024]⟩
abbrev S4 : Shape := ⟨1, ![4]⟩
abbrev S4x1184x8192 : Shape := ⟨3, ![4, 1184, 8192]⟩
abbrev S4x8192x1024 : Shape := ⟨3, ![4, 8192, 1024]⟩
abbrev S4x8x8192 : Shape := ⟨3, ![4, 8, 8192]⟩
abbrev S4x8192x64 : Shape := ⟨3, ![4, 8192, 64]⟩
abbrev S4x8192 : Shape := ⟨2, ![4, 8192]⟩
abbrev S4x8192x1 : Shape := ⟨3, ![4, 8192, 1]⟩
abbrev S1x1x1024 : Shape := ⟨3, ![1, 1, 1024]⟩
abbrev S4x8192x8x128 : Shape := ⟨4, ![4, 8192, 8, 128]⟩
abbrev S4x8192x8 : Shape := ⟨3, ![4, 8192, 8]⟩
abbrev S1x1x1x254 : Shape := ⟨4, ![1, 1, 1, 254]⟩
abbrev S4x8192x8x1 : Shape := ⟨4, ![4, 8192, 8, 1]⟩
abbrev S4x8192x8x254 : Shape := ⟨4, ![4, 8192, 8, 254]⟩
abbrev S1x1x32 : Shape := ⟨3, ![1, 1, 32]⟩
abbrev S1x8192 : Shape := ⟨2, ![1, 8192]⟩
abbrev S4x1 : Shape := ⟨2, ![4, 1]⟩
abbrev S4x8192x32 : Shape := ⟨3, ![4, 8192, 32]⟩
abbrev S1x1x1x14 : Shape := ⟨4, ![1, 1, 1, 14]⟩
abbrev S4x8192x1024x1 : Shape := ⟨4, ![4, 8192, 1024, 1]⟩
abbrev S4x8192x1024x14 : Shape := ⟨4, ![4, 8192, 1024, 14]⟩
abbrev S1x1x1x253 : Shape := ⟨4, ![1, 1, 1, 253]⟩
abbrev S4x8192x8x253 : Shape := ⟨4, ![4, 8192, 8, 253]⟩
abbrev S1x1x1x4 : Shape := ⟨4, ![1, 1, 1, 4]⟩
abbrev S4x8192x8x4 : Shape := ⟨4, ![4, 8192, 8, 4]⟩
abbrev S4x8192x64x1 : Shape := ⟨4, ![4, 8192, 64, 1]⟩
abbrev S4x8192x64x253 : Shape := ⟨4, ![4, 8192, 64, 253]⟩
abbrev S1x1x1x2 : Shape := ⟨4, ![1, 1, 1, 2]⟩
abbrev S4x8192x64x2 : Shape := ⟨4, ![4, 8192, 64, 2]⟩
abbrev S4x8192x128 : Shape := ⟨3, ![4, 8192, 128]⟩
abbrev S4x8192x1184 : Shape := ⟨3, ![4, 8192, 1184]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x1088, .bf16⟩
  | .hbm, ⟨1, _⟩ => ⟨S1024, .f32⟩
  | .hbm, ⟨2, _⟩ => ⟨S4, .i32⟩
  | .hbm, ⟨3, _⟩ => ⟨S4x1184x8192, .i8⟩
  | .hbm, ⟨4, _⟩ => ⟨S4x8192x1024, .fp8e4m3⟩
  | .hbm, ⟨5, _⟩ => ⟨S4x8x8192, .f32⟩
  | .local _ .vmem, ⟨0, _⟩ => ⟨S4x8192x1088, .bf16⟩
  | .local _ .vmem, ⟨1, _⟩ => ⟨S1024, .f32⟩
  | .local _ .vmem, ⟨2, _⟩ => ⟨S4, .i32⟩
  | .local _ .vmem, ⟨3, _⟩ => ⟨S4x1184x8192, .i8⟩
  | .local _ .vmem, ⟨4, _⟩ => ⟨S4x8192x1024, .fp8e4m3⟩
  | .local _ .vmem, ⟨5, _⟩ => ⟨S4x8x8192, .f32⟩
  | _, _ => ⟨S4x8192x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x1088 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1184x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelKit.lean ====
/- What the kernel's pipelined call starts from: the buffers at its entry, the table of positions it
   prefetches, the block of each window at a grid point, and when the body fills its tables. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the pipelined call is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the pipelined call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The prefetched table: the positions as the call finds them. -/
def tab (_ : Fin 1) : (pcfgs (F := F) 0).Adm := ⟨fun k => V m 0 (pre0.ref k), by trivial⟩

/-- The pipeline at that table. -/
abbrev Cfg₀ : Pipeline.Cfg sig Λ₀ := cfg0 (tab m 0)

/-- Window `w`'s block at point `t`, read off its array as the call finds it. -/
def iblk (c : Dev nD) (w : Fin 5) (t : Fin grid0.N) : (((Cfg₀ m).win w).xblock (grid0.coords t)).Idx → Elt F ((Cfg₀ m).win w).elt :=
  (((Cfg₀ m).win w).blk t).view.read (Elt F) (V m c (Pipeline.arrRef spec0 w))

/-- An input window's staging buffer holds its block at every point. -/
theorem before0_of {c : Dev nD} (dat : Dat τ (Elt F) Unit ℕ (UR sig nD τ) ℕ (Cfg₀ m) c) (hA : dat.A 0 = V m c (Pipeline.arrRef spec0 0))
    (hafter : ∀ t, dat.after 0 t = iblk m c 0 t) (t : Fin grid0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

@[inherit_doc before0_of]
theorem before1_of {c : Dev nD} (dat : Dat τ (Elt F) Unit ℕ (UR sig nD τ) ℕ (Cfg₀ m) c) (hA : dat.A 1 = V m c (Pipeline.arrRef spec0 1))
    (hafter : ∀ t, dat.after 1 t = iblk m c 1 t) (t : Fin grid0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition under which the body fills its tables, from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- Each window's staging memref at point `t`, and that it is whole. -/
abbrev ms0 (t : Fin grid0.N) : Memref sig .tc .vmem S1x1088x1024 .bf16 := (win0 (tab m 0) 0).stage ((Cfg₀ m).slots t 0)
abbrev hs0 (t : Fin grid0.N) : (ms0 m t).IsWhole := hstage0_0 (((Cfg₀ m).slots t 0).cast nbuf0_0)
abbrev ms1 (t : Fin grid0.N) : Memref sig .tc .vmem S8x128 .f32 := (win0 (tab m 0) 1).stage ((Cfg₀ m).slots t 1)
abbrev hs1 (t : Fin grid0.N) : (ms1 m t).IsWhole := hstage0_1 (((Cfg₀ m).slots t 1).cast nbuf0_1)
abbrev ms2 (t : Fin grid0.N) : Memref sig .tc .vmem S1x1184x1024 .i8 := (win0 (tab m 0) 2).stage ((Cfg₀ m).slots t 2)
abbrev hs2 (t : Fin grid0.N) : (ms2 m t).IsWhole := hstage0_2 (((Cfg₀ m).slots t 2).cast nbuf0_2)
abbrev ms3 (t : Fin grid0.N) : Memref sig .tc .vmem S1x1024x1024 .fp8e4m3 := (win0 (tab m 0) 3).stage ((Cfg₀ m).slots t 3)
abbrev hs3 (t : Fin grid0.N) : (ms3 m t).IsWhole := hstage0_3 (((Cfg₀ m).slots t 3).cast nbuf0_3)
abbrev ms4 (t : Fin grid0.N) : Memref sig .tc .vmem S1x8x1024 .f32 := (win0 (tab m 0) 4).stage ((Cfg₀ m).slots t 4)
abbrev hs4 (t : Fin grid0.N) : (ms4 m t).IsWhole := hstage0_4 (((Cfg₀ m).slots t 4).cast nbuf0_4)

/-- The kernel's scratch operands. -/
abbrev sc0 : Memref sig .tc .vmem S1024x128 .f32 := Memref.whole cc0_scratch0
abbrev sc1 : Memref sig .tc .vmem S3x32x128 .f32 := Memref.whole cc0_scratch1
abbrev sc2 : Memref sig .tc .vmem S2x32x1024 .f32 := Memref.whole cc0_scratch2
abbrev sc3 : Memref sig .tc .vmem S2x32x128 .f32 := Memref.whole cc0_scratch3
abbrev sc4 : Memref sig .tc .vmem S1024x128 .f32 := Memref.whole cc0_scratch4

/-- The scratch buffers, each at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The table as the body holds it: half of it, at the positions. -/
theorem PhiT_eq (c : Dev nD) :
    (Pipeline.ΦT pre0 (tab m 0).1 c : sProp 𝕄)
      = owns (c : Thread nD τ) (Memref.whole main_arg2) fullShare.right (V m c main_arg2) := by
  obtain rfl : c = 0 := Subsingleton.elim _ _
  unfold Pipeline.ΦT Pipeline.prefHeld
  rw [owns_whole]
  exact bigSep_univ_eq_bigSepL [(0 : Fin 1)] (by decide) (by decide) _

/-- The body as the pipeline calls it at point `t`. -/
abbrev bodyAt (t : Fin grid0.N) : Prog (TpuEff nD τ sig (Elt F) Λ₀ .tc) PUnit :=
  cc0_mla_store (grid0.coords t) (Memref.whole main_arg2) (Memref.isWhole_whole _) (ms0 m t) (hs0 m t) (ms1 m t) (hs1 m t) (ms2 m t) (hs2 m t) (ms3 m t) (hs3 m t) (ms4 m t) (hs4 m t) sc0 (Memref.isWhole_whole _) sc1 (Memref.isWhole_whole _) sc2 (Memref.isWhole_whole _) sc3 (Memref.isWhole_whole _) sc4 (Memref.isWhole_whole _)

/-- The body table's row at point `t` is that body. -/
theorem defs₀_row (t : Fin grid0.N) :
    defs₀ (F := F) .tc (Cfg₀ m).body ((Cfg₀ m).bodyArgs t ((Cfg₀ m).slots t)) = bodyAt m t := by
  unfold defs₀; rw [Defs.onTc_tc]

end Cert.Kernel.Run

end
-- ==== Proof.KernelFrame.lean ====
/- The frame of the kernel: every execution terminates without a fault, its arguments end unchanged and every
   semaphore counter at zero. Nothing is said here of what the results hold. -/
module

public import proofs.«01_k».proof.Proof.KernelKit

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that fills the tables: it runs, leaving its inputs as they were. -/
theorem body_first (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : cond0_0 i)
    (x0 : Vec F S4 .i32) (x1 : Vec F S1x1088x1024 .bf16) (x2 : Vec F S8x128 .f32) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- The body at a point past the first: it runs, leaving its inputs as they were. -/
theorem body_later (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : ¬cond0_0 i)
    (x0 : Vec F S4 .i32) (x1 : Vec F S1x1088x1024 .bf16) (x2 : Vec F S8x128 .f32) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data: inputs in place, outputs and scratch at anything -/

/-- The windows of which nothing is said. -/
def forgets : Fin 5 → Bool := fun w => w.val == 2 || w.val == 3 || w.val == 4

/-- What the pipeline keeps on core `c`: each input's staging buffer at its block, the outputs' at anything. -/
def dats (_ : Fin 1) (c : Dev nD) : Dat τ (Elt F) Unit ℕ (UR sig nD τ) ℕ (Cfg₀ m) c where
  A w := V m c (Pipeline.arrRef spec0 w)
  after w t := match w with
    | ⟨0, _⟩ => iblk m c 0 t
    | ⟨1, _⟩ => iblk m c 1 t
    | ⟨2, h⟩ => Pipeline.Dat.unnamed (cfg := Cfg₀ m) ⟨2, h⟩ t
    | ⟨3, h⟩ => Pipeline.Dat.unnamed (cfg := Cfg₀ m) ⟨3, h⟩ t
    | ⟨4, h⟩ => Pipeline.Dat.unnamed (cfg := Cfg₀ m) ⟨4, h⟩ t
  Φ _ := iprop(Pipeline.ΦA spec0 c ∗ Pipeline.ΦT pre0 (tab m 0).1 c)
  q _ := fullShare
  owed _ := 0

theorem A_eq (c : Dev nD) (w : Fin 5) : (dats m 0 c).A w = V m c (Pipeline.arrRef spec0 w) := by
  dsimp only [dats]
theorem after0 (c : Dev nD) (t : Fin grid0.N) : (dats m 0 c).after 0 t = iblk m c 0 t := rfl
theorem after1 (c : Dev nD) (t : Fin grid0.N) : (dats m 0 c).after 1 t = iblk m c 1 t := rfl
theorem before0 (c : Dev nD) (t : Fin grid0.N) (d) : (dats m 0 c).before 0 t d = iblk m c 0 t :=
  before0_of m (dats m 0 c) (A_eq m c 0) (after0 m c) t d
theorem before1 (c : Dev nD) (t : Fin grid0.N) (d) : (dats m 0 c).before 1 t d = iblk m c 1 t :=
  before1_of m (dats m 0 c) (A_eq m c 1) (after1 m c) t d

/-- What the body is called with at point `t`, the windows one by one, -/
def bodyPre (c : Dev nD) (t : Fin grid0.N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare d)
    ∗ (∃ d, owns (c : Thread nD τ) (ms3 m t) fullShare d)
    ∗ (∃ d, owns (c : Thread nD τ) (ms4 m t) fullShare d))

/-- and what it returns. -/
def bodyPost (c : Dev nD) (t : Fin grid0.N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ (∃ d, owns (c : Thread nD τ) (ms2 m t) fullShare d)
    ∗ (∃ d, owns (c : Thread nD τ) (ms3 m t) fullShare d)
    ∗ (∃ d, owns (c : Thread nD τ) (ms4 m t) fullShare d))

set_option maxHeartbeats 6400000 in
/-- The body at any point. -/
theorem sound_body (c : Dev nD) (t : Fin grid0.N) :
    bodyPre m c t ⊢ wp frame (wpE (defs₀ (F := F)) Variants.none c none) Set.univ (bodyAt m t) (fun _ => bodyPost m c t) := by
  unfold bodyPre bodyPost bodyAt
  simp only [before0, before1]
  rw [show (dats m 0 c).owesAt () t.succ = (dats m 0 c).owesAt () t.castSucc from rfl, after0, after1]
  rw [show (dats m 0 c).Φ t.succ = iprop(Pipeline.ΦA spec0 c ∗ Pipeline.ΦT pre0 (tab m 0).1 c) from rfl,
    show (dats m 0 c).Φ t.castSucc = iprop(Pipeline.ΦA spec0 c ∗ Pipeline.ΦT pre0 (tab m 0).1 c) from rfl, PhiA_eq, PhiT_eq]
  by_cases h0 : cond0_0 (grid0.coords t)
  · iintro ⟨⟨⟨⟨HS0, HS1, HS2, HS3, HS4⟩, Hg⟩, HT⟩, Ho, ⟨%d0, H0⟩, ⟨%d1, H1⟩, ⟨%d2, H2⟩, ⟨%d3, H3⟩, ⟨%d4, H4⟩⟩
    iapply (body_first c (grid0.coords t) _ _ _ _ _ _ _ _ _ _ _ _ _ _ _ _ _ _ _ _ _ _ h0 _ (iblk m c 0 t) (iblk m c 1 t) Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS0, HS1, HS2, HS3, HS4⟩
    isplitl [HS0 HS1 HS2 HS3 HS4 Hg HT]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT
    isplitl [Ho]; · iexact Ho
    isplitl [H0]; · iexact H0
    isplitl [H1]; · iexact H1
    isplitl [H2]; · iexact H2
    isplitl [H3]; · iexact H3
    iexact H4
  · iintro ⟨⟨⟨⟨HS0, HS1, HS2, HS3, HS4⟩, Hg⟩, HT⟩, Ho, ⟨%d0, H0⟩, ⟨%d1, H1⟩, ⟨%d2, H2⟩, ⟨%d3, H3⟩, ⟨%d4, H4⟩⟩
    iapply (body_later c (grid0.coords t) _ _ _ _ _ _ _ _ _ _ _ _ _ _ _ _ _ _ _ _ _ _ h0 _ (iblk m c 0 t) (iblk m c 1 t) Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS0, HS1, HS2, HS3, HS4⟩
    isplitl [HS0 HS1 HS2 HS3 HS4 Hg HT]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT
    isplitl [Ho]; · iexact Ho
    isplitl [H0]; · iexact H0
    isplitl [H1]; · iexact H1
    isplitl [H2]; · iexact H2
    isplitl [H3]; · iexact H3
    iexact H4

/-- The pipeline's obligation on the body, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every execution of @main terminates, at its inputs unchanged, every other buffer as the call found it, every counter at zero. -/
theorem run_main_quiescent : θ_run defs (onTc (τ := τ) (main (F := F))) (s₀ m ρ) (fun r => (Pipeline.RDat.FramePost (Cfg₀ m) (fun c => (dats m 0 c).toRForget forgets) (V m)) r ∧ r.2.sem = fun _ => 0) :=
  Pipeline.θ_run_frameP_forget (Q' := _) pcfgs (tab m) (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hΦ := fun _ _ => rfl) (hQ' := fun _ h => h)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of (win := spec0) main_arg0 (by decide) (by decide : ∀ w : Fin 5, (spec0 w).arr.view.ref ≠ main_arg0))).trans (V_main_arg0 m c),
       ((h.1 c).2 main_arg1 (Pipeline.mem_restRefs_of (win := spec0) main_arg1 (by decide) (by decide : ∀ w : Fin 5, (spec0 w).arr.view.ref ≠ main_arg1))).trans (V_main_arg1 m c),
       ((h.1 c).2 main_arg2 (Pipeline.mem_restRefs_of (win := spec0) main_arg2 (by decide) (by decide : ∀ w : Fin 5, (spec0 w).arr.view.ref ≠ main_arg2))).trans (V_main_arg2 m c)⟩, h.2⟩)
    (run_main_quiescent m ρ)

end Cert.Kernel.Run

end
-- ==== Proof.KernelIdealKit.lean ====
/- What the pipelined call of the kernel read over the reals starts from: the buffers at its entry, the table of positions it
   prefetches, the block of each window at a grid point, and when the body fills its tables. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the pipelined call is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the pipelined call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The prefetched table: the positions as the call finds them. -/
def tab (_ : Fin 1) : (pcfgs (F := F) 0).Adm := ⟨fun k => V m 0 (pre0.ref k), by trivial⟩

/-- The pipeline at that table. -/
abbrev Cfg₀ : Pipeline.Cfg sig Λ₀ := cfg0 (tab m 0)

/-- Window `w`'s block at point `t`, read off its array as the call finds it. -/
def iblk (c : Dev nD) (w : Fin 5) (t : Fin grid0.N) : (((Cfg₀ m).win w).xblock (grid0.coords t)).Idx → Elt F ((Cfg₀ m).win w).elt :=
  (((Cfg₀ m).win w).blk t).view.read (Elt F) (V m c (Pipeline.arrRef spec0 w))

/-- An input window's staging buffer holds its block at every point. -/
theorem before0_of {c : Dev nD} (dat : Dat τ (Elt F) Unit ℕ (UR sig nD τ) ℕ (Cfg₀ m) c) (hA : dat.A 0 = V m c (Pipeline.arrRef spec0 0))
    (hafter : ∀ t, dat.after 0 t = iblk m c 0 t) (t : Fin grid0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

@[inherit_doc before0_of]
theorem before1_of {c : Dev nD} (dat : Dat τ (Elt F) Unit ℕ (UR sig nD τ) ℕ (Cfg₀ m) c) (hA : dat.A 1 = V m c (Pipeline.arrRef spec0 1))
    (hafter : ∀ t, dat.after 1 t = iblk m c 1 t) (t : Fin grid0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition under which the body fills its tables, from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- Each window's staging memref at point `t`, and that it is whole. -/
abbrev ms0 (t : Fin grid0.N) : Memref sig .tc .vmem S1x1088x1024 .bf16 := (win0 (tab m 0) 0).stage ((Cfg₀ m).slots t 0)
abbrev hs0 (t : Fin grid0.N) : (ms0 m t).IsWhole := hstage0_0 (((Cfg₀ m).slots t 0).cast nbuf0_0)
abbrev ms1 (t : Fin grid0.N) : Memref sig .tc .vmem S8x128 .f32 := (win0 (tab m 0) 1).stage ((Cfg₀ m).slots t 1)
abbrev hs1 (t : Fin grid0.N) : (ms1 m t).IsWhole := hstage0_1 (((Cfg₀ m).slots t 1).cast nbuf0_1)
abbrev ms2 (t : Fin grid0.N) : Memref sig .tc .vmem S1x1184x1024 .i8 := (win0 (tab m 0) 2).stage ((Cfg₀ m).slots t 2)
abbrev hs2 (t : Fin grid0.N) : (ms2 m t).IsWhole := hstage0_2 (((Cfg₀ m).slots t 2).cast nbuf0_2)
abbrev ms3 (t : Fin grid0.N) : Memref sig .tc .vmem S1x1024x1024 .fp8e4m3 := (win0 (tab m 0) 3).stage ((Cfg₀ m).slots t 3)
abbrev hs3 (t : Fin grid0.N) : (ms3 m t).IsWhole := hstage0_3 (((Cfg₀ m).slots t 3).cast nbuf0_3)
abbrev ms4 (t : Fin grid0.N) : Memref sig .tc .vmem S1x8x1024 .f32 := (win0 (tab m 0) 4).stage ((Cfg₀ m).slots t 4)
abbrev hs4 (t : Fin grid0.N) : (ms4 m t).IsWhole := hstage0_4 (((Cfg₀ m).slots t 4).cast nbuf0_4)

/-- The kernel's scratch operands. -/
abbrev sc0 : Memref sig .tc .vmem S1024x128 .f32 := Memref.whole cc0_scratch0
abbrev sc1 : Memref sig .tc .vmem S3x32x128 .f32 := Memref.whole cc0_scratch1
abbrev sc2 : Memref sig .tc .vmem S2x32x1024 .f32 := Memref.whole cc0_scratch2
abbrev sc3 : Memref sig .tc .vmem S2x32x128 .f32 := Memref.whole cc0_scratch3
abbrev sc4 : Memref sig .tc .vmem S1024x128 .f32 := Memref.whole cc0_scratch4

/-- The scratch buffers, each at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The table as the body holds it: half of it, at the positions. -/
theorem PhiT_eq (c : Dev nD) :
    (Pipeline.ΦT pre0 (tab m 0).1 c : sProp 𝕄)
      = owns (c : Thread nD τ) (Memref.whole main_arg2) fullShare.right (V m c main_arg2) := by
  obtain rfl : c = 0 := Subsingleton.elim _ _
  unfold Pipeline.ΦT Pipeline.prefHeld
  rw [owns_whole]
  exact bigSep_univ_eq_bigSepL [(0 : Fin 1)] (by decide) (by decide) _

/-- The body as the pipeline calls it at point `t`. -/
abbrev bodyAt (t : Fin grid0.N) : Prog (TpuEff nD τ sig (Elt F) Λ₀ .tc) PUnit :=
  cc0_mla_store (grid0.coords t) (Memref.whole main_arg2) (Memref.isWhole_whole _) (ms0 m t) (hs0 m t) (ms1 m t) (hs1 m t) (ms2 m t) (hs2 m t) (ms3 m t) (hs3 m t) (ms4 m t) (hs4 m t) sc0 (Memref.isWhole_whole _) sc1 (Memref.isWhole_whole _) sc2 (Memref.isWhole_whole _) sc3 (Memref.isWhole_whole _) sc4 (Memref.isWhole_whole _)

/-- The body table's row at point `t` is that body. -/
theorem defs₀_row (t : Fin grid0.N) :
    defs₀ (F := F) .tc (Cfg₀ m).body ((Cfg₀ m).bodyArgs t ((Cfg₀ m).slots t)) = bodyAt m t := by
  unfold defs₀; rw [Defs.onTc_tc]

end Cert.KernelIdeal.Run

end
-- ==== Proof.KernelIdealFrame.lean ====
/- The frame of the kernel read over the reals: every execution terminates without a fault, its arguments end unchanged and every
   semaphore counter at zero. Nothing is said here of what the results hold. -/
module

public import proofs.«01_k».proof.Proof.KernelIdealKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that fills the tables: it runs, leaving its inputs as they were. -/
theorem body_first (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : cond0_0 i)
    (x0 : Vec F S4 .i32) (x1 : Vec F S1x1088x1024 .bf16) (x2 : Vec F S8x128 .f32) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- The body at a point past the first: it runs, leaving its inputs as they were. -/
theorem body_later (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : ¬cond0_0 i)
    (x0 : Vec F S4 .i32) (x1 : Vec F S1x1088x1024 .bf16) (x2 : Vec F S8x128 .f32) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data: inputs in place, outputs and scratch at anything -/

/-- The windows of which nothing is said. -/
def forgets : Fin 5 → Bool := fun w => w.val == 2 || w.val == 3 || w.val == 4

/-- What the pipeline keeps on core `c`: each input's staging buffer at its block, the outputs' at anything. -/
def dats (_ : Fin 1) (c : Dev nD) : Dat τ (Elt F) Unit ℕ (UR sig nD τ) ℕ (Cfg₀ m) c where
  A w := V m c (Pipeline.arrRef spec0 w)
  after w t := match w with
    | ⟨0, _⟩ => iblk m c 0 t
    | ⟨1, _⟩ => iblk m c 1 t
    | ⟨2, h⟩ => Pipeline.Dat.unnamed (cfg := Cfg₀ m) ⟨2, h⟩ t
    | ⟨3, h⟩ => Pipeline.Dat.unnamed (cfg := Cfg₀ m) ⟨3, h⟩ t
    | ⟨4, h⟩ => Pipeline.Dat.unnamed (cfg := Cfg₀ m) ⟨4, h⟩ t
  Φ _ := iprop(Pipeline.ΦA spec0 c ∗ Pipeline.ΦT pre0 (tab m 0).1 c)
  q _ := fullShare
  owed _ := 0

theorem A_eq (c : Dev nD) (w : Fin 5) : (dats m 0 c).A w = V m c (Pipeline.arrRef spec0 w) := by
  dsimp only [dats]
theorem after0 (c : Dev nD) (t : Fin grid0.N) : (dats m 0 c).after 0 t = iblk m c 0 t := rfl
theorem after1 (c : Dev nD) (t : Fin grid0.N) : (dats m 0 c).after 1 t = iblk m c 1 t := rfl
theorem before0 (c : Dev nD) (t : Fin grid0.N) (d) : (dats m 0 c).before 0 t d = iblk m c 0 t :=
  before0_of m (dats m 0 c) (A_eq m c 0) (after0 m c) t d
theorem before1 (c : Dev nD) (t : Fin grid0.N) (d) : (dats m 0 c).before 1 t d = iblk m c 1 t :=
  before1_of m (dats m 0 c) (A_eq m c 1) (after1 m c) t d

/-- What the body is called with at point `t`, the windows one by one, -/
def bodyPre (c : Dev nD) (t : Fin grid0.N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare d)
    ∗ (∃ d, owns (c : Thread nD τ) (ms3 m t) fullShare d)
    ∗ (∃ d, owns (c : Thread nD τ) (ms4 m t) fullShare d))

/-- and what it returns. -/
def bodyPost (c : Dev nD) (t : Fin grid0.N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ (∃ d, owns (c : Thread nD τ) (ms2 m t) fullShare d)
    ∗ (∃ d, owns (c : Thread nD τ) (ms3 m t) fullShare d)
    ∗ (∃ d, owns (c : Thread nD τ) (ms4 m t) fullShare d))

set_option maxHeartbeats 6400000 in
/-- The body at any point. -/
theorem sound_body (c : Dev nD) (t : Fin grid0.N) :
    bodyPre m c t ⊢ wp frame (wpE (defs₀ (F := F)) Variants.none c none) Set.univ (bodyAt m t) (fun _ => bodyPost m c t) := by
  unfold bodyPre bodyPost bodyAt
  simp only [before0, before1]
  rw [show (dats m 0 c).owesAt () t.succ = (dats m 0 c).owesAt () t.castSucc from rfl, after0, after1]
  rw [show (dats m 0 c).Φ t.succ = iprop(Pipeline.ΦA spec0 c ∗ Pipeline.ΦT pre0 (tab m 0).1 c) from rfl,
    show (dats m 0 c).Φ t.castSucc = iprop(Pipeline.ΦA spec0 c ∗ Pipeline.ΦT pre0 (tab m 0).1 c) from rfl, PhiA_eq, PhiT_eq]
  by_cases h0 : cond0_0 (grid0.coords t)
  · iintro ⟨⟨⟨⟨HS0, HS1, HS2, HS3, HS4⟩, Hg⟩, HT⟩, Ho, ⟨%d0, H0⟩, ⟨%d1, H1⟩, ⟨%d2, H2⟩, ⟨%d3, H3⟩, ⟨%d4, H4⟩⟩
    iapply (body_first c (grid0.coords t) _ _ _ _ _ _ _ _ _ _ _ _ _ _ _ _ _ _ _ _ _ _ h0 _ (iblk m c 0 t) (iblk m c 1 t) Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS0, HS1, HS2, HS3, HS4⟩
    isplitl [HS0 HS1 HS2 HS3 HS4 Hg HT]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT
    isplitl [Ho]; · iexact Ho
    isplitl [H0]; · iexact H0
    isplitl [H1]; · iexact H1
    isplitl [H2]; · iexact H2
    isplitl [H3]; · iexact H3
    iexact H4
  · iintro ⟨⟨⟨⟨HS0, HS1, HS2, HS3, HS4⟩, Hg⟩, HT⟩, Ho, ⟨%d0, H0⟩, ⟨%d1, H1⟩, ⟨%d2, H2⟩, ⟨%d3, H3⟩, ⟨%d4, H4⟩⟩
    iapply (body_later c (grid0.coords t) _ _ _ _ _ _ _ _ _ _ _ _ _ _ _ _ _ _ _ _ _ _ h0 _ (iblk m c 0 t) (iblk m c 1 t) Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS0, HS1, HS2, HS3, HS4⟩
    isplitl [HS0 HS1 HS2 HS3 HS4 Hg HT]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT
    isplitl [Ho]; · iexact Ho
    isplitl [H0]; · iexact H0
    isplitl [H1]; · iexact H1
    isplitl [H2]; · iexact H2
    isplitl [H3]; · iexact H3
    iexact H4

/-- The pipeline's obligation on the body, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every execution of @main terminates, at its inputs unchanged, every other buffer as the call found it, every counter at zero. -/
theorem run_main_quiescent : θ_run defs (onTc (τ := τ) (main (F := F))) (s₀ m ρ) (fun r => (Pipeline.RDat.FramePost (Cfg₀ m) (fun c => (dats m 0 c).toRForget forgets) (V m)) r ∧ r.2.sem = fun _ => 0) :=
  Pipeline.θ_run_frameP_forget (Q' := _) pcfgs (tab m) (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hΦ := fun _ _ => rfl) (hQ' := fun _ h => h)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of (win := spec0) main_arg0 (by decide) (by decide : ∀ w : Fin 5, (spec0 w).arr.view.ref ≠ main_arg0))).trans (V_main_arg0 m c),
       ((h.1 c).2 main_arg1 (Pipeline.mem_restRefs_of (win := spec0) main_arg1 (by decide) (by decide : ∀ w : Fin 5, (spec0 w).arr.view.ref ≠ main_arg1))).trans (V_main_arg1 m c),
       ((h.1 c).2 main_arg2 (Pipeline.mem_restRefs_of (win := spec0) main_arg2 (by decide) (by decide : ∀ w : Fin 5, (spec0 w).arr.view.ref ≠ main_arg2))).trans (V_main_arg2 m c)⟩, h.2⟩)
    (run_main_quiescent m ρ)

end Cert.KernelIdeal.Run

end
-- ==== Proof.ReferenceRun.lean ====
/- What the reference leaves in its three results: each is one function (`G3`, `G4`, `G5`) of the argument arrays.
   The one call has no grid, so every window's block is its whole array and every result is one store. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S4x1184x8192.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4x8192x1024.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x8x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x8192x1088.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 1088 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S1024.Idx) : ((cfg0.win 1).blk t).view.emb j = j := by
  have e0 := idx_zero1 t
  funext a; apply Fin.ext
  match a with
  | ⟨0, _⟩ => show win0_1.index t (0 : Fin 1) * 1024 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S4.Idx) : ((cfg0.win 2).blk t).view.emb j = j := by
  have e0 := idx_zero2 t
  funext a; apply Fin.ext
  match a with
  | ⟨0, _⟩ => show win0_2.index t (0 : Fin 1) * 4 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x1184x8192.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 1184 + 1 * (j 1).val = (j 1).val; omega
  | ⟨2, _⟩ => show win0_3.index t (2 : Fin 3) * 8192 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x8192x1024.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 8192 + 1 * (j 1).val = (j 1).val; omega
  | ⟨2, _⟩ => show win0_4.index t (2 : Fin 3) * 1024 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x8x8192.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 8 + 1 * (j 1).val = (j 1).val; omega
  | ⟨2, _⟩ => show win0_5.index t (2 : Fin 3) * 8192 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S4x8192x1088 .bf16) (a1 : Vec F S1024 .f32) (a2 : Vec F S4 .i32) : Vec F S4x1184x8192 .i8 :=
  k0_pay1 (k0_pay20 (k0_pay12 (k0_pay8 (k0_pay21 a0 a1 a2) (k0_pay22 a0 a1 a2)) (k0_pay9 (k0_pay21 a0 a1 a2) (k0_pay22 a0 a1 a2)) (k0_pay10 (k0_pay21 a0 a1 a2) (k0_pay22 a0 a1 a2)) (k0_pay11 (F := F))) (k0_pay15 (k0_pay22 a0 a1 a2) (k0_pay13 (k0_pay22 a0 a1 a2)) (k0_pay14 (k0_pay22 a0 a1 a2))) (k0_pay16 (k0_pay23 a0 a1 a2)) (k0_pay17 (k0_pay23 a0 a1 a2)) (k0_pay18 (F := F)) (k0_pay19 (k0_pay23 a0 a1 a2)))

/-- The one store through the whole rectangle leaves its payload. -/
theorem out3_eq (a0 : Vec F S4x8192x1088 .bf16) (a1 : Vec F S1024 .f32) (a2 : Vec F S4 .i32) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S4x1184x8192 .i8) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S4x1184x8192.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S4x8192x1088 .bf16) (a1 : Vec F S1024 .f32) (a2 : Vec F S4 .i32) : Vec F S4x8192x1024 .fp8e4m3 :=
  k0_pay6 (k0_pay21 a0 a1 a2) (k0_pay22 a0 a1 a2)

/-- The one store through the whole rectangle leaves its payload. -/
theorem out4_eq (a0 : Vec F S4x8192x1088 .bf16) (a1 : Vec F S1024 .f32) (a2 : Vec F S4 .i32) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S4x8192x1024 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4x8192x1024.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S4x8192x1088 .bf16) (a1 : Vec F S1024 .f32) (a2 : Vec F S4 .i32) : Vec F S4x8x8192 .f32 :=
  k0_pay2 (k0_pay22 a0 a1 a2)

/-- The one store through the whole rectangle leaves its payload. -/
theorem out5_eq (a0 : Vec F S4x8192x1088 .bf16) (a1 : Vec F S1024 .f32) (a2 : Vec F S4 .i32) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S4x8x8192 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S4x8x8192.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.ReferenceIdeal.Value

end
-- ==== Proof.Scalars.lean ====
module
/-
  What the kernel's body computes on one number: the word of a float32 value by a search for its leading power of two,
  the scale's word of a group, the byte of a code.  Each is the chain of scalar operations the printed body applies
  lane by lane.
-/
public import proofs.«01_k».proof.Proof.KernelIdealFrame
public import Idealize.ShloMosaic.Lib.Pipeline.ReadBack
public import Idealize.ShloMosaic.Lib.Pointwise
@[expose] public section
set_option maxRecDepth 16384
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- One halving step of the search for a leading power of two: divide by `2^s` when at least `2^s`. -/
def down (P I : BitVec 32) (y : EReal) : EReal :=
  Scalar.select (FloatOps.cmpf (F := Ideal) (φ := .f32) .oge y (FloatOps.ofBits .f32 P)) (FloatOps.mulf (F := Ideal) (φ := .f32) y (FloatOps.ofBits .f32 I)) y

/-- The count that goes with `down`. -/
def up (P s : BitVec 32) (y : EReal) (e : BitVec 32) : BitVec 32 :=
  Scalar.select (FloatOps.cmpf (F := Ideal) (φ := .f32) .oge y (FloatOps.ofBits .f32 P)) (Scalar.addi e s) e

theorem down_fold (y : EReal) (P I : BitVec 32) :
    Scalar.select (FloatOps.cmpf (F := Ideal) (φ := .f32) .oge y (FloatOps.ofBits .f32 P)) (FloatOps.mulf (F := Ideal) (φ := .f32) y (FloatOps.ofBits .f32 I)) y = down P I y := rfl

theorem up_fold (y : EReal) (e b P : BitVec 32) :
    Scalar.select (FloatOps.cmpf (F := Ideal) (φ := .f32) .oge y (FloatOps.ofBits .f32 P)) (Scalar.addi e b) e = up P b y e := rfl

/-- A magnitude below one is raised by `2^126` before the search. -/
def lift (m : EReal) : EReal := Scalar.select (FloatOps.cmpf (F := Ideal) (φ := .f32) .olt m (FloatOps.ofBits .f32 1065353216#32)) (FloatOps.mulf (F := Ideal) (φ := .f32) m (FloatOps.ofBits .f32 2122317824#32)) m
/-- The count the search starts from. -/
def lift0 (m : EReal) : BitVec 32 := Scalar.select (FloatOps.cmpf (F := Ideal) (φ := .f32) .olt m (FloatOps.ofBits .f32 1065353216#32)) 0#32 126#32

def y1 (m : EReal) : EReal := down 1602224128#32 528482304#32 (lift m)
def y2 (m : EReal) : EReal := down 1333788672#32 796917760#32 (y1 m)
def y3 (m : EReal) : EReal := down 1199570944#32 931135488#32 (y2 m)
def y4 (m : EReal) : EReal := down 1132462080#32 998244352#32 (y3 m)
def y5 (m : EReal) : EReal := down 1098907648#32 1031798784#32 (y4 m)
def y6 (m : EReal) : EReal := down 1082130432#32 1048576000#32 (y5 m)
def y7 (m : EReal) : EReal := down 1073741824#32 1056964608#32 (y6 m)
def e7 (m : EReal) : BitVec 32 :=
  up 1073741824#32 1#32 (y6 m) (up 1082130432#32 2#32 (y5 m) (up 1098907648#32 4#32 (y4 m) (up 1132462080#32 8#32 (y3 m)
    (up 1199570944#32 16#32 (y2 m) (up 1333788672#32 32#32 (y1 m) (up 1602224128#32 64#32 (lift m) (lift0 m)))))))

/-- The word of a magnitude: exponent count and fraction. -/
def magBits (m : EReal) : BitVec 32 :=
  Scalar.addi (Scalar.muli (e7 m) 8388608#32) (FloatOps.fptosi (F := Ideal) (φ := .f32) 32 (FloatOps.mulf (F := Ideal) (φ := .f32) (y7 m) (FloatOps.ofBits .f32 1258291200#32)))

/-- The word of an unsigned value, infinities and undefined values included. -/
def absBits (x : EReal) : BitVec 32 :=
  Scalar.select (FloatOps.cmpf (F := Ideal) (φ := .f32) .one x x) 2143289344#32 (Scalar.select (FloatOps.cmpf (F := Ideal) (φ := .f32) .ogt (FloatOps.absf (F := Ideal) (φ := .f32) x) (FloatOps.ofBits .f32 2139095039#32)) 2139095040#32
    (magBits (FloatOps.absf (F := Ideal) (φ := .f32) x)))

/-- The body's sign test: below zero, or a reciprocal below zero. -/
def signTest (x : EReal) : BitVec 1 :=
  Scalar.ori (FloatOps.cmpf (F := Ideal) (φ := .f32) .olt x (FloatOps.ofBits .f32 0#32))
    (FloatOps.cmpf (F := Ideal) (φ := .f32) .olt (FloatOps.divf (F := Ideal) (φ := .f32) (FloatOps.ofBits .f32 1065353216#32) x) (FloatOps.ofBits .f32 0#32))

/-- The word the body computes for a float32 value. -/
def f32Bits (x : EReal) : BitVec 32 := Scalar.select (signTest x) (Scalar.ori (absBits x) 2147483648#32) (absBits x)

/-- The scale's word for a group whose largest magnitude is `a`. -/
def scaleWord (a : EReal) : BitVec 32 :=
  let e := Scalar.andi (f32Bits (FloatOps.mulf (F := Ideal) (φ := .f32) a (FloatOps.ofBits .f32 991054117#32))) 2139095040#32
  Scalar.select (Scalar.ori (Scalar.ori (Scalar.cmpi .eq e 0#32) (Scalar.cmpi .eq e 2139095040#32)) (FloatOps.cmpf (F := Ideal) (φ := .f32) .oeq a (FloatOps.ofBits .f32 0#32))) 1065353216#32 (Scalar.addi e 8388608#32)

/-- The byte of an fp8 e4m3 code. -/
def fp8Byte (c : EReal) : BitVec 8 :=
  let y0 : EReal := FloatOps.mulf (F := Ideal) (φ := .f32) (FloatOps.absf (F := Ideal) (φ := .f32) c) (FloatOps.ofBits .f32 0x42800000#32)
  let y1 := down 0x43800000#32 0x3B800000#32 y0
  let y2 := down 0x41800000#32 0x3D800000#32 y1
  let y3 := down 0x40800000#32 0x3E800000#32 y2
  let y4 := down 0x40000000#32 0x3F000000#32 y3
  let e := up 0x40000000#32 8#32 y3 (up 0x40800000#32 16#32 y2 (up 0x41800000#32 32#32 y1 (up 0x43800000#32 64#32 y0 0#32)))
  let b := Scalar.addi e (FloatOps.fptosi (F := Ideal) (φ := .f32) 32 (FloatOps.mulf (F := Ideal) (φ := .f32) y4 (FloatOps.ofBits .f32 0x41000000#32)))
  let n := Scalar.select (FloatOps.cmpf (F := Ideal) (φ := .f32) .one c c) 127#32 b
  (Scalar.select (signTest c) (Scalar.addi n 128#32) n).setWidth 8

/-- The upper half of a float32 word. -/
def halfWord (x : EReal) : BitVec 16 := (IntOp.shrsi .vector (f32Bits x) 16#32).setWidth 16

theorem sel_at {s : Shape} {α : Type} (c : IVec s 1) (a b : s.Idx → α) (j) : select c a b j = Scalar.select (c j) (a j) (b j) := rfl
theorem cmpf_at {s : Shape} {φ : FTy} (p) (a b : FVec Ideal s φ) (j) : cmpf p a b j = FloatOps.cmpf p (a j) (b j) := rfl
theorem cmpi_at {s : Shape} {w : ℕ} (p) (a b : IVec s w) (j) : cmpi p a b j = Scalar.cmpi p (a j) (b j) := rfl
theorem mulf_at {s : Shape} {φ : FTy} (a b : FVec Ideal s φ) (j) : mulf a b j = FloatOps.mulf (a j) (b j) := rfl
theorem divf_at {s : Shape} {φ : FTy} (a b : FVec Ideal s φ) (j) : divf a b j = FloatOps.divf (a j) (b j) := rfl
theorem absf_at {s : Shape} {φ : FTy} (a : FVec Ideal s φ) (j) : absf a j = FloatOps.absf (a j) := rfl
theorem addi_at {s : Shape} {w : ℕ} (a b : IVec s w) (j) : addi a b j = Scalar.addi (a j) (b j) := rfl
theorem muli_at {s : Shape} {w : ℕ} (a b : IVec s w) (j) : muli a b j = Scalar.muli (a j) (b j) := rfl
theorem ori_at {s : Shape} {w : ℕ} (a b : IVec s w) (j) : ori a b j = Scalar.ori (a j) (b j) := rfl
theorem andi_at {s : Shape} {w : ℕ} (a b : IVec s w) (j) : andi a b j = Scalar.andi (a j) (b j) := rfl
theorem fptosi_at {s : Shape} {φ : FTy} (a : FVec Ideal s φ) (j) : fptosi 32 a j = FloatOps.fptosi 32 (a j) := rfl
theorem bc_at {s : Shape} {α : Type} (a : α) (j) : broadcast s a j = a := rfl

theorem trunci_at {s : Shape} {w : ℕ} (n : ℕ) (a : IVec s w) (h : n < w) (j) : trunci n a h j = (a j).setWidth n := rfl
theorem shrsi_at {s : Shape} {w : ℕ} (a b : IVec s w) (j) : shrsi a b j = IntOp.shrsi .vector (a j) (b j) := rfl
theorem sitofp_at {s : Shape} {w : ℕ} (φ : FTy) (a : IVec s w) (j) : (sitofp φ a : FVec Ideal s φ) j = FloatOps.sitofp φ (a j) := rfl

end Cert.KernelIdeal.Run
-- ==== Proof.Chunk.lean ====
module
/-
  One trip of the kernel's loop, at the ideal elements: every value the trip stores, read at one index, in terms of the
  block `X` it loads and the gain of a channel.  A trip handles 128 tokens; its lane `l` is the block's lane `128 k + l`.
-/
public import proofs.«01_k».proof.Proof.Scalars
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- A sum over the 1024 channels, as sixteen sums of the 64 blocks' terms. -/
theorem sum_1024 (f : ℕ → EReal) : ∑ c : Fin 1024, f c.val = ∑ x : Fin 16, ∑ b ∈ Finset.range 64, f (16 * b + x.val) := by
  simp only [Finset.sum_range]
  rw [Finset.sum_comm, ← Fintype.sum_prod_type', ← Equiv.sum_comp (finProdFinEquiv (m := 64) (n := 16))]
  refine Finset.sum_congr rfl fun p _ => ?_
  simp only [finProdFinEquiv_apply_val]
  congr 1; omega

/-- The block's element at channel `c`, lane `128 k + l`. -/
def xat (X : Vec Ideal S1x1088x1024 .bf16) (c t : ℕ) : EReal :=
  if h : c < 1088 ∧ t < 1024 then X (ix3 0 ⟨c, h.1⟩ ⟨t, h.2⟩) else 0

theorem xat_eq (X : Vec Ideal S1x1088x1024 .bf16) (a : Fin 1) (c : Fin 1088) (t : Fin 1024) :
    X (ix3 a c t) = xat X c.val t.val := by
  have : a = 0 := Subsingleton.elim _ _
  subst this
  simp [xat, c.2, t.2]

/-- The square of the block's element. -/
def sqx (X : Vec Ideal S1x1088x1024 .bf16) (c t : ℕ) : EReal := xat X c t * xat X c t

theorem sqx_eq (X : Vec Ideal S1x1088x1024 .bf16) (a : Fin 1) (c : Fin 1088) (t : Fin 1024) :
    X (ix3 a c t) * X (ix3 a c t) = sqx X c.val t.val := by rw [xat_eq X]; rfl

/-- One over the root mean square of token `t`'s channels. -/
def rr (X : Vec Ideal S1x1088x1024 .bf16) (t : ℕ) : EReal :=
  Ideal.rsqrt ((∑ c : Fin 1024, sqx X c.val t) * Ideal.ofBits .f32 981467136#32 + Ideal.ofBits .f32 897988541#32)

/-- A channel times its gain. -/
def zz (X : Vec Ideal S1x1088x1024 .bf16) (γ : ℕ → EReal) (c t : ℕ) : EReal := xat X c t * γ c

/-- The largest magnitude of a group's gained channels. -/
def top (X : Vec Ideal S1x1088x1024 .bf16) (γ : ℕ → EReal) (g t : ℕ) : EReal :=
  Finset.univ.fold max ⊥ fun x : Fin 128 => FloatOps.absf (F := Ideal) (φ := .f32) (zz X γ (128 * g + x.val) t)

/-- The scale's word of group `g` of token `t`. -/
def sword (X : Vec Ideal S1x1088x1024 .bf16) (γ : ℕ → EReal) (g t : ℕ) : BitVec 32 := scaleWord (top X γ g t * rr X t)

/-- The code of channel `c`: the gained channel times the scale's inverse times `rr`, clipped. -/
def code (X : Vec Ideal S1x1088x1024 .bf16) (γ : ℕ → EReal) (c t : ℕ) : EReal :=
  min (Ideal.ofBits .f32 0x43E00000#32) (max (Ideal.ofBits .f32 0xC3E00000#32)
    (zz X γ c t * (Ideal.ofBits .f32 (IntOp.subi 2130706432#32 (sword X γ (c / 128) t)) * rr X t)))

set_option maxHeartbeats 4000000 in
theorem r36_at (arg3 : Memref sig .tc .vmem S1x1088x1024 .bf16) (harg3 : arg3.IsWhole) (X : Vec Ideal S1x1088x1024 .bf16) (k : Fin k0_t1_loop.trips) (l : Fin 128) :
   trip_k0_t1.sl.r_36 arg3 (harg3.unread X) k (ix2 0 l) = rr X (128 * k.val + l.val) := by
  unfold rr
  rw [sum_1024 (fun c => sqx X c (128 * k.val + l.val))]
  unfold trip_k0_t1.sl.r_36 trip_k0_t1.sl.r_35 trip_k0_t1.sl.r_34 trip_k0_t1.sl.r_33 trip_k0_t1.sl.r_32 trip_k0_t1.sl.r_31 trip_k0_t1.sl.r_30 trip_k0_t1.sl.r_29 trip_k0_t1.sl.r_28 trip_k0_t1.sl.r_27 trip_k0_t1.sl.r_26 trip_k0_t1.sl.r_25 trip_k0_t1.sl.r_24 trip_k0_t1.sl.r_23 trip_k0_t1.sl.r_22 trip_k0_t1.sl.r_21 trip_k0_t1.sl.r_20 trip_k0_t1.sl.r_19 trip_k0_t1.sl.r_18 trip_k0_t1.sl.r_17 trip_k0_t1.sl.r_16 trip_k0_t1.sl.r_15 trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
  unfold_payloads
  pointwise [View.readAt_eq_ld, harg3.read_unread, sqx_eq X]
  refine congrArg (fun s => Ideal.rsqrt (s * _ + _)) (Finset.sum_congr rfl fun x _ => ?_)
  simp only [ k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, Finset.sum_range_succ, Finset.sum_range_zero, Matrix.cons_val_zero, Matrix.cons_val_one, Matrix.cons_val, Nat.reduceMul, zero_add, Nat.mul_zero]
  generalize sqx X = s
  generalize 128 * k.val + l.val = t
  abel

set_option maxHeartbeats 4000000 in
/-- The scale's word the body computes, from the eight largest magnitudes. -/
theorem pay184_at (v424 v436 v448 v460 v472 v484 v496 : FVec Ideal S1x128 .f32) (v502 v510 v513) (j) :
   k0_pay184 (F := Ideal) (k0_pay161 v424 v436 v448 v460 v472 v484 v496 v502 v510 v513) (k0_pay162 v424 v436 v448 v460 v472 v484 v496 v502 v510 v513) (k0_pay163 v424 v436 v448 v460 v472 v484 v496 v502 v510 v513)
   (k0_pay180 (k0_pay167 v424 v436 v448 v460 v472 v484 v496 v502 v510 v513) (k0_pay168 v424 v436 v448 v460 v472 v484 v496 v502 v510 v513) (k0_pay169 v424 v436 v448 v460 v472 v484 v496 v502 v510 v513) k0_pay170)
   (k0_pay181 (k0_pay167 v424 v436 v448 v460 v472 v484 v496 v502 v510 v513) (k0_pay169 v424 v436 v448 v460 v472 v484 v496 v502 v510 v513) k0_pay170)
   (k0_pay182 (k0_pay167 v424 v436 v448 v460 v472 v484 v496 v502 v510 v513) (k0_pay169 v424 v436 v448 v460 v472 v484 v496 v502 v510 v513) k0_pay170)
   (k0_pay183 (k0_pay167 v424 v436 v448 v460 v472 v484 v496 v502 v510 v513) (k0_pay168 v424 v436 v448 v460 v472 v484 v496 v502 v510 v513) (k0_pay169 v424 v436 v448 v460 v472 v484 v496 v502 v510 v513) k0_pay170) j = scaleWord (k0_pay161 v424 v436 v448 v460 v472 v484 v496 v502 v510 v513 j) := by
  unfold k0_pay184 k0_pay183 k0_pay182 k0_pay181 k0_pay180 k0_pay179 k0_pay178 k0_pay177 k0_pay176 k0_pay175 k0_pay174 k0_pay173 k0_pay172 k0_pay171 k0_pay170 k0_pay169 k0_pay168 k0_pay167 k0_pay166 k0_pay165 k0_pay164 k0_pay163 k0_pay162
  generalize k0_pay161 v424 v436 v448 v460 v472 v484 v496 v502 v510 v513 = A
  simp only [down_fold, up_fold, ↓sel_at, ↓cmpf_at, ↓cmpi_at, ↓mulf_at, ↓divf_at, ↓absf_at, ↓addi_at, ↓ori_at, ↓andi_at, ↓muli_at, ↓fptosi_at, ↓bc_at]
  rfl

variable (arg3 : Memref sig .tc .vmem S1x1088x1024 .bf16) (harg3 : arg3.IsWhole) (arg8 : Memref sig .tc .vmem S1024x128 .f32) (harg8 : arg8.IsWhole) (X : Vec Ideal S1x1088x1024 .bf16) (G : Vec Ideal S1024x128 .f32) (γ : ℕ → EReal) (hG : ∀ c l, G (ix2 c l) = γ c.val) (k : Fin k0_t1_loop.trips)

theorem ofBits_bot : Ideal.ofBits .f32 4286578688#32 = ⊥ := by
  simp [Ideal.ofBits, Ideal.ieee]

include hG in
set_option maxHeartbeats 4000000 in
/-- The eight groups' largest magnitudes, each times `rr`. -/
theorem r49_at (g : Fin 8) (l : Fin 128) : trip_k0_t1.sl.r_49 arg3 arg8 (harg3.unread X) (harg8.unread G) k (ix2 g l) = top X γ g.val (128 * k.val + l.val) * rr X (128 * k.val + l.val) := by
  unfold trip_k0_t1.sl.r_49 trip_k0_t1.sl.r_39 trip_k0_t1.sl.r_40 trip_k0_t1.sl.r_41 trip_k0_t1.sl.r_44 trip_k0_t1.sl.r_45 trip_k0_t1.sl.r_46 trip_k0_t1.sl.r_47 trip_k0_t1.sl.r_42 trip_k0_t1.sl.r_37
  unfold_payloads
  pointwise [View.readAt_eq_ld, harg3.read_unread, harg8.read_unread, xat_eq X, r36_at]
  simp only [hG, k0_off66_eq, k0_off67_eq, k0_off68_eq, k0_off69_eq, k0_off70_eq, k0_off71_eq, k0_off72_eq, k0_off73_eq, Matrix.cons_val_zero, Matrix.cons_val_one, Matrix.cons_val, ofBits_bot, top, zz]
  rcases g with ⟨g, hg⟩
  congr 1
  interval_cases g <;> simp

include hG in
/-- The scale's word. -/
theorem r59_at (g : Fin 8) (l : Fin 128) : trip_k0_t1.sl.r_59 arg3 arg8 (harg3.unread X) (harg8.unread G) k (ix2 g l) = sword X γ g.val (128 * k.val + l.val) := by
  unfold trip_k0_t1.sl.r_59 trip_k0_t1.sl.r_58 trip_k0_t1.sl.r_57 trip_k0_t1.sl.r_56 trip_k0_t1.sl.r_55 trip_k0_t1.sl.r_54 trip_k0_t1.sl.r_53 trip_k0_t1.sl.r_52 trip_k0_t1.sl.r_51 trip_k0_t1.sl.r_50 trip_k0_t1.sl.r_49
  rw [pay184_at]
  have h := r49_at (hG := hG) arg3 harg3 arg8 harg8 X G γ k g l
  unfold trip_k0_t1.sl.r_49 at h
  rw [h]
  rfl

include hG in
/-- Group 0's gained channels, read back. -/
theorem z0_at (arg12 : Memref sig .tc .vmem S1024x128 .f32) (c l : Fin 128) : trip_k0_t1.sl.v643 arg3 arg8 arg12 (harg3.unread X) (harg8.unread G) k (ix2 c l) = zz X γ (0 + c.val) (128 * k.val + l.val) := by
  unfold trip_k0_t1.sl.v643 trip_k0_t1.sl.HW_arg12_8
  rw [View.readCov_skip (h := by decide)]
  rw [View.readCov_skip (h := by decide)]
  rw [View.readCov_skip (h := by decide)]
  rw [View.readCov_skip (h := by decide)]
  rw [View.readCov_skip (h := by decide)]
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 1's gained channels, read back. -/
theorem z1_at (arg12 : Memref sig .tc .vmem S1024x128 .f32) (c l : Fin 128) : trip_k0_t1.sl.v718 arg3 arg8 arg12 (harg3.unread X) (harg8.unread G) k (ix2 c l) = zz X γ (128 + c.val) (128 * k.val + l.val) := by
  unfold trip_k0_t1.sl.v718 trip_k0_t1.sl.HW_arg12_8
  rw [View.readCov_skip (h := by decide)]
  rw [View.readCov_skip (h := by decide)]
  rw [View.readCov_skip (h := by decide)]
  rw [View.readCov_skip (h := by decide)]
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 2's gained channels, read back. -/
theorem z2_at (arg12 : Memref sig .tc .vmem S1024x128 .f32) (c l : Fin 128) : trip_k0_t1.sl.v793 arg3 arg8 arg12 (harg3.unread X) (harg8.unread G) k (ix2 c l) = zz X γ (256 + c.val) (128 * k.val + l.val) := by
  unfold trip_k0_t1.sl.v793 trip_k0_t1.sl.HW_arg12_8
  rw [View.readCov_skip (h := by decide)]
  rw [View.readCov_skip (h := by decide)]
  rw [View.readCov_skip (h := by decide)]
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 3's gained channels, read back. -/
theorem z3_at (arg12 : Memref sig .tc .vmem S1024x128 .f32) (c l : Fin 128) : trip_k0_t1.sl.v868 arg3 arg8 arg12 (harg3.unread X) (harg8.unread G) k (ix2 c l) = zz X γ (384 + c.val) (128 * k.val + l.val) := by
  unfold trip_k0_t1.sl.v868 trip_k0_t1.sl.HW_arg12_8
  rw [View.readCov_skip (h := by decide)]
  rw [View.readCov_skip (h := by decide)]
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 4's gained channels, read back. -/
theorem z4_at (arg12 : Memref sig .tc .vmem S1024x128 .f32) (c l : Fin 128) : trip_k0_t1.sl.v943 arg3 arg8 arg12 (harg3.unread X) (harg8.unread G) k (ix2 c l) = zz X γ (512 + c.val) (128 * k.val + l.val) := by
  unfold trip_k0_t1.sl.v943 trip_k0_t1.sl.HW_arg12_8
  rw [View.readCov_skip (h := by decide)]
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 5's gained channels, read back. -/
theorem z5_at (arg12 : Memref sig .tc .vmem S1024x128 .f32) (c l : Fin 128) : trip_k0_t1.sl.v1018 arg3 arg8 arg12 (harg3.unread X) (harg8.unread G) k (ix2 c l) = zz X γ (640 + c.val) (128 * k.val + l.val) := by
  unfold trip_k0_t1.sl.v1018 trip_k0_t1.sl.HW_arg12_8
  rw [View.readCov_skip (h := by decide)]
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 6's gained channels, read back. -/
theorem z6_at (arg12 : Memref sig .tc .vmem S1024x128 .f32) (c l : Fin 128) : trip_k0_t1.sl.v1093 arg3 arg8 arg12 (harg3.unread X) (harg8.unread G) k (ix2 c l) = zz X γ (768 + c.val) (128 * k.val + l.val) := by
  unfold trip_k0_t1.sl.v1093 trip_k0_t1.sl.HW_arg12_8
  rw [View.readCov_skip (h := by decide)]
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

include hG in
/-- Group 7's gained channels, read back. -/
theorem z7_at (arg12 : Memref sig .tc .vmem S1024x128 .f32) (c l : Fin 128) : trip_k0_t1.sl.v1168 arg3 arg8 arg12 (harg3.unread X) (harg8.unread G) k (ix2 c l) = zz X γ (896 + c.val) (128 * k.val + l.val) := by
  unfold trip_k0_t1.sl.v1168 trip_k0_t1.sl.HW_arg12_8
  rw [View.readCov_cons_toLoadRect]
  try unfold trip_k0_t1.sl.r_48
  try unfold trip_k0_t1.sl.r_47
  try unfold trip_k0_t1.sl.r_43
  try unfold trip_k0_t1.sl.r_42
  try unfold trip_k0_t1.sl.r_38
  try unfold trip_k0_t1.sl.r_37
  unfold_payloads
  pointwise [View.readAt_eq_ld, harg3.read_unread, harg8.read_unread, xat_eq X]
  simp only [hG, k0_off66_eq, k0_off67_eq, k0_off68_eq, k0_off69_eq, k0_off70_eq, k0_off71_eq, k0_off72_eq, k0_off73_eq, Matrix.cons_val_zero, Matrix.cons_val_one, Matrix.cons_val, zz, zero_add]

end Cert.KernelIdeal.Run
-- ==== Proof.ChunkCodes.lean ====
module
/-
  One trip of the kernel's loop, continued: the stored codes, scales and record rows at one index.
-/
public import proofs.«01_k».proof.Proof.Chunk
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

theorem subi_at {s : Shape} {w : ℕ} (a b : IVec s w) (j) : subi a b j = IntOp.subi (a j) (b j) := rfl
theorem bitsToFloat_at {s : Shape} (a : IVec s 32) (j) : (bitcastToFloat .f32 a : FVec Ideal s .f32) j = Ideal.ofBits .f32 (a j) := rfl

/-- The inverse scale's row times `rr`, at an index. -/
theorem pay187_at (v424 : FVec Ideal S1x128 .f32) (v627 : IVec S8x128 32) (g : Fin 8) (l : Fin 128) :
    k0_pay187 v424 v627 (ix2 g l) = Ideal.ofBits .f32 (IntOp.subi 2130706432#32 (v627 (ix2 g l))) * v424 (ix2 0 l) := by
  have h : broadcastTo S8x128 v424 broadcasts_S1x128_S8x128 (ix2 g l) = v424 (ix2 0 l) := by pointwise
  unfold k0_pay187
  rw [mulf_at, h, bitsToFloat_at, subi_at, bc_at]
  generalize IntOp.subi 2130706432#32 (v627 (ix2 g l)) = w
  rfl

/-- Group 0's codes, at an index. -/
theorem pay188_at (v424 : FVec Ideal S1x128 .f32) (v627 : IVec S8x128 32) (z : Vec Ideal S128x128 .f32) (c l : Fin 128) :
    k0_pay188 v424 v627 z (ix2 c l) = min (Ideal.ofBits .f32 0x43E00000#32) (max (Ideal.ofBits .f32 0xC3E00000#32) (z (ix2 c l) * (k0_pay187 v424 v627 (ix2 0 l)))) := by
  unfold k0_pay188
  pointwise

/-- Group 1's codes, at an index. -/
theorem pay199_at (w : FVec Ideal S8x128 .f32) (z : Vec Ideal S128x128 .f32) (c l : Fin 128) :
    k0_pay199 w z (ix2 c l) = min (Ideal.ofBits .f32 0x43E00000#32) (max (Ideal.ofBits .f32 0xC3E00000#32) (z (ix2 c l) * w (ix2 1 l))) := by
  unfold k0_pay199
  pointwise

/-- Group 2's codes, at an index. -/
theorem pay213_at (w : FVec Ideal S8x128 .f32) (z : Vec Ideal S128x128 .f32) (c l : Fin 128) :
    k0_pay213 w z (ix2 c l) = min (Ideal.ofBits .f32 0x43E00000#32) (max (Ideal.ofBits .f32 0xC3E00000#32) (z (ix2 c l) * w (ix2 2 l))) := by
  unfold k0_pay213
  pointwise

/-- Group 3's codes, at an index. -/
theorem pay220_at (w : FVec Ideal S8x128 .f32) (z : Vec Ideal S128x128 .f32) (c l : Fin 128) :
    k0_pay220 w z (ix2 c l) = min (Ideal.ofBits .f32 0x43E00000#32) (max (Ideal.ofBits .f32 0xC3E00000#32) (z (ix2 c l) * w (ix2 3 l))) := by
  unfold k0_pay220
  pointwise

/-- Group 4's codes, at an index. -/
theorem pay230_at (w : FVec Ideal S8x128 .f32) (z : Vec Ideal S128x128 .f32) (c l : Fin 128) :
    k0_pay230 w z (ix2 c l) = min (Ideal.ofBits .f32 0x43E00000#32) (max (Ideal.ofBits .f32 0xC3E00000#32) (z (ix2 c l) * w (ix2 4 l))) := by
  unfold k0_pay230
  pointwise

/-- Group 5's codes, at an index. -/
theorem pay241_at (w : FVec Ideal S8x128 .f32) (z : Vec Ideal S128x128 .f32) (c l : Fin 128) :
    k0_pay241 w z (ix2 c l) = min (Ideal.ofBits .f32 0x43E00000#32) (max (Ideal.ofBits .f32 0xC3E00000#32) (z (ix2 c l) * w (ix2 5 l))) := by
  unfold k0_pay241
  pointwise

/-- Group 6's codes, at an index. -/
theorem pay255_at (w : FVec Ideal S8x128 .f32) (z : Vec Ideal S128x128 .f32) (c l : Fin 128) :
    k0_pay255 w z (ix2 c l) = min (Ideal.ofBits .f32 0x43E00000#32) (max (Ideal.ofBits .f32 0xC3E00000#32) (z (ix2 c l) * w (ix2 6 l))) := by
  unfold k0_pay255
  pointwise

/-- Group 7's codes, at an index. -/
theorem pay262_at (w : FVec Ideal S8x128 .f32) (z : Vec Ideal S128x128 .f32) (c l : Fin 128) :
    k0_pay262 w z (ix2 c l) = min (Ideal.ofBits .f32 0x43E00000#32) (max (Ideal.ofBits .f32 0xC3E00000#32) (z (ix2 c l) * w (ix2 7 l))) := by
  unfold k0_pay262
  pointwise

variable (arg3 : Memref sig .tc .vmem S1x1088x1024 .bf16) (harg3 : arg3.IsWhole) (arg8 : Memref sig .tc .vmem S1024x128 .f32) (harg8 : arg8.IsWhole) (X : Vec Ideal S1x1088x1024 .bf16) (G : Vec Ideal S1024x128 .f32) (γ : ℕ → EReal) (hG : ∀ c l, G (ix2 c l) = γ c.val) (k : Fin k0_t1_loop.trips)

include hG in
/-- The scale. -/
theorem r60_at (g : Fin 8) (l : Fin 128) : trip_k0_t1.sl.r_60 arg3 arg8 (harg3.unread X) (harg8.unread G) k (ix3 0 g l) = Ideal.ofBits .f32 (sword X γ g.val (128 * k.val + l.val)) := by
  have e : trip_k0_t1.sl.r_60 arg3 arg8 (harg3.unread X) (harg8.unread G) k = shapeCast S1x8x128 (bitcastToFloat .f32 (trip_k0_t1.sl.r_59 arg3 arg8 (harg3.unread X) (harg8.unread G) k)) shapeCasts_S8x128_S1x8x128 := rfl
  rw [e, ← r59_at arg3 harg3 arg8 harg8 X G γ hG k g l]
  generalize trip_k0_t1.sl.r_59 arg3 arg8 (harg3.unread X) (harg8.unread G) k = w
  pointwise

include hG in
/-- The scale's inverse times `rr`. -/
theorem r61_at (g : Fin 8) (l : Fin 128) : trip_k0_t1.sl.r_61 arg3 arg8 (harg3.unread X) (harg8.unread G) k (ix2 g l) = Ideal.ofBits .f32 (IntOp.subi 2130706432#32 (sword X γ g.val (128 * k.val + l.val))) * rr X (128 * k.val + l.val) := by
  unfold trip_k0_t1.sl.r_61
  rw [pay187_at, r59_at arg3 harg3 arg8 harg8 X G γ hG, r36_at]

include hG in
/-- Group 0's codes. -/
theorem code0_at (arg12 : Memref sig .tc .vmem S1024x128 .f32) (c l : Fin 128) : trip_k0_t1.sl.r_62 arg3 arg8 arg12 (harg3.unread X) (harg8.unread G) k (ix2 c l) = code X γ (0 + c.val) (128 * k.val + l.val) := by
  have e : (0 + c.val) / 128 = 0 := by omega
  unfold trip_k0_t1.sl.r_62 code
  rw [pay188_at, z0_at arg3 harg3 arg8 harg8 X G γ hG, pay187_at, r36_at, r59_at arg3 harg3 arg8 harg8 X G γ hG, e]
  rfl

include hG in
/-- Group 1's codes. -/
theorem code1_at (arg12 : Memref sig .tc .vmem S1024x128 .f32) (c l : Fin 128) : trip_k0_t1.sl.r_67 arg3 arg8 arg12 (harg3.unread X) (harg8.unread G) k (ix2 c l) = code X γ (128 + c.val) (128 * k.val + l.val) := by
  have e : (128 + c.val) / 128 = 1 := by omega
  unfold trip_k0_t1.sl.r_67 code
  rw [pay199_at, z1_at arg3 harg3 arg8 harg8 X G γ hG, r61_at arg3 harg3 arg8 harg8 X G γ hG, e]
  rfl

include hG in
/-- Group 2's codes. -/
theorem code2_at (arg12 : Memref sig .tc .vmem S1024x128 .f32) (c l : Fin 128) : trip_k0_t1.sl.r_72 arg3 arg8 arg12 (harg3.unread X) (harg8.unread G) k (ix2 c l) = code X γ (256 + c.val) (128 * k.val + l.val) := by
  have e : (256 + c.val) / 128 = 2 := by omega
  unfold trip_k0_t1.sl.r_72 code
  rw [pay213_at, z2_at arg3 harg3 arg8 harg8 X G γ hG, r61_at arg3 harg3 arg8 harg8 X G γ hG, e]
  rfl

include hG in
/-- Group 3's codes. -/
theorem code3_at (arg12 : Memref sig .tc .vmem S1024x128 .f32) (c l : Fin 128) : trip_k0_t1.sl.r_76 arg3 arg8 arg12 (harg3.unread X) (harg8.unread G) k (ix2 c l) = code X γ (384 + c.val) (128 * k.val + l.val) := by
  have e : (384 + c.val) / 128 = 3 := by omega
  unfold trip_k0_t1.sl.r_76 code
  rw [pay220_at, z3_at arg3 harg3 arg8 harg8 X G γ hG, r61_at arg3 harg3 arg8 harg8 X G γ hG, e]
  rfl

include hG in
/-- Group 4's codes. -/
theorem code4_at (arg12 : Memref sig .tc .vmem S1024x128 .f32) (c l : Fin 128) : trip_k0_t1.sl.r_81 arg3 arg8 arg12 (harg3.unread X) (harg8.unread G) k (ix2 c l) = code X γ (512 + c.val) (128 * k.val + l.val) := by
  have e : (512 + c.val) / 128 = 4 := by omega
  unfold trip_k0_t1.sl.r_81 code
  rw [pay230_at, z4_at arg3 harg3 arg8 harg8 X G γ hG, r61_at arg3 harg3 arg8 harg8 X G γ hG, e]
  rfl

include hG in
/-- Group 5's codes. -/
theorem code5_at (arg12 : Memref sig .tc .vmem S1024x128 .f32) (c l : Fin 128) : trip_k0_t1.sl.r_86 arg3 arg8 arg12 (harg3.unread X) (harg8.unread G) k (ix2 c l) = code X γ (640 + c.val) (128 * k.val + l.val) := by
  have e : (640 + c.val) / 128 = 5 := by omega
  unfold trip_k0_t1.sl.r_86 code
  rw [pay241_at, z5_at arg3 harg3 arg8 harg8 X G γ hG, r61_at arg3 harg3 arg8 harg8 X G γ hG, e]
  rfl

include hG in
/-- Group 6's codes. -/
theorem code6_at (arg12 : Memref sig .tc .vmem S1024x128 .f32) (c l : Fin 128) : trip_k0_t1.sl.r_91 arg3 arg8 arg12 (harg3.unread X) (harg8.unread G) k (ix2 c l) = code X γ (768 + c.val) (128 * k.val + l.val) := by
  have e : (768 + c.val) / 128 = 6 := by omega
  unfold trip_k0_t1.sl.r_91 code
  rw [pay255_at, z6_at arg3 harg3 arg8 harg8 X G γ hG, r61_at arg3 harg3 arg8 harg8 X G γ hG, e]
  rfl

include hG in
/-- Group 7's codes. -/
theorem code7_at (arg12 : Memref sig .tc .vmem S1024x128 .f32) (c l : Fin 128) : trip_k0_t1.sl.r_95 arg3 arg8 arg12 (harg3.unread X) (harg8.unread G) k (ix2 c l) = code X γ (896 + c.val) (128 * k.val + l.val) := by
  have e : (896 + c.val) / 128 = 7 := by omega
  unfold trip_k0_t1.sl.r_95 code
  rw [pay262_at, z7_at arg3 harg3 arg8 harg8 X G γ hG, r61_at arg3 harg3 arg8 harg8 X G γ hG, e]
  rfl

end Cert.KernelIdeal.Run
-- ==== Proof.ChunkBytes.lean ====
module
/-
  One trip of the kernel's loop, continued: the code bytes of the record rows, and every stored piece at one index.
-/
public import proofs.«01_k».proof.Proof.ChunkCodes
public import Idealize.ShloMosaic.Lib.BitcastPair
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- Words read as bytes: byte `q % 4` of row `q / 4`. -/
theorem bitcast_32_8_at {R r n : Nat} (x : (⟨2, ![r, n]⟩ : Shape).Idx → BitVec 32)
    (h : (⟨2, ![r, n]⟩ : Shape).Bitcasts 32 ⟨2, ![R, n]⟩ 8) (q : Fin R) (l : Fin n) (hq : q.val / 4 < r) :
    bitcast ⟨2, ![R, n]⟩ 8 x h (ix2 q l) = ((x (ix2 ⟨q.val / 4, hq⟩ l)) >>> (8 * (q.val % 4))).setWidth 8 := by
  apply BitVec.eq_of_getLsbD_eq
  intro i hi
  rw [bitcast_getLsbD x h _ i hi (by decide)]
  have hrow : (⟨2, ![R, n]⟩ : Shape).row (ix2 q l) = q.val := rfl
  have e1 : ((⟨2, ![R, n]⟩ : Shape).row (ix2 q l) * 8 + i) / 32 = q.val / 4 := by rw [hrow]; omega
  have e2 : ((⟨2, ![R, n]⟩ : Shape).row (ix2 q l) * 8 + i) % 32 = 8 * (q.val % 4) + i := by rw [hrow]; omega
  rw [e2, h.srcIdx_congr _ e1 _ (by intro a ha; have : a = ⟨0, Nat.zero_lt_two⟩ := Fin.ext (by simpa using ha)
                                    subst this; exact hq)]
  simp only [BitVec.getLsbD_setWidth, BitVec.getLsbD_ushiftRight, hi, decide_true, Bool.true_and]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem sc_at {α : Type} (v : S128x128.Idx → α) (c l : Fin 128) :
    shapeCast S1x128x128 v shapeCasts_S128x128_S1x128x128 (ix3 0 c l) = v (ix2 c l) := by pointwise

theorem ext_at (v : FVec Ideal S128x128 .fp8e4m3) (j) : (extf .f32 v bitsLt_fp8e4m3_f32) j = v j := rfl

/-- Group 0's code bytes, from its codes. -/
theorem pay197_at (v424 : FVec Ideal S1x128 .f32) (v627 : IVec S8x128 32) (z : Vec Ideal S128x128 .f32) (c l : Fin 128) :
    k0_pay197 (k0_pay189 v424 v627 z) (k0_pay194 v424 v627 z) (k0_pay195 v424 v627 z) (k0_pay196 v424 v627 z) (ix3 0 c l) = fp8Byte (k0_pay188 v424 v627 z (ix2 c l)) := by
  unfold k0_pay197 k0_pay196 k0_pay195 k0_pay194 k0_pay193 k0_pay192 k0_pay191 k0_pay190 k0_pay189
  generalize k0_pay188 v424 v627 z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 0's stored codes, tokens by channels. -/
theorem pay198_at (v : FVec Ideal S128x128 .fp8e4m3) (c l : Fin 128) : k0_pay198 v (ix3 0 l c) = v (ix2 c l) := by
  unfold k0_pay198
  pointwise

/-- Group 1's code bytes, from its codes. -/
theorem pay211_at (w : FVec Ideal S8x128 .f32) (z : Vec Ideal S128x128 .f32) (c l : Fin 128) :
    k0_pay211 (k0_pay200 w z) (k0_pay208 w z) (k0_pay209 w z) (k0_pay210 w z) (ix3 0 c l) = fp8Byte (k0_pay199 w z (ix2 c l)) := by
  unfold k0_pay211 k0_pay210 k0_pay209 k0_pay208 k0_pay207 k0_pay206 k0_pay205 k0_pay204 k0_pay203 k0_pay202 k0_pay201 k0_pay200
  generalize k0_pay199 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 1's stored codes, tokens by channels. -/
theorem pay212_at (v : FVec Ideal S128x128 .fp8e4m3) (c l : Fin 128) : k0_pay212 v (ix3 0 l c) = v (ix2 c l) := by
  unfold k0_pay212
  pointwise

/-- Group 2's code bytes, from its codes. -/
theorem pay218_at (w : FVec Ideal S8x128 .f32) (z : Vec Ideal S128x128 .f32) (c l : Fin 128) :
    k0_pay218 (k0_pay214 w z) (k0_pay216 (k0_pay214 w z) (k0_pay215 w z)) k0_pay217 (ix3 0 c l) = fp8Byte (k0_pay213 w z (ix2 c l)) := by
  unfold k0_pay218 k0_pay217 k0_pay216 k0_pay215 k0_pay214
  generalize k0_pay213 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 2's stored codes, tokens by channels. -/
theorem pay219_at (v : FVec Ideal S128x128 .fp8e4m3) (c l : Fin 128) : k0_pay219 v (ix3 0 l c) = v (ix2 c l) := by
  unfold k0_pay219
  pointwise

/-- Group 3's code bytes, from its codes. -/
theorem pay228_at (w : FVec Ideal S8x128 .f32) (z : Vec Ideal S128x128 .f32) (c l : Fin 128) :
    k0_pay228 (k0_pay227 (k0_pay221 w z) k0_pay223 (k0_pay224 w z) (k0_pay225 w z) k0_pay226) (ix3 0 c l) = fp8Byte (k0_pay220 w z (ix2 c l)) := by
  unfold k0_pay228 k0_pay227 k0_pay226 k0_pay225 k0_pay224 k0_pay223 k0_pay222 k0_pay221
  generalize k0_pay220 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 3's stored codes, tokens by channels. -/
theorem pay229_at (v : FVec Ideal S128x128 .fp8e4m3) (c l : Fin 128) : k0_pay229 v (ix3 0 l c) = v (ix2 c l) := by
  unfold k0_pay229
  pointwise

/-- Group 4's code bytes, from its codes. -/
theorem pay239_at (w : FVec Ideal S8x128 .f32) (z : Vec Ideal S128x128 .f32) (c l : Fin 128) :
    k0_pay239 (k0_pay231 w z) (k0_pay236 w z) (k0_pay237 w z) (k0_pay238 w z) (ix3 0 c l) = fp8Byte (k0_pay230 w z (ix2 c l)) := by
  unfold k0_pay239 k0_pay238 k0_pay237 k0_pay236 k0_pay235 k0_pay234 k0_pay233 k0_pay232 k0_pay231
  generalize k0_pay230 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 4's stored codes, tokens by channels. -/
theorem pay240_at (v : FVec Ideal S128x128 .fp8e4m3) (c l : Fin 128) : k0_pay240 v (ix3 0 l c) = v (ix2 c l) := by
  unfold k0_pay240
  pointwise

/-- Group 5's code bytes, from its codes. -/
theorem pay253_at (w : FVec Ideal S8x128 .f32) (z : Vec Ideal S128x128 .f32) (c l : Fin 128) :
    k0_pay253 (k0_pay242 w z) (k0_pay250 w z) (k0_pay251 w z) (k0_pay252 w z) (ix3 0 c l) = fp8Byte (k0_pay241 w z (ix2 c l)) := by
  unfold k0_pay253 k0_pay252 k0_pay251 k0_pay250 k0_pay249 k0_pay248 k0_pay247 k0_pay246 k0_pay245 k0_pay244 k0_pay243 k0_pay242
  generalize k0_pay241 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 5's stored codes, tokens by channels. -/
theorem pay254_at (v : FVec Ideal S128x128 .fp8e4m3) (c l : Fin 128) : k0_pay254 v (ix3 0 l c) = v (ix2 c l) := by
  unfold k0_pay254
  pointwise

/-- Group 6's code bytes, from its codes. -/
theorem pay260_at (w : FVec Ideal S8x128 .f32) (z : Vec Ideal S128x128 .f32) (c l : Fin 128) :
    k0_pay260 (k0_pay256 w z) (k0_pay258 (k0_pay256 w z) (k0_pay257 w z)) k0_pay259 (ix3 0 c l) = fp8Byte (k0_pay255 w z (ix2 c l)) := by
  unfold k0_pay260 k0_pay259 k0_pay258 k0_pay257 k0_pay256
  generalize k0_pay255 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 6's stored codes, tokens by channels. -/
theorem pay261_at (v : FVec Ideal S128x128 .fp8e4m3) (c l : Fin 128) : k0_pay261 v (ix3 0 l c) = v (ix2 c l) := by
  unfold k0_pay261
  pointwise

/-- Group 7's code bytes, from its codes. -/
theorem pay270_at (w : FVec Ideal S8x128 .f32) (z : Vec Ideal S128x128 .f32) (c l : Fin 128) :
    k0_pay270 (k0_pay269 (k0_pay263 w z) k0_pay265 (k0_pay266 w z) (k0_pay267 w z) k0_pay268) (ix3 0 c l) = fp8Byte (k0_pay262 w z (ix2 c l)) := by
  unfold k0_pay270 k0_pay269 k0_pay268 k0_pay267 k0_pay266 k0_pay265 k0_pay264 k0_pay263
  generalize k0_pay262 w z = A
  simp only [sc_at, ↓sel_at, ↓cmpf_at, ↓cmpi_at, ↓mulf_at, ↓divf_at, ↓absf_at, ↓addi_at, ↓ori_at, ↓andi_at, ↓muli_at, ↓fptosi_at, ↓bc_at, ↓trunci_at, ↓ext_at, down_fold, up_fold]
  rfl

/-- Group 7's stored codes, tokens by channels. -/
theorem pay271_at (v : FVec Ideal S128x128 .fp8e4m3) (c l : Fin 128) : k0_pay271 v (ix3 0 l c) = v (ix2 c l) := by
  unfold k0_pay271
  pointwise

/-- The stored scale bytes: row `4 g + b` is byte `b` of group `g`'s word. -/
theorem pay186_at (v : IVec S8x128 32) (q : Fin 32) (l : Fin 128) :
    k0_pay186 v (ix3 0 q l) = ((v (ix2 ⟨q.val / 4, by omega⟩ l)) >>> (8 * (q.val % 4))).setWidth 8 := by
  unfold k0_pay186
  pointwise
  exact bitcast_32_8_at v _ q l _

variable (arg3 : Memref sig .tc .vmem S1x1088x1024 .bf16) (harg3 : arg3.IsWhole) (arg8 : Memref sig .tc .vmem S1024x128 .f32) (harg8 : arg8.IsWhole) (X : Vec Ideal S1x1088x1024 .bf16) (G : Vec Ideal S1024x128 .f32) (γ : ℕ → EReal) (hG : ∀ c l, G (ix2 c l) = γ c.val) (k : Fin k0_t1_loop.trips)

include hG in
/-- Group 0's code bytes. -/
theorem byte0_at (arg12 : Memref sig .tc .vmem S1024x128 .f32) (c l : Fin 128) :
    k0_pay197 (trip_k0_t1.sl.r_63 arg3 arg8 arg12 (harg3.unread X) (harg8.unread G) k) (trip_k0_t1.sl.r_64 arg3 arg8 arg12 (harg3.unread X) (harg8.unread G) k) (trip_k0_t1.sl.r_65 arg3 arg8 arg12 (harg3.unread X) (harg8.unread G) k) (trip_k0_t1.sl.r_66 arg3 arg8 arg12 (harg3.unread X) (harg8.unread G) k) (ix3 0 c l) = fp8Byte (code X γ (0 + c.val) (128 * k.val + l.val)) := by
  rw [← code0_at arg3 harg3 arg8 harg8 X G γ hG k arg12]
  unfold trip_k0_t1.sl.r_63 trip_k0_t1.sl.r_64 trip_k0_t1.sl.r_65 trip_k0_t1.sl.r_66 trip_k0_t1.sl.r_62
  rw [pay197_at]

include hG in
/-- Group 0's stored codes. -/
theorem store0_at (arg12 : Memref sig .tc .vmem S1024x128 .f32) (c l : Fin 128) :
    k0_pay198 (trip_k0_t1.sl.r_62 arg3 arg8 arg12 (harg3.unread X) (harg8.unread G) k) (ix3 0 l c) = code X γ (0 + c.val) (128 * k.val + l.val) := by
  rw [pay198_at, code0_at arg3 harg3 arg8 harg8 X G γ hG k arg12]

include hG in
/-- Group 1's code bytes. -/
theorem byte1_at (arg12 : Memref sig .tc .vmem S1024x128 .f32) (c l : Fin 128) :
    k0_pay211 (trip_k0_t1.sl.r_68 arg3 arg8 arg12 (harg3.unread X) (harg8.unread G) k) (trip_k0_t1.sl.r_69 arg3 arg8 arg12 (harg3.unread X) (harg8.unread G) k) (trip_k0_t1.sl.r_70 arg3 arg8 arg12 (harg3.unread X) (harg8.unread G) k) (trip_k0_t1.sl.r_71 arg3 arg8 arg12 (harg3.unread X) (harg8.unread G) k) (ix3 0 c l) = fp8Byte (code X γ (128 + c.val) (128 * k.val + l.val)) := by
  rw [← code1_at arg3 harg3 arg8 harg8 X G γ hG k arg12]
  unfold trip_k0_t1.sl.r_68 trip_k0_t1.sl.r_69 trip_k0_t1.sl.r_70 trip_k0_t1.sl.r_71 trip_k0_t1.sl.r_67
  rw [pay211_at]

include hG in
/-- Group 1's stored codes. -/
theorem store1_at (arg12 : Memref sig .tc .vmem S1024x128 .f32) (c l : Fin 128) :
    k0_pay212 (trip_k0_t1.sl.r_67 arg3 arg8 arg12 (harg3.unread X) (harg8.unread G) k) (ix3 0 l c) = code X γ (128 + c.val) (128 * k.val + l.val) := by
  rw [pay212_at, code1_at arg3 harg3 arg8 harg8 X G γ hG k arg12]

include hG in
/-- Group 2's code bytes. -/
theorem byte2_at (arg12 : Memref sig .tc .vmem S1024x128 .f32) (c l : Fin 128) :
    k0_pay218 (trip_k0_t1.sl.r_73 arg3 arg8 arg12 (harg3.unread X) (harg8.unread G) k) (trip_k0_t1.sl.r_75 arg3 arg8 arg12 (harg3.unread X) (harg8.unread G) k) k0_pay217 (ix3 0 c l) = fp8Byte (code X γ (256 + c.val) (128 * k.val + l.val)) := by
  rw [← code2_at arg3 harg3 arg8 harg8 X G γ hG k arg12]
  unfold trip_k0_t1.sl.r_75 trip_k0_t1.sl.r_73 trip_k0_t1.sl.r_74 trip_k0_t1.sl.r_72
  rw [pay218_at]

include hG in
/-- Group 2's stored codes. -/
theorem store2_at (arg12 : Memref sig .tc .vmem S1024x128 .f32) (c l : Fin 128) :
    k0_pay219 (trip_k0_t1.sl.r_72 arg3 arg8 arg12 (harg3.unread X) (harg8.unread G) k) (ix3 0 l c) = code X γ (256 + c.val) (128 * k.val + l.val) := by
  rw [pay219_at, code2_at arg3 harg3 arg8 harg8 X G γ hG k arg12]

include hG in
/-- Group 3's code bytes. -/
theorem byte3_at (arg12 : Memref sig .tc .vmem S1024x128 .f32) (c l : Fin 128) :
    k0_pay228 (trip_k0_t1.sl.r_80 arg3 arg8 arg12 (harg3.unread X) (harg8.unread G) k) (ix3 0 c l) = fp8Byte (code X γ (384 + c.val) (128 * k.val + l.val)) := by
  rw [← code3_at arg3 harg3 arg8 harg8 X G γ hG k arg12]
  unfold trip_k0_t1.sl.r_80 trip_k0_t1.sl.r_77 trip_k0_t1.sl.r_78 trip_k0_t1.sl.r_79 trip_k0_t1.sl.r_76
  rw [pay228_at]

include hG in
/-- Group 3's stored codes. -/
theorem store3_at (arg12 : Memref sig .tc .vmem S1024x128 .f32) (c l : Fin 128) :
    k0_pay229 (trip_k0_t1.sl.r_76 arg3 arg8 arg12 (harg3.unread X) (harg8.unread G) k) (ix3 0 l c) = code X γ (384 + c.val) (128 * k.val + l.val) := by
  rw [pay229_at, code3_at arg3 harg3 arg8 harg8 X G γ hG k arg12]

include hG in
/-- Group 4's code bytes. -/
theorem byte4_at (arg12 : Memref sig .tc .vmem S1024x128 .f32) (c l : Fin 128) :
    k0_pay239 (trip_k0_t1.sl.r_82 arg3 arg8 arg12 (harg3.unread X) (harg8.unread G) k) (trip_k0_t1.sl.r_83 arg3 arg8 arg12 (harg3.unread X) (harg8.unread G) k) (trip_k0_t1.sl.r_84 arg3 arg8 arg12 (harg3.unread X) (harg8.unread G) k) (trip_k0_t1.sl.r_85 arg3 arg8 arg12 (harg3.unread X) (harg8.unread G) k) (ix3 0 c l) = fp8Byte (code X γ (512 + c.val) (128 * k.val + l.val)) := by
  rw [← code4_at arg3 harg3 arg8 harg8 X G γ hG k arg12]
  unfold trip_k0_t1.sl.r_82 trip_k0_t1.sl.r_83 trip_k0_t1.sl.r_84 trip_k0_t1.sl.r_85 trip_k0_t1.sl.r_81
  rw [pay239_at]

include hG in
/-- Group 4's stored codes. -/
theorem store4_at (arg12 : Memref sig .tc .vmem S1024x128 .f32) (c l : Fin 128) :
    k0_pay240 (trip_k0_t1.sl.r_81 arg3 arg8 arg12 (harg3.unread X) (harg8.unread G) k) (ix3 0 l c) = code X γ (512 + c.val) (128 * k.val + l.val) := by
  rw [pay240_at, code4_at arg3 harg3 arg8 harg8 X G γ hG k arg12]

include hG in
/-- Group 5's code bytes. -/
theorem byte5_at (arg12 : Memref sig .tc .vmem S1024x128 .f32) (c l : Fin 128) :
    k0_pay253 (trip_k0_t1.sl.r_87 arg3 arg8 arg12 (harg3.unread X) (harg8.unread G) k) (trip_k0_t1.sl.r_88 arg3 arg8 arg12 (harg3.unread X) (harg8.unread G) k) (trip_k0_t1.sl.r_89 arg3 arg8 arg12 (harg3.unread X) (harg8.unread G) k) (trip_k0_t1.sl.r_90 arg3 arg8 arg12 (harg3.unread X) (harg8.unread G) k) (ix3 0 c l) = fp8Byte (code X γ (640 + c.val) (128 * k.val + l.val)) := by
  rw [← code5_at arg3 harg3 arg8 harg8 X G γ hG k arg12]
  unfold trip_k0_t1.sl.r_87 trip_k0_t1.sl.r_88 trip_k0_t1.sl.r_89 trip_k0_t1.sl.r_90 trip_k0_t1.sl.r_86
  rw [pay253_at]

include hG in
/-- Group 5's stored codes. -/
theorem store5_at (arg12 : Memref sig .tc .vmem S1024x128 .f32) (c l : Fin 128) :
    k0_pay254 (trip_k0_t1.sl.r_86 arg3 arg8 arg12 (harg3.unread X) (harg8.unread G) k) (ix3 0 l c) = code X γ (640 + c.val) (128 * k.val + l.val) := by
  rw [pay254_at, code5_at arg3 harg3 arg8 harg8 X G γ hG k arg12]

include hG in
/-- Group 6's code bytes. -/
theorem byte6_at (arg12 : Memref sig .tc .vmem S1024x128 .f32) (c l : Fin 128) :
    k0_pay260 (trip_k0_t1.sl.r_92 arg3 arg8 arg12 (harg3.unread X) (harg8.unread G) k) (trip_k0_t1.sl.r_94 arg3 arg8 arg12 (harg3.unread X) (harg8.unread G) k) k0_pay259 (ix3 0 c l) = fp8Byte (code X γ (768 + c.val) (128 * k.val + l.val)) := by
  rw [← code6_at arg3 harg3 arg8 harg8 X G γ hG k arg12]
  unfold trip_k0_t1.sl.r_94 trip_k0_t1.sl.r_92 trip_k0_t1.sl.r_93 trip_k0_t1.sl.r_91
  rw [pay260_at]

include hG in
/-- Group 6's stored codes. -/
theorem store6_at (arg12 : Memref sig .tc .vmem S1024x128 .f32) (c l : Fin 128) :
    k0_pay261 (trip_k0_t1.sl.r_91 arg3 arg8 arg12 (harg3.unread X) (harg8.unread G) k) (ix3 0 l c) = code X γ (768 + c.val) (128 * k.val + l.val) := by
  rw [pay261_at, code6_at arg3 harg3 arg8 harg8 X G γ hG k arg12]

include hG in
/-- Group 7's code bytes. -/
theorem byte7_at (arg12 : Memref sig .tc .vmem S1024x128 .f32) (c l : Fin 128) :
    k0_pay270 (trip_k0_t1.sl.r_99 arg3 arg8 arg12 (harg3.unread X) (harg8.unread G) k) (ix3 0 c l) = fp8Byte (code X γ (896 + c.val) (128 * k.val + l.val)) := by
  rw [← code7_at arg3 harg3 arg8 harg8 X G γ hG k arg12]
  unfold trip_k0_t1.sl.r_99 trip_k0_t1.sl.r_96 trip_k0_t1.sl.r_97 trip_k0_t1.sl.r_98 trip_k0_t1.sl.r_95
  rw [pay270_at]

include hG in
/-- Group 7's stored codes. -/
theorem store7_at (arg12 : Memref sig .tc .vmem S1024x128 .f32) (c l : Fin 128) :
    k0_pay271 (trip_k0_t1.sl.r_95 arg3 arg8 arg12 (harg3.unread X) (harg8.unread G) k) (ix3 0 l c) = code X γ (896 + c.val) (128 * k.val + l.val) := by
  rw [pay271_at, code7_at arg3 harg3 arg8 harg8 X G γ hG k arg12]

end Cert.KernelIdeal.Run
-- ==== Proof.ChunkRope.lean ====
module
/-
  One trip of the kernel's loop, concluded: the rotated rope channels and their two bytes.
-/
public import proofs.«01_k».proof.Proof.ChunkBytes
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- The tables the rotation reads, as functions: the frequency and its two parts, the cosine and sine of the sequence
    offset, the cosine and sine of the token's place in its block. -/
structure Tables where
  freq : ℕ → EReal
  head : ℕ → EReal
  rest : ℕ → EReal
  farC : ℕ → EReal
  farS : ℕ → EReal
  nearC : ℕ → ℕ → EReal
  nearS : ℕ → ℕ → EReal

/-- A token's position as a number: the block's first position plus its place. -/
def place (first : BitVec 32) (t : ℕ) : EReal := FloatOps.sitofp (F := Ideal) .f32 (first + BitVec.ofNat 32 t)

/-- What the rounded parts of the frequency leave of the angle. -/
def over (T : Tables) (first : BitVec 32) (i t : ℕ) : EReal :=
  place first t * T.freq i - place first t * T.head i - place first t * T.rest i
def coarseC (T : Tables) (i t : ℕ) : EReal := T.farC i * T.nearC i t - T.farS i * T.nearS i t
def coarseS (T : Tables) (i t : ℕ) : EReal := T.farS i * T.nearC i t + T.farC i * T.nearS i t
def fineC (T : Tables) (first : BitVec 32) (i t : ℕ) : EReal := coarseC T i t - over T first i t * coarseS T i t
def fineS (T : Tables) (first : BitVec 32) (i t : ℕ) : EReal := coarseS T i t + over T first i t * coarseC T i t

/-- The rotated rope channel `j` of lane `t`. -/
def turned (X : Vec Ideal S1x1088x1024 .bf16) (T : Tables) (first : BitVec 32) (j t : ℕ) : EReal :=
  if j < 32 then xat X (1024 + j) t * fineC T first j t - xat X (1056 + j) t * fineS T first j t
  else xat X (1024 + j) t * fineC T first (j - 32) t + xat X (992 + j) t * fineS T first (j - 32) t

theorem pay272_at (a b : BitVec 32) (A B C : Vec Ideal S1x32x128 .f32) (i : Fin 32) (l : Fin 128) :
    k0_pay272 a b A B C (ix2 i l) =
      FloatOps.sitofp (F := Ideal) .f32 (IntOp.addi (BitVec.ofNat 32 l.val) (IntOp.addi a b)) * A (ix3 0 i l)
        - FloatOps.sitofp (F := Ideal) .f32 (IntOp.addi (BitVec.ofNat 32 l.val) (IntOp.addi a b)) * B (ix3 0 i l)
        - FloatOps.sitofp (F := Ideal) .f32 (IntOp.addi (BitVec.ofNat 32 l.val) (IntOp.addi a b)) * C (ix3 0 i l) := by
  unfold k0_pay272
  pointwise
  rfl

theorem pay275_at (a b : FVec Ideal S32x128 .f32) (A B : Vec Ideal S1x32x128 .f32) (i : Fin 32) (l : Fin 128) :
    k0_pay275 a b A B (ix2 i l) = a (ix2 i l) * A (ix3 0 i l) - b (ix2 i l) * B (ix3 0 i l) := by
  unfold k0_pay275 k0_pay274 k0_pay273
  pointwise

theorem pay276_at (a b : FVec Ideal S32x128 .f32) (A B : Vec Ideal S1x32x128 .f32) (i : Fin 32) (l : Fin 128) :
    k0_pay276 a b A B (ix2 i l) = b (ix2 i l) * A (ix3 0 i l) + a (ix2 i l) * B (ix3 0 i l) := by
  unfold k0_pay276 k0_pay274 k0_pay273
  pointwise

theorem pay277_lo (o c s : FVec Ideal S32x128 .f32) (x : Vec Ideal S1x64x128 .bf16) (i : Fin 32) (l : Fin 128) :
    k0_pay277 o c s x (ix2 ⟨i.val, by omega⟩ l) =
      x (ix3 0 ⟨i.val, by omega⟩ l) * (c (ix2 i l) - o (ix2 i l) * s (ix2 i l))
        - x (ix3 0 ⟨32 + i.val, by omega⟩ l) * (s (ix2 i l) + o (ix2 i l) * c (ix2 i l)) := by
  unfold k0_pay277
  pointwise

theorem pay277_hi (o c s : FVec Ideal S32x128 .f32) (x : Vec Ideal S1x64x128 .bf16) (i : Fin 32) (l : Fin 128) :
    k0_pay277 o c s x (ix2 ⟨32 + i.val, by omega⟩ l) =
      x (ix3 0 ⟨32 + i.val, by omega⟩ l) * (c (ix2 i l) - o (ix2 i l) * s (ix2 i l))
        + x (ix3 0 ⟨i.val, by omega⟩ l) * (s (ix2 i l) + o (ix2 i l) * c (ix2 i l)) := by
  unfold k0_pay277
  pointwise

/-- Half-words read as words and then as bytes. -/
theorem bitcast_16_32_8_at (x : S64x128.Idx → BitVec 16) (q l : Fin 128) :
    bitcast S128x128 8 (bitcast S32x128 32 x bitcasts_S64x128_w16_S32x128_w32) bitcasts_S32x128_w32_S128x128_w8 (ix2 q l)
      = ((x (ix2 ⟨q.val / 2, by omega⟩ l)) >>> (8 * (q.val % 2))).setWidth 8 := by
  have hw := bitcast_32_8_at (R := 128) (r := 32) (bitcast S32x128 32 x bitcasts_S64x128_w16_S32x128_w32) bitcasts_S32x128_w32_S128x128_w8 q l (by omega)
  refine hw.trans ?_
  apply BitVec.eq_of_getLsbD_eq
  intro i hi
  simp only [BitVec.getLsbD_setWidth, BitVec.getLsbD_ushiftRight, hi, decide_true, Bool.true_and]
  rw [bitcast_getLsbD x _ _ _ (by omega) (by decide)]
  have hrow : S32x128.row (ix2 (⟨q.val / 4, by omega⟩ : Fin 32) l) = q.val / 4 := rfl
  have e1 : (S32x128.row (ix2 (⟨q.val / 4, by omega⟩ : Fin 32) l) * 32 + (8 * (q.val % 4) + i)) / 16 = q.val / 2 := by rw [hrow]; omega
  have e2 : (S32x128.row (ix2 (⟨q.val / 4, by omega⟩ : Fin 32) l) * 32 + (8 * (q.val % 4) + i)) % 16 = 8 * (q.val % 2) + i := by rw [hrow]; omega
  rw [e2, bitcasts_S64x128_w16_S32x128_w32.srcIdx_congr _ e1 _ (by
    intro a ha; have : a = ⟨0, Nat.zero_lt_two⟩ := Fin.ext (by simpa using ha)
    subst this; show q.val / 2 < 64; omega)]
  congr 2
  funext c
  match c with
  | ⟨0, _⟩ => exact Fin.ext (bitcasts_S64x128_w16_S32x128_w32.srcIdx_row _ _ _ ⟨0, Nat.zero_lt_two⟩ rfl)
  | ⟨1, _⟩ => exact Fin.ext (bitcasts_S64x128_w16_S32x128_w32.srcIdx_other _ _ _ ⟨1, Nat.one_lt_two⟩ (by show ¬ 1 + 2 = 2; omega))

/-- The two bytes of a rotated channel's upper half-word. -/
theorem pay290_at (o c s : FVec Ideal S32x128 .f32) (x : Vec Ideal S1x64x128 .bf16) (q l : Fin 128) :
    k0_pay290 (k0_pay277 o c s x) (k0_pay278 o c s x) (k0_pay288 (k0_pay284 o c s x) (k0_pay285 o c s x) (k0_pay286 o c s x) k0_pay287) k0_pay289 (ix2 q l)
      = ((halfWord (k0_pay277 o c s x (ix2 ⟨q.val / 2, by omega⟩ l))) >>> (8 * (q.val % 2))).setWidth 8 := by
  unfold k0_pay290
  refine (bitcast_16_32_8_at _ q l).trans ?_
  unfold k0_pay289 k0_pay288 k0_pay287 k0_pay286 k0_pay285 k0_pay284 k0_pay283 k0_pay282 k0_pay281 k0_pay280 k0_pay279 k0_pay278
  generalize k0_pay277 o c s x = A
  simp only [↓sel_at, ↓cmpf_at, ↓cmpi_at, ↓mulf_at, ↓divf_at, ↓absf_at, ↓addi_at, ↓ori_at, ↓andi_at, ↓muli_at, ↓fptosi_at, ↓bc_at, ↓trunci_at, ↓shrsi_at, down_fold, up_fold]
  rfl

theorem pay9_at (v : IVec S128x128 8) (q l : Fin 128) : k0_pay9 v (ix3 0 q l) = v (ix2 q l) := by
  unfold k0_pay9
  pointwise

variable (i : grid0.Coords) (arg3 : Memref sig .tc .vmem S1x1088x1024 .bf16) (harg3 : arg3.IsWhole)
  (arg9 : Memref sig .tc .vmem S3x32x128 .f32) (harg9 : arg9.IsWhole) (arg10 : Memref sig .tc .vmem S2x32x1024 .f32) (harg10 : arg10.IsWhole)
  (X : Vec Ideal S1x1088x1024 .bf16) (F : Vec Ideal S3x32x128 .f32) (N : Vec Ideal S2x32x1024 .f32) (v8 v18 : Vec Ideal S1x32x128 .f32) (first : BitVec 32)
  (T : Tables) (hf : ∀ i l, F (ix3 0 i l) = T.freq i.val) (hh : ∀ i l, F (ix3 1 i l) = T.head i.val) (hr : ∀ i l, F (ix3 2 i l) = T.rest i.val)
  (hc : ∀ i t, N (ix3 0 i t) = T.nearC i.val t.val) (hs : ∀ i t, N (ix3 1 i t) = T.nearS i.val t.val)
  (h8 : ∀ a l, k0_pay7 (F := Ideal) i v8 (ix2 a l) = T.farC a.val) (h18 : ∀ a l, k0_pay8 (F := Ideal) i v18 (ix2 a l) = T.farS a.val)
  (k : Fin k0_t1_loop.trips)

include hf hh hr in
theorem r100_at (a : Fin 32) (l : Fin 128) : trip_k0_t1.sl.r_100 arg9 first (harg9.unread F) k (ix2 a l) = over T first a.val (128 * k.val + l.val) := by
  unfold trip_k0_t1.sl.r_100
  rw [pay272_at]
  simp only [View.readAt_eq_ld, harg9.read_unread]
  have e : IntOp.addi (BitVec.ofNat 32 l.val) (IntOp.addi first (trip_k0_t1.sl.v33 k)) = first + BitVec.ofNat 32 (128 * k.val + l.val) := by
    have hv : trip_k0_t1.sl.v33 k = BitVec.ofNat 32 (128 * k.val) := by fin_cases k <;> rfl
    rw [hv]
    show BitVec.ofNat 32 l.val + (first + BitVec.ofNat 32 (128 * k.val)) = _
    rw [BitVec.ofNat_add]; ac_rfl
  rw [e]
  unfold over place
  rw [← hf a l, ← hh a l, ← hr a l]
  pointwise

include hc hs h8 h18 in
theorem r101_at (a : Fin 32) (l : Fin 128) : trip_k0_t1.sl.r_101 i arg10 v8 v18 (harg10.unread N) k (ix2 a l) = coarseC T a.val (128 * k.val + l.val) := by
  have hk := k.isLt
  have hk : k.val < 8 := hk
  unfold trip_k0_t1.sl.r_101
  rw [pay275_at, h8, h18]
  simp only [View.readAt_eq_ld, harg10.read_unread]
  unfold coarseC
  rw [← hc a ⟨128 * k.val + l.val, by omega⟩, ← hs a ⟨128 * k.val + l.val, by omega⟩]
  pointwise [k0_off92_eq, k0_off93_eq]

include hc hs h8 h18 in
theorem r102_at (a : Fin 32) (l : Fin 128) : trip_k0_t1.sl.r_102 i arg10 v8 v18 (harg10.unread N) k (ix2 a l) = coarseS T a.val (128 * k.val + l.val) := by
  have hk := k.isLt
  have hk : k.val < 8 := hk
  unfold trip_k0_t1.sl.r_102
  rw [pay276_at, h8, h18]
  simp only [View.readAt_eq_ld, harg10.read_unread]
  unfold coarseS
  rw [← hc a ⟨128 * k.val + l.val, by omega⟩, ← hs a ⟨128 * k.val + l.val, by omega⟩]
  pointwise [k0_off92_eq, k0_off93_eq]

theorem rope_x (j : Fin 64) (l : Fin 128) :
    View.readAt (Elt Ideal) arg3.view (Rect.unit (s := S1x1088x1024) (k0_off94 k) S1x64x128.size (k0_off94_inb k)).toLoadRect (harg3.unread X) (ix3 0 j l)
      = xat X (1024 + j.val) (128 * k.val + l.val) := by
  have hk := k.isLt
  have hk : k.val < 8 := hk
  simp only [View.readAt_eq_ld, harg3.read_unread]
  have e := xat_eq X 0 ⟨1024 + j.val, by omega⟩ ⟨128 * k.val + l.val, by omega⟩
  rw [← e]
  pointwise [k0_off94_eq]

include hf hh hr hc hs h8 h18 in
/-- The rotated channel `j`. -/
theorem r103_at (j : Fin 64) (l : Fin 128) :
    trip_k0_t1.sl.r_103 i arg3 arg9 arg10 v8 v18 first (harg3.unread X) (harg9.unread F) (harg10.unread N) k (ix2 j l)
      = turned X T first j.val (128 * k.val + l.val) := by
  unfold trip_k0_t1.sl.r_103 turned
  by_cases h : j.val < 32
  · have ej : j = ⟨(⟨j.val, h⟩ : Fin 32).val, by omega⟩ := rfl
    rw [if_pos h, ej, pay277_lo, r100_at arg9 harg9 F first T hf hh hr k, r101_at i arg10 harg10 N v8 v18 T hc hs h8 h18 k, r102_at i arg10 harg10 N v8 v18 T hc hs h8 h18 k,
      rope_x arg3 harg3 X k, rope_x arg3 harg3 X k]
    simp only []
    have e3 : 1024 + (32 + j.val) = 1056 + j.val := by omega
    rw [e3]
    rfl
  · have ej : j = ⟨32 + (⟨j.val - 32, by omega⟩ : Fin 32).val, by simp; omega⟩ := Fin.ext (by simp; omega)
    rw [if_neg h, ej, pay277_hi, r100_at arg9 harg9 F first T hf hh hr k, r101_at i arg10 harg10 N v8 v18 T hc hs h8 h18 k, r102_at i arg10 harg10 N v8 v18 T hc hs h8 h18 k,
      rope_x arg3 harg3 X k, rope_x arg3 harg3 X k]
    simp only []
    have e1 : 32 + (j.val - 32) - 32 = j.val - 32 := by omega
    have e2 : 992 + (32 + (j.val - 32)) = 1024 + (j.val - 32) := by omega
    rw [e1, e2]
    rfl

include hf hh hr hc hs h8 h18 in
/-- The rope rows of the record: byte `q % 2` of channel `q / 2`. -/
theorem rope_at (q l : Fin 128) :
    k0_pay9 (trip_k0_t1.sl.r_109 i arg3 arg9 arg10 v8 v18 first (harg3.unread X) (harg9.unread F) (harg10.unread N) k) (ix3 0 q l)
      = ((halfWord (turned X T first (q.val / 2) (128 * k.val + l.val))) >>> (8 * (q.val % 2))).setWidth 8 := by
  rw [pay9_at]
  have e := r103_at i arg3 harg3 arg9 harg9 arg10 harg10 X F N v8 v18 first T hf hh hr hc hs h8 h18 k ⟨q.val / 2, by omega⟩ l
  rw [← e]
  unfold trip_k0_t1.sl.r_109 trip_k0_t1.sl.r_108 trip_k0_t1.sl.r_107 trip_k0_t1.sl.r_106 trip_k0_t1.sl.r_105 trip_k0_t1.sl.r_104 trip_k0_t1.sl.r_103
  rw [pay290_at]

end Cert.KernelIdeal.Run
-- ==== Proof.Block.lean ====
module
/-
  What the kernel's loop leaves in its three output blocks: every stored piece is a part of one function of the block's
  coordinates, and the eight trips' pieces cover the block.
-/
public import proofs.«01_k».proof.Proof.ChunkRope
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- The record block: code bytes, scale bytes, rope bytes, down the rows. -/
def recG (X : Vec Ideal S1x1088x1024 .bf16) (γ : ℕ → EReal) (T : Tables) (first : BitVec 32) (c t : ℕ) : BitVec 8 :=
  if c < 1024 then fp8Byte (code X γ c t)
  else if c < 1056 then ((sword X γ ((c - 1024) / 4) t) >>> (8 * ((c - 1024) % 4))).setWidth 8
  else ((halfWord (turned X T first ((c - 1056) / 2) t)) >>> (8 * ((c - 1056) % 2))).setWidth 8

def recBlk (X : Vec Ideal S1x1088x1024 .bf16) (γ : ℕ → EReal) (T : Tables) (first : BitVec 32) : Vec Ideal S1x1184x1024 .i8 :=
  fun y => recG X γ T first (y 1).val (y 2).val
/-- The block of codes, tokens by channels. -/
def codeBlk (X : Vec Ideal S1x1088x1024 .bf16) (γ : ℕ → EReal) : Vec Ideal S1x1024x1024 .fp8e4m3 :=
  fun y => code X γ (y 2).val (y 1).val
/-- The block of scales, groups by tokens. -/
def scaleBlk (X : Vec Ideal S1x1088x1024 .bf16) (γ : ℕ → EReal) : Vec Ideal S1x8x1024 .f32 :=
  fun y => Ideal.ofBits .f32 (sword X γ (y 1).val (y 2).val)

/-- A stored piece is a part of a function of the coordinates when its payload is, index by index. -/
theorem piece3 {α : Type} {R C n1 n2 : ℕ} (g : ℕ → ℕ → α) {off : Fin 3 → ℕ} (o1 o2 : ℕ) (ho : off = ![0, o1, o2])
    (inb : ∀ a, off a + (![1, n1, n2] : Fin 3 → ℕ) a ≤ (⟨3, ![1, R, C]⟩ : Shape).size a)
    (w : (⟨3, ![1, n1, n2]⟩ : Shape).Idx → α) (h : ∀ (a : Fin n1) (b : Fin n2), w (ix3 0 a b) = g (o1 + a.val) (o2 + b.val)) :
    ∀ x : (Rect.unit (s := ⟨3, ![1, R, C]⟩) off ![1, n1, n2] inb).shape.Idx,
      w x = (fun y : (⟨3, ![1, R, C]⟩ : Shape).Idx => g (y 1).val (y 2).val) ((Rect.unit off ![1, n1, n2] inb).emb x) := by
  subst ho
  intro x
  have hx : x = (ix3 (0 : Fin 1) (x 1) (x 2) : (⟨3, ![1, n1, n2]⟩ : Shape).Idx) := by
    funext a
    match a with
    | ⟨0, _⟩ => exact Fin.ext (by have := (x 0).isLt; change _ < 1 at this; show (x 0).val = 0; omega)
    | ⟨1, _⟩ => rfl
    | ⟨2, _⟩ => rfl
  refine (congrArg w hx).trans ((h (x 1) (x 2)).trans ?_)
  show g (o1 + (x 1).val) (o2 + (x 2).val) = g (o1 + 1 * (x 1).val) (o2 + 1 * (x 2).val)
  rw [Nat.one_mul, Nat.one_mul]

/-- An index lies in a piece when its coordinates do. -/
theorem mem3 {R C n1 n2 : ℕ} {off : Fin 3 → ℕ} (o1 o2 : ℕ) (ho : off = ![0, o1, o2])
    (inb : ∀ a, off a + (![1, n1, n2] : Fin 3 → ℕ) a ≤ (⟨3, ![1, R, C]⟩ : Shape).size a) (y : (⟨3, ![1, R, C]⟩ : Shape).Idx)
    (h1 : o1 ≤ (y 1).val ∧ (y 1).val < o1 + n1) (h2 : o2 ≤ (y 2).val ∧ (y 2).val < o2 + n2) :
    y ∈ (Rect.unit (s := ⟨3, ![1, R, C]⟩) off ![1, n1, n2] inb).set := by
  subst ho
  rw [Rect.mem_set_unit]
  intro a
  match a with
  | ⟨0, _⟩ => exact ⟨Nat.zero_le _, by have := (y 0).isLt; change _ < 1 at this; show (y 0).val < 0 + 1; omega⟩
  | ⟨1, _⟩ => exact h1
  | ⟨2, _⟩ => exact h2

/-- Pieces of one function that cover an index leave it the function's value. -/
theorem read_pieces {sig : RefSig} {κ : Kind} {sp : Space} {s : Shape} {e : EltTy} (v : View sig κ sp s e) (f : v.ty.Contents (Elt Ideal)) (g : s.Idx → Elt Ideal e)
    (L : List (View.Piece (Elt Ideal) s e)) (h : View.PiecesOf g L) (y : s.Idx) (hy : ∃ p ∈ L, y ∈ p.1.set) :
    v.read (Elt Ideal) (v.writes (Elt Ideal) f L) y = g y := by
  rw [View.read_writes_apply_eq_canon v f y L hy]
  have := View.canon_append_of_piecesOf g [] L h y hy
  simpa using this

theorem piecesOf_append {s : Shape} {e : EltTy} {g : s.Idx → Elt Ideal e} {L L' : List (View.Piece (Elt Ideal) s e)}
    (h : View.PiecesOf g L) (h' : View.PiecesOf g L') : View.PiecesOf g (L ++ L') := by
  induction L with
  | nil => exact h'
  | cons p L ih => exact ⟨h.1, ih h.2⟩

variable (𝒱 : Variants) (c : Dev nD) (bd : Option 𝒱.V) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole)
  (X : Vec Ideal S1x1088x1024 .bf16) (G : Vec Ideal S1024x128 .f32) (F : Vec Ideal S3x32x128 .f32) (N : Vec Ideal S2x32x1024 .f32) (v8 v18 : Vec Ideal S1x32x128 .f32) (first : BitVec 32)
  (γ : ℕ → EReal) (hG : ∀ (c : Fin 1024) (l : Fin 128), G (ix2 c l) = γ c.val)
  (T : Tables) (hf : ∀ i l, F (ix3 0 i l) = T.freq i.val) (hh : ∀ i l, F (ix3 1 i l) = T.head i.val) (hr : ∀ i l, F (ix3 2 i l) = T.rest i.val)
  (hc : ∀ i t, N (ix3 0 i t) = T.nearC i.val t.val) (hs : ∀ i t, N (ix3 1 i t) = T.nearS i.val t.val)
  (h8 : ∀ a l, k0_pay7 (F := Ideal) i v8 (ix2 a l) = T.farC a.val) (h18 : ∀ a l, k0_pay8 (F := Ideal) i v18 (ix2 a l) = T.farS a.val)

include hG hf hh hr hc hs h8 h18 in
/-- Every piece a trip stores into the record block is a part of it. -/
theorem trip5 (k : Fin k0_t1_loop.trips) (f5 f6 f7 f12) :
    View.PiecesOf (recBlk X γ T first) ((trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).1 f5 f6 f7 f12) := by
  unfold trip_k0_t1; dsimp only
  refine ⟨?_, ?_, ?_, ?_, ?_, ?_, ?_, ?_, ?_, ?_, trivial⟩
  · refine piece3 (recG X γ T first) 1056 (128 * k.val) (k0_off95_eq k) (k0_off95_inb k) _ fun q l => ?_
    refine (rope_at i arg3 harg3 arg9 harg9 arg10 harg10 X F N v8 v18 first T hf hh hr hc hs h8 h18 k q l).trans ?_
    unfold recG
    rw [if_neg (by omega), if_neg (by omega), Nat.add_sub_cancel_left]
  · refine piece3 (recG X γ T first) 896 (128 * k.val) (k0_off90_eq k) (k0_off90_inb k) _ fun q l => ?_
    refine (byte7_at arg3 harg3 arg8 harg8 X G γ hG k arg12 q l).trans ?_
    unfold recG
    rw [if_pos (by omega)]
  · refine piece3 (recG X γ T first) 768 (128 * k.val) (k0_off88_eq k) (k0_off88_inb k) _ fun q l => ?_
    refine (byte6_at arg3 harg3 arg8 harg8 X G γ hG k arg12 q l).trans ?_
    unfold recG
    rw [if_pos (by omega)]
  · refine piece3 (recG X γ T first) 640 (128 * k.val) (k0_off86_eq k) (k0_off86_inb k) _ fun q l => ?_
    refine (byte5_at arg3 harg3 arg8 harg8 X G γ hG k arg12 q l).trans ?_
    unfold recG
    rw [if_pos (by omega)]
  · refine piece3 (recG X γ T first) 512 (128 * k.val) (k0_off84_eq k) (k0_off84_inb k) _ fun q l => ?_
    refine (byte4_at arg3 harg3 arg8 harg8 X G γ hG k arg12 q l).trans ?_
    unfold recG
    rw [if_pos (by omega)]
  · refine piece3 (recG X γ T first) 384 (128 * k.val) (k0_off82_eq k) (k0_off82_inb k) _ fun q l => ?_
    refine (byte3_at arg3 harg3 arg8 harg8 X G γ hG k arg12 q l).trans ?_
    unfold recG
    rw [if_pos (by omega)]
  · refine piece3 (recG X γ T first) 256 (128 * k.val) (k0_off80_eq k) (k0_off80_inb k) _ fun q l => ?_
    refine (byte2_at arg3 harg3 arg8 harg8 X G γ hG k arg12 q l).trans ?_
    unfold recG
    rw [if_pos (by omega)]
  · refine piece3 (recG X γ T first) 128 (128 * k.val) (k0_off78_eq k) (k0_off78_inb k) _ fun q l => ?_
    refine (byte1_at arg3 harg3 arg8 harg8 X G γ hG k arg12 q l).trans ?_
    unfold recG
    rw [if_pos (by omega)]
  · refine piece3 (recG X γ T first) 0 (128 * k.val) (k0_off76_eq k) (k0_off76_inb k) _ fun q l => ?_
    refine (byte0_at arg3 harg3 arg8 harg8 X G γ hG k arg12 q l).trans ?_
    unfold recG
    rw [if_pos (by omega)]
  · refine piece3 (recG X γ T first) 1024 (128 * k.val) (k0_off75_eq k) (k0_off75_inb k) _ fun q l => ?_
    refine (pay186_at _ q l).trans ?_
    unfold recG
    rw [if_neg (by omega), if_pos (by omega), Nat.add_sub_cancel_left, r59_at arg3 harg3 arg8 harg8 X G γ hG k]

include hG in
/-- Every piece a trip stores into the codes is a part of them. -/
theorem trip6 (k : Fin k0_t1_loop.trips) (f5 f6 f7 f12) :
    View.PiecesOf (codeBlk X γ) ((trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).2.1 f5 f6 f7 f12) := by
  unfold trip_k0_t1; dsimp only
  refine ⟨?_, ?_, ?_, ?_, ?_, ?_, ?_, ?_, trivial⟩
  · refine piece3 (fun t c => code X γ c t) (128 * k.val) 896 (k0_off91_eq k) (k0_off91_inb k) _ fun l q => ?_
    exact store7_at arg3 harg3 arg8 harg8 X G γ hG k arg12 q l
  · refine piece3 (fun t c => code X γ c t) (128 * k.val) 768 (k0_off89_eq k) (k0_off89_inb k) _ fun l q => ?_
    exact store6_at arg3 harg3 arg8 harg8 X G γ hG k arg12 q l
  · refine piece3 (fun t c => code X γ c t) (128 * k.val) 640 (k0_off87_eq k) (k0_off87_inb k) _ fun l q => ?_
    exact store5_at arg3 harg3 arg8 harg8 X G γ hG k arg12 q l
  · refine piece3 (fun t c => code X γ c t) (128 * k.val) 512 (k0_off85_eq k) (k0_off85_inb k) _ fun l q => ?_
    exact store4_at arg3 harg3 arg8 harg8 X G γ hG k arg12 q l
  · refine piece3 (fun t c => code X γ c t) (128 * k.val) 384 (k0_off83_eq k) (k0_off83_inb k) _ fun l q => ?_
    exact store3_at arg3 harg3 arg8 harg8 X G γ hG k arg12 q l
  · refine piece3 (fun t c => code X γ c t) (128 * k.val) 256 (k0_off81_eq k) (k0_off81_inb k) _ fun l q => ?_
    exact store2_at arg3 harg3 arg8 harg8 X G γ hG k arg12 q l
  · refine piece3 (fun t c => code X γ c t) (128 * k.val) 128 (k0_off79_eq k) (k0_off79_inb k) _ fun l q => ?_
    exact store1_at arg3 harg3 arg8 harg8 X G γ hG k arg12 q l
  · refine piece3 (fun t c => code X γ c t) (128 * k.val) 0 (k0_off77_eq k) (k0_off77_inb k) _ fun l q => ?_
    exact store0_at arg3 harg3 arg8 harg8 X G γ hG k arg12 q l

include hG in
/-- The piece a trip stores into the scales is a part of them. -/
theorem trip7 (k : Fin k0_t1_loop.trips) (f5 f6 f7 f12) :
    View.PiecesOf (scaleBlk X γ) ((trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).2.2.1 f5 f6 f7 f12) := by
  unfold trip_k0_t1; dsimp only
  refine ⟨?_, trivial⟩
  refine piece3 (fun g t => Ideal.ofBits .f32 (sword X γ g t)) 0 (128 * k.val) (k0_off74_eq k) (k0_off74_inb k) _ fun g l => ?_
  rw [Nat.zero_add]
  exact r60_at arg3 harg3 arg8 harg8 X G γ hG k g l

/-- A trip's pieces cover its lanes of the record block, -/
theorem cover5 (k : Fin k0_t1_loop.trips) (f5 f6 f7 f12) (y : S1x1184x1024.Idx) (hy : 128 * k.val ≤ (y 2).val ∧ (y 2).val < 128 * k.val + 128) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).1 f5 f6 f7 f12, y ∈ p.1.set := by
  have h1 : (y 1).val < 1184 := (y 1).isLt
  unfold trip_k0_t1; dsimp only
  by_cases c0 : (y 1).val < 1024
  · by_cases c4 : (y 1).val < 512
    · by_cases c2 : (y 1).val < 256
      · by_cases c1 : (y 1).val < 128
        · refine ⟨_, .tail _ (.tail _ (.tail _ (.tail _ (.tail _ (.tail _ (.tail _ (.tail _ (.head _)))))))), ?_⟩; exact mem3 0 (128 * k.val) (k0_off76_eq k) (k0_off76_inb k) y (by omega) hy
        · refine ⟨_, .tail _ (.tail _ (.tail _ (.tail _ (.tail _ (.tail _ (.tail _ (.head _))))))), ?_⟩; exact mem3 128 (128 * k.val) (k0_off78_eq k) (k0_off78_inb k) y (by omega) hy
      · by_cases c1 : (y 1).val < 384
        · refine ⟨_, .tail _ (.tail _ (.tail _ (.tail _ (.tail _ (.tail _ (.head _)))))), ?_⟩; exact mem3 256 (128 * k.val) (k0_off80_eq k) (k0_off80_inb k) y (by omega) hy
        · refine ⟨_, .tail _ (.tail _ (.tail _ (.tail _ (.tail _ (.head _))))), ?_⟩; exact mem3 384 (128 * k.val) (k0_off82_eq k) (k0_off82_inb k) y (by omega) hy
    · by_cases c2 : (y 1).val < 768
      · by_cases c1 : (y 1).val < 640
        · refine ⟨_, .tail _ (.tail _ (.tail _ (.tail _ (.head _)))), ?_⟩; exact mem3 512 (128 * k.val) (k0_off84_eq k) (k0_off84_inb k) y (by omega) hy
        · refine ⟨_, .tail _ (.tail _ (.tail _ (.head _))), ?_⟩; exact mem3 640 (128 * k.val) (k0_off86_eq k) (k0_off86_inb k) y (by omega) hy
      · by_cases c1 : (y 1).val < 896
        · refine ⟨_, .tail _ (.tail _ (.head _)), ?_⟩; exact mem3 768 (128 * k.val) (k0_off88_eq k) (k0_off88_inb k) y (by omega) hy
        · refine ⟨_, .tail _ (.head _), ?_⟩; exact mem3 896 (128 * k.val) (k0_off90_eq k) (k0_off90_inb k) y (by omega) hy
  · by_cases c1 : (y 1).val < 1056
    · refine ⟨_, .tail _ (.tail _ (.tail _ (.tail _ (.tail _ (.tail _ (.tail _ (.tail _ (.tail _ (.head _))))))))), ?_⟩; exact mem3 1024 (128 * k.val) (k0_off75_eq k) (k0_off75_inb k) y (by omega) hy
    · refine ⟨_, .head _, ?_⟩; exact mem3 1056 (128 * k.val) (k0_off95_eq k) (k0_off95_inb k) y (by omega) hy

/-- its tokens of the codes, -/
theorem cover6 (k : Fin k0_t1_loop.trips) (f5 f6 f7 f12) (y : S1x1024x1024.Idx) (hy : 128 * k.val ≤ (y 1).val ∧ (y 1).val < 128 * k.val + 128) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).2.1 f5 f6 f7 f12, y ∈ p.1.set := by
  have h1 : (y 2).val < 1024 := (y 2).isLt
  unfold trip_k0_t1; dsimp only
  by_cases c4 : (y 2).val < 512
  · by_cases c2 : (y 2).val < 256
    · by_cases c1 : (y 2).val < 128
      · refine ⟨_, .tail _ (.tail _ (.tail _ (.tail _ (.tail _ (.tail _ (.tail _ (.head _))))))), ?_⟩; exact mem3 (128 * k.val) 0 (k0_off77_eq k) (k0_off77_inb k) y hy (by omega)
      · refine ⟨_, .tail _ (.tail _ (.tail _ (.tail _ (.tail _ (.tail _ (.head _)))))), ?_⟩; exact mem3 (128 * k.val) 128 (k0_off79_eq k) (k0_off79_inb k) y hy (by omega)
    · by_cases c1 : (y 2).val < 384
      · refine ⟨_, .tail _ (.tail _ (.tail _ (.tail _ (.tail _ (.head _))))), ?_⟩; exact mem3 (128 * k.val) 256 (k0_off81_eq k) (k0_off81_inb k) y hy (by omega)
      · refine ⟨_, .tail _ (.tail _ (.tail _ (.tail _ (.head _)))), ?_⟩; exact mem3 (128 * k.val) 384 (k0_off83_eq k) (k0_off83_inb k) y hy (by omega)
  · by_cases c2 : (y 2).val < 768
    · by_cases c1 : (y 2).val < 640
      · refine ⟨_, .tail _ (.tail _ (.tail _ (.head _))), ?_⟩; exact mem3 (128 * k.val) 512 (k0_off85_eq k) (k0_off85_inb k) y hy (by omega)
      · refine ⟨_, .tail _ (.tail _ (.head _)), ?_⟩; exact mem3 (128 * k.val) 640 (k0_off87_eq k) (k0_off87_inb k) y hy (by omega)
    · by_cases c1 : (y 2).val < 896
      · refine ⟨_, .tail _ (.head _), ?_⟩; exact mem3 (128 * k.val) 768 (k0_off89_eq k) (k0_off89_inb k) y hy (by omega)
      · refine ⟨_, .head _, ?_⟩; exact mem3 (128 * k.val) 896 (k0_off91_eq k) (k0_off91_inb k) y hy (by omega)

/-- its tokens of the scales. -/
theorem cover7 (k : Fin k0_t1_loop.trips) (f5 f6 f7 f12) (y : S1x8x1024.Idx) (hy : 128 * k.val ≤ (y 2).val ∧ (y 2).val < 128 * k.val + 128) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) k).2.2.1 f5 f6 f7 f12, y ∈ p.1.set := by
  have h1 : (y 1).val < 8 := (y 1).isLt
  unfold trip_k0_t1; dsimp only
  refine ⟨_, .head _, ?_⟩; exact mem3 0 (128 * k.val) (k0_off74_eq k) (k0_off74_inb k) y (by omega) hy

end Cert.KernelIdeal.Run
-- ==== Proof.Loop.lean ====
module
/-
  The eight trips of the loop together: what they leave in the three output blocks, whatever the blocks held before.
-/
public import proofs.«01_k».proof.Proof.Block
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

variable (𝒱 : Variants) (c : Dev nD) (bd : Option 𝒱.V) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole)
  (X : Vec Ideal S1x1088x1024 .bf16) (G : Vec Ideal S1024x128 .f32) (F : Vec Ideal S3x32x128 .f32) (N : Vec Ideal S2x32x1024 .f32) (v8 v18 : Vec Ideal S1x32x128 .f32) (first : BitVec 32)
  (γ : ℕ → EReal) (hG : ∀ (c : Fin 1024) (l : Fin 128), G (ix2 c l) = γ c.val)
  (T : Tables) (hf : ∀ i l, F (ix3 0 i l) = T.freq i.val) (hh : ∀ i l, F (ix3 1 i l) = T.head i.val) (hr : ∀ i l, F (ix3 2 i l) = T.rest i.val)
  (hc : ∀ i t, N (ix3 0 i t) = T.nearC i.val t.val) (hs : ∀ i t, N (ix3 1 i t) = T.nearS i.val t.val)
  (h8 : ∀ a l, k0_pay7 (F := Ideal) i v8 (ix2 a l) = T.farC a.val) (h18 : ∀ a l, k0_pay8 (F := Ideal) i v18 (ix2 a l) = T.farS a.val)

local notation "PB" => pb_k0_t1 (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N)

include hG hf hh hr hc hs h8 h18 in
/-- The pieces of the trips so far are parts of the three blocks and cover the lanes of those trips. -/
theorem loop_pieces (g5 g6 g7 g12) (n : ℕ) (hn : n ≤ 8) :
    View.PiecesOf (recBlk X γ T first) (PB g5 g6 g7 g12 n).1 ∧ View.PiecesOf (codeBlk X γ) (PB g5 g6 g7 g12 n).2.1
      ∧ View.PiecesOf (scaleBlk X γ) (PB g5 g6 g7 g12 n).2.2.1
      ∧ (∀ y : S1x1184x1024.Idx, (y 2).val < 128 * n → ∃ p ∈ (PB g5 g6 g7 g12 n).1, y ∈ p.1.set)
      ∧ (∀ y : S1x1024x1024.Idx, (y 1).val < 128 * n → ∃ p ∈ (PB g5 g6 g7 g12 n).2.1, y ∈ p.1.set)
      ∧ (∀ y : S1x8x1024.Idx, (y 2).val < 128 * n → ∃ p ∈ (PB g5 g6 g7 g12 n).2.2.1, y ∈ p.1.set) := by
  induction n with
  | zero => exact ⟨trivial, trivial, trivial, fun y h => absurd h (by omega), fun y h => absurd h (by omega), fun y h => absurd h (by omega)⟩
  | succ n ih =>
    obtain ⟨i5, i6, i7, j5, j6, j7⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 v8 v18 first (harg3.unread X) (harg8.unread G) (harg9.unread F) (harg10.unread N) g5 g6 g7 g12 ⟨n, by show n < 8; omega⟩
    simp only at e
    rw [e]
    dsimp only [tripL_k0_t1]
    refine ⟨piecesOf_append (trip5 𝒱 c bd i arg2 harg2 arg3 harg3 arg4 harg4 arg5 harg5 arg6 harg6 arg7 harg7 arg8 harg8 arg9 harg9 arg10 harg10 arg11 harg11 arg12 harg12 X G F N v8 v18 first γ hG T hf hh hr hc hs h8 h18 _ _ _ _ _) i5,
      piecesOf_append (trip6 𝒱 c bd i arg2 harg2 arg3 harg3 arg4 harg4 arg5 harg5 arg6 harg6 arg7 harg7 arg8 harg8 arg9 harg9 arg10 harg10 arg11 harg11 arg12 harg12 X G F N v8 v18 first γ hG _ _ _ _ _) i6, piecesOf_append (trip7 𝒱 c bd i arg2 harg2 arg3 harg3 arg4 harg4 arg5 harg5 arg6 harg6 arg7 harg7 arg8 harg8 arg9 harg9 arg10 harg10 arg11 harg11 arg12 harg12 X G F N v8 v18 first γ hG _ _ _ _ _) i7,
      fun y hy => ?_, fun y hy => ?_, fun y hy => ?_⟩
    · by_cases h : (y 2).val < 128 * n
      · obtain ⟨p, hp, hm⟩ := j5 y h; exact ⟨p, List.mem_append_right _ hp, hm⟩
      · obtain ⟨p, hp, hm⟩ := cover5 𝒱 c bd i arg2 harg2 arg3 harg3 arg4 harg4 arg5 harg5 arg6 harg6 arg7 harg7 arg8 harg8 arg9 harg9 arg10 harg10 arg11 harg11 arg12 harg12 X G F N v8 v18 first ⟨n, by show n < 8; omega⟩ _ _ _ _ y ⟨by simp only; omega, by simp only; omega⟩
        exact ⟨p, List.mem_append_left _ hp, hm⟩
    · by_cases h : (y 1).val < 128 * n
      · obtain ⟨p, hp, hm⟩ := j6 y h; exact ⟨p, List.mem_append_right _ hp, hm⟩
      · obtain ⟨p, hp, hm⟩ := cover6 𝒱 c bd i arg2 harg2 arg3 harg3 arg4 harg4 arg5 harg5 arg6 harg6 arg7 harg7 arg8 harg8 arg9 harg9 arg10 harg10 arg11 harg11 arg12 harg12 X G F N v8 v18 first ⟨n, by show n < 8; omega⟩ _ _ _ _ y ⟨by simp only; omega, by simp only; omega⟩
        exact ⟨p, List.mem_append_left _ hp, hm⟩
    · by_cases h : (y 2).val < 128 * n
      · obtain ⟨p, hp, hm⟩ := j7 y h; exact ⟨p, List.mem_append_right _ hp, hm⟩
      · obtain ⟨p, hp, hm⟩ := cover7 𝒱 c bd i arg2 harg2 arg3 harg3 arg4 harg4 arg5 harg5 arg6 harg6 arg7 harg7 arg8 harg8 arg9 harg9 arg10 harg10 arg11 harg11 arg12 harg12 X G F N v8 v18 first ⟨n, by show n < 8; omega⟩ _ _ _ _ y ⟨by simp only; omega, by simp only; omega⟩
        exact ⟨p, List.mem_append_left _ hp, hm⟩

include hG hf hh hr hc hs h8 h18 in
/-- After the loop the three blocks hold what was said, whatever they held before. -/
theorem loop_blocks (g5 g6 g7 g12) :
    arg5.view.read (Elt Ideal) (arg5.view.writes (Elt Ideal) g5 (PB g5 g6 g7 g12 k0_t1_loop.trips).1) = recBlk X γ T first
      ∧ arg6.view.read (Elt Ideal) (arg6.view.writes (Elt Ideal) g6 (PB g5 g6 g7 g12 k0_t1_loop.trips).2.1) = codeBlk X γ
      ∧ arg7.view.read (Elt Ideal) (arg7.view.writes (Elt Ideal) g7 (PB g5 g6 g7 g12 k0_t1_loop.trips).2.2.1) = scaleBlk X γ := by
  obtain ⟨i5, i6, i7, j5, j6, j7⟩ := loop_pieces 𝒱 c bd i arg2 harg2 arg3 harg3 arg4 harg4 arg5 harg5 arg6 harg6 arg7 harg7 arg8 harg8 arg9 harg9 arg10 harg10 arg11 harg11 arg12 harg12 X G F N v8 v18 first γ hG T hf hh hr hc hs h8 h18 g5 g6 g7 g12 8 le_rfl
  exact ⟨funext fun y => read_pieces _ _ _ _ i5 y (j5 y (y 2).isLt), funext fun y => read_pieces _ _ _ _ i6 y (j6 y (y 1).isLt),
    funext fun y => read_pieces _ _ _ _ i7 y (j7 y (y 2).isLt)⟩

end Cert.KernelIdeal.Run
-- ==== Proof.Tables.lean ====
module
/-
  What the tables of the first grid point hold, as functions: the gain of a channel, the rope frequencies and their two
  parts, cosine and sine of a position.
-/
public import proofs.«01_k».proof.Proof.Loop
@[expose] public section
set_option maxRecDepth 16384
set_option pp.deepTerms false
noncomputable section
namespace Cert.KernelIdeal.Run
open Idealize.ShloMosaic Idealize.ShloMosaic.TcCoe Idealize.ShloMosaic.Tactic
open Idealize.SL Idealize.SL.Sem
open Cert.KernelIdeal Cert.KernelIdeal.Gen

/-- The gain of channel `c`, from the gain's rows of 128. -/
def gainOf (x2 : Vec Ideal S8x128 .f32) (c : ℕ) : EReal :=
  if h : c / 128 < 8 then x2 (ix2 ⟨c / 128, h⟩ ⟨c % 128, Nat.mod_lt _ (by decide)⟩) else 0

/-- The rope frequency of pair `i`: the base to the power `-2 i / 64`. -/
def ropeFreq (i : ℕ) : EReal :=
  FloatOps.powf (F := Ideal) (φ := .f32) (FloatOps.ofBits .f32 1176256512#32)
    (FloatOps.divf (F := Ideal) (φ := .f32) (FloatOps.mulf (F := Ideal) (φ := .f32) (FloatOps.ofBits .f32 3221225472#32) (FloatOps.sitofp (F := Ideal) .f32 (BitVec.ofNat 32 i)))
      (FloatOps.ofBits .f32 1115684864#32))
/-- Its leading part: the value of its word with the low fifteen bits cleared, -/
def ropeHead (i : ℕ) : EReal := Ideal.ofBits .f32 (IntOp.andi (f32Bits (ropeFreq i)) 4294934528#32)
/-- and the remainder. -/
def ropeRest (i : ℕ) : EReal := ropeFreq i - ropeHead i

/-- What the two parts of the frequency leave of the angle at position `p`, -/
def slack (p : EReal) (i : ℕ) : EReal := p * ropeFreq i - p * ropeHead i - p * ropeRest i
/-- the cosine of the angle as the kernel takes it, -/
def tabC (p : EReal) (i : ℕ) : EReal := FloatOps.cos (F := Ideal) (φ := .f32) (p * ropeFreq i) + slack p i * FloatOps.sin (F := Ideal) (φ := .f32) (p * ropeFreq i)
/-- and the sine. -/
def tabS (p : EReal) (i : ℕ) : EReal := FloatOps.sin (F := Ideal) (φ := .f32) (p * ropeFreq i) - slack p i * FloatOps.cos (F := Ideal) (φ := .f32) (p * ropeFreq i)

/-- The first position of sequence `b`. -/
def posOf (x0 : Vec Ideal S4 .i32) (b : ℕ) : BitVec 32 := if h : b < 4 then x0 (ix1 ⟨b, h⟩) else 0
/-- The first position of block `n`, eight blocks to a sequence. -/
def farPos (x0 : Vec Ideal S4 .i32) (n : ℕ) : BitVec 32 := posOf x0 (n / 8) + BitVec.ofNat 32 (n % 8 * 1024)

/-- The number of a word. -/
def num (w : BitVec 32) : EReal := FloatOps.sitofp (F := Ideal) .f32 w

/-- The tables as the body of block `n` reads them. -/
def tables (x0 : Vec Ideal S4 .i32) (n : ℕ) : Tables where
  freq := ropeFreq
  head := ropeHead
  rest := ropeRest
  farC := tabC (num (farPos x0 n))
  farS := tabS (num (farPos x0 n))
  nearC i t := tabC (num (BitVec.ofNat 32 t)) i
  nearS i t := tabS (num (BitVec.ofNat 32 t)) i

/-- The four tables hold what they should. -/
structure Filled (x0 : Vec Ideal S4 .i32) (x2 : Vec Ideal S8x128 .f32) (G : Vec Ideal S1024x128 .f32) (F : Vec Ideal S3x32x128 .f32)
    (N : Vec Ideal S2x32x1024 .f32) (R : Vec Ideal S2x32x128 .f32) : Prop where
  gain : ∀ (c : Fin 1024) (l : Fin 128), G (ix2 c l) = gainOf x2 c.val
  freq : ∀ i l, F (ix3 0 i l) = ropeFreq i.val
  head : ∀ i l, F (ix3 1 i l) = ropeHead i.val
  rest : ∀ i l, F (ix3 2 i l) = ropeRest i.val
  nearC : ∀ i t, N (ix3 0 i t) = tabC (num (BitVec.ofNat 32 t.val)) i.val
  nearS : ∀ i t, N (ix3 1 i t) = tabS (num (BitVec.ofNat 32 t.val)) i.val
  farC : ∀ i l, R (ix3 0 i l) = tabC (num (farPos x0 l.val)) i.val
  farS : ∀ i l, R (ix3 1 i l) = tabS (num (farPos x0 l.val)) i.val

/-- The block number of a grid point. -/
def blockNo (i : grid0.Coords) : ℕ := (i 0).val * 8 + (i 1).val

theorem pay6_toNat (i : grid0.Coords) (j) : (k0_pay6 i j).toNat = blockNo i := by
  have h0 : (i 0).val < 4 := (i 0).isLt
  have h1 : (i 1).val < 8 := (i 1).isLt
  show (BitVec.ofNat 32 (i 0).val * 8#32 + BitVec.ofNat 32 (i 1).val).toNat = _
  unfold blockNo
  rw [BitVec.toNat_add, BitVec.toNat_mul, BitVec.toNat_ofNat, BitVec.toNat_ofNat]
  norm_num
  omega

theorem blockNo_lt (i : grid0.Coords) : blockNo i < 128 := by
  have h0 : (i 0).val < 4 := (i 0).isLt
  have h1 : (i 1).val < 8 := (i 1).isLt
  unfold blockNo; omega

theorem pay6_sel (i : grid0.Coords) (j) :
    Scalar.select (IntOp.cmpi .slt (k0_pay6 i j) 0#32) (IntOp.addi (k0_pay6 i j) 128#32) (k0_pay6 i j) = k0_pay6 i j := by
  have h := pay6_toNat i j
  have hl := blockNo_lt i
  generalize k0_pay6 i j = w at h
  have : BitVec.slt w 0#32 = false := by
    rw [BitVec.slt_eq_decide, decide_eq_false_iff_not]
    have e : w.toInt = (w.toNat : ℤ) := BitVec.toInt_eq_toNat_of_lt (by omega)
    simp [e]
  show (if BitVec.ofBool (BitVec.slt w 0#32) = 1#1 then _ else _) = _
  rw [this]; rfl

theorem pay7_at (i : grid0.Coords) (v : Vec Ideal S1x32x128 .f32) (a : Fin 32) (l : Fin 128) :
    k0_pay7 (F := Ideal) i v (ix2 a l) = v (ix3 0 a ⟨blockNo i, blockNo_lt i⟩) := by
  unfold k0_pay7
  pointwise
  congr 2
  refine Fin.ext ?_
  show (Scalar.select (IntOp.cmpi .slt (k0_pay6 i (ix2 a l)) 0#32) (IntOp.addi (k0_pay6 i (ix2 a l)) 128#32) (k0_pay6 i (ix2 a l))).toNat % 128 = blockNo i
  rw [pay6_sel, pay6_toNat]
  exact Nat.mod_eq_of_lt (blockNo_lt i)

theorem pay8_at (i : grid0.Coords) (v : Vec Ideal S1x32x128 .f32) (a : Fin 32) (l : Fin 128) :
    k0_pay8 (F := Ideal) i v (ix2 a l) = v (ix3 0 a ⟨blockNo i, blockNo_lt i⟩) := by
  unfold k0_pay8
  pointwise
  congr 2
  refine Fin.ext ?_
  show (Scalar.select (IntOp.cmpi .slt (k0_pay6 i (ix2 a l)) 0#32) (IntOp.addi (k0_pay6 i (ix2 a l)) 128#32) (k0_pay6 i (ix2 a l))).toNat % 128 = blockNo i
  rw [pay6_sel, pay6_toNat]
  exact Nat.mod_eq_of_lt (blockNo_lt i)

end Cert.KernelIdeal.Run
-- ==== Proof.BodyLater.lean ====
module
/-
  The body's run with its values: past the first point it finds the tables filled and leaves the three blocks.
-/
public import proofs.«01_k».proof.Proof.Tables
@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- The body's first position is that of its block. -/
theorem first_at (i : grid0.Coords) (arg2 : Memref sig .tc .smem S4 .i32) (harg2 : arg2.IsWhole) (x0 : Vec Ideal S4 .i32) (h) :
    Scalar.addi (View.readAt (Elt Ideal) arg2.view (Rect.unit (s := S4) (k0_off1 i) ![1] (k0_off1_inb i)).toLoadRect (harg2.unread x0) (Shape.Idx.first h))
      (Scalar.muli (BitVec.ofNat 32 (i 1).val) 1024#32) = farPos x0 (blockNo i) := by
  have h0 : (i 0).val < 4 := (i 0).isLt
  have h1 : (i 1).val < 8 := (i 1).isLt
  have e0 : blockNo i / 8 = (i 0).val := by unfold blockNo; omega
  have e1 : blockNo i % 8 = (i 1).val := by unfold blockNo; omega
  have ex : View.readAt (Elt Ideal) arg2.view (Rect.unit (s := S4) (k0_off1 i) ![1] (k0_off1_inb i)).toLoadRect (harg2.unread x0) (Shape.Idx.first h) = posOf x0 (i 0).val := by
    rw [View.readAt_eq_ld, harg2.read_unread]
    unfold posOf
    rw [dif_pos h0]
    show x0 _ = x0 _
    congr 1
    funext a
    have ha : a = 0 := Fin.ext (by have := a.isLt; change _ < 1 at this; show a.val = 0; omega)
    subst ha
    refine Fin.ext ?_
    have ho : k0_off1 i 0 = (i 0).val := by
      show (BitVec.ofNat 32 (i 0).val).toNat = _
      rw [BitVec.toNat_ofNat]; omega
    show k0_off1 i 0 + 1 * 0 = (i 0).val
    omega
  rw [ex]
  unfold farPos
  rw [e0, e1]
  show posOf x0 (i 0).val + BitVec.ofNat 32 (i 1).val * 1024#32 = _
  rw [BitVec.ofNat_mul]

theorem far_c (i : grid0.Coords) (arg11 : Memref sig .tc .vmem S2x32x128 .f32) (harg11 : arg11.IsWhole) (R : Vec Ideal S2x32x128 .f32) (f : ℕ → ℕ → EReal)
    (h : ∀ a l, R (ix3 0 a l) = f l.val a.val) (a : Fin 32) (l : Fin 128) :
    k0_pay7 (F := Ideal) i (View.readAt (Elt Ideal) arg11.view (Rect.unit (s := S2x32x128) ![0, 0, 0] S1x32x128.size inb_S2x32x128_S1x32x128_0_0_0).toLoadRect (harg11.unread R)) (ix2 a l)
      = f (blockNo i) a.val := by
  rw [pay7_at, View.readAt_eq_ld, harg11.read_unread]
  refine Eq.trans ?_ (h a ⟨blockNo i, blockNo_lt i⟩)
  pointwise

theorem far_s (i : grid0.Coords) (arg11 : Memref sig .tc .vmem S2x32x128 .f32) (harg11 : arg11.IsWhole) (R : Vec Ideal S2x32x128 .f32) (f : ℕ → ℕ → EReal)
    (h : ∀ a l, R (ix3 1 a l) = f l.val a.val) (a : Fin 32) (l : Fin 128) :
    k0_pay8 (F := Ideal) i (View.readAt (Elt Ideal) arg11.view (Rect.unit (s := S2x32x128) ![1, 0, 0] S1x32x128.size inb_S2x32x128_S1x32x128_1_0_0).toLoadRect (harg11.unread R)) (ix2 a l)
      = f (blockNo i) a.val := by
  rw [pay8_at, View.readAt_eq_ld, harg11.read_unread]
  refine Eq.trans ?_ (h a ⟨blockNo i, blockNo_lt i⟩)
  pointwise

set_option maxHeartbeats 4000000 in
/-- The body at a point past the first. -/
theorem body_later_value (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : ¬cond0_0 i)
    (x0 : Vec Ideal S4 .i32) (x1 : Vec Ideal S1x1088x1024 .bf16) (x2 : Vec Ideal S8x128 .f32) (G : Vec Ideal S1024x128 .f32) (F : Vec Ideal S3x32x128 .f32)
    (N : Vec Ideal S2x32x1024 .f32) (R : Vec Ideal S2x32x128 .f32) (hfill : Filled x0 x2 G F N R) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare G ∗ owns (c : Thread nD τ) arg9 fullShare F ∗ owns (c : Thread nD τ) arg10 fullShare N ∗ owns (c : Thread nD τ) arg11 fullShare R ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ owns (c : Thread nD τ) arg5 fullShare (recBlk x1 (gainOf x2) (tables x0 (blockNo i)) (farPos x0 (blockNo i))) ∗ owns (c : Thread nD τ) arg6 fullShare (codeBlk x1 (gainOf x2)) ∗ owns (c : Thread nD τ) arg7 fullShare (scaleBlk x1 (gainOf x2)) ∗ owns (c : Thread nD τ) arg8 fullShare G ∗ owns (c : Thread nD τ) arg9 fullShare F ∗ owns (c : Thread nD τ) arg10 fullShare N ∗ owns (c : Thread nD τ) arg11 fullShare R ∗ (∃ d, owns (c : Thread nD τ) arg12 fullShare d)) -∗ K ⟨⟩))
      ⊢ wp Idealize.ShloMosaic.frame (wpE (defs₀ (F := Ideal)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2
  obtain rfl := harg8.eq_unread hf8; obtain rfl := harg9.eq_unread hf9; obtain rfl := harg10.eq_unread hf10; obtain rfl := harg11.eq_unread hf11
  sl_exec (disch := first | sl_exact hc0)
  sl_step
  iapply Hk
  have hb := loop_blocks Variants.none c none i arg2 harg2 arg3 harg3 arg4 harg4 arg5 harg5 arg6 harg6 arg7 harg7 arg8 harg8 arg9 harg9 arg10 harg10 arg11 harg11 arg12 harg12
    x1 G F N (View.readAt (Elt Ideal) arg11.view (Rect.unit (s := S2x32x128) ![0, 0, 0] S1x32x128.size inb_S2x32x128_S1x32x128_0_0_0).toLoadRect (harg11.unread R))
    (View.readAt (Elt Ideal) arg11.view (Rect.unit (s := S2x32x128) ![1, 0, 0] S1x32x128.size inb_S2x32x128_S1x32x128_1_0_0).toLoadRect (harg11.unread R))
    (farPos x0 (blockNo i)) (gainOf x2) hfill.gain (tables x0 (blockNo i)) hfill.freq hfill.head hfill.rest hfill.nearC hfill.nearS
    (far_c i arg11 harg11 R (fun n => tabC (num (farPos x0 n))) hfill.farC) (far_s i arg11 harg11 R (fun n => tabS (num (farPos x0 n))) hfill.farS) f5 f6 f7 f12
  have hfp : Scalar.addi (body_later_value.sl.r c i arg2 harg2 x0) (Scalar.muli (BitVec.ofNat 32 ↑(i 1)) 1024#32) = farPos x0 (blockNo i) :=
    first_at i arg2 harg2 x0 _
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    rw [hfp]
    exact hb.1
  isplitl [H6]
  · iexists _; isplitr; swap; · iexact H6
    ipureintro
    rw [hfp]
    exact hb.2.1
  isplitl [H7]
  · iexists _; isplitr; swap; · iexact H7
    ipureintro
    rw [hfp]
    exact hb.2.2
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _, _; isplitr; swap; · iexact H12
  ipureintro; rfl

end Cert.KernelIdeal.Run
-- ==== Proof.Filled.lean ====
module
/-
  The first grid point fills the four tables: the gain by channel, the rope frequencies and their parts, and the cosines
  and sines of the positions inside a block and of the blocks' first positions.
-/
public import proofs.«01_k».proof.Proof.BodyLater
@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal Cert.KernelIdeal.Gen

/-- A stored piece of one plane of a three-dimensional table is a part of the function that gives the table's entries. -/
theorem plane3 {α : Type} {Q R C n1 n2 : ℕ} (g : ℕ → ℕ → ℕ → α) {off : Fin 3 → ℕ} (o0 o1 o2 : ℕ) (ho : off = ![o0, o1, o2])
    (inb : ∀ a, off a + (![1, n1, n2] : Fin 3 → ℕ) a ≤ (⟨3, ![Q, R, C]⟩ : Shape).size a)
    (w : (⟨3, ![1, n1, n2]⟩ : Shape).Idx → α) (h : ∀ (a : Fin n1) (b : Fin n2), w (ix3 0 a b) = g o0 (o1 + a.val) (o2 + b.val)) :
    ∀ x : (Rect.unit (s := ⟨3, ![Q, R, C]⟩) off ![1, n1, n2] inb).shape.Idx,
      w x = (fun y : (⟨3, ![Q, R, C]⟩ : Shape).Idx => g (y 0).val (y 1).val (y 2).val) ((Rect.unit off ![1, n1, n2] inb).emb x) := by
  subst ho
  intro x
  have h0 : (x 0).val = 0 := by have := (x 0).isLt; change _ < 1 at this; omega
  have hx : x = (ix3 (0 : Fin 1) (x 1) (x 2) : (⟨3, ![1, n1, n2]⟩ : Shape).Idx) := by
    funext a
    match a with
    | ⟨0, _⟩ => exact Fin.ext h0
    | ⟨1, _⟩ => rfl
    | ⟨2, _⟩ => rfl
  refine (congrArg w hx).trans ((h (x 1) (x 2)).trans ?_)
  show g o0 (o1 + (x 1).val) (o2 + (x 2).val) = g (o0 + 1 * (x 0).val) (o1 + 1 * (x 1).val) (o2 + 1 * (x 2).val)
  simp only [h0, Nat.one_mul, Nat.add_zero]

/-- Such a piece holds the indices of its plane and ranges. -/
theorem mem_plane {Q R C n1 n2 : ℕ} {off : Fin 3 → ℕ} (o0 o1 o2 : ℕ) (ho : off = ![o0, o1, o2])
    (inb : ∀ a, off a + (![1, n1, n2] : Fin 3 → ℕ) a ≤ (⟨3, ![Q, R, C]⟩ : Shape).size a) (y : (⟨3, ![Q, R, C]⟩ : Shape).Idx)
    (h0 : (y 0).val = o0) (h1 : o1 ≤ (y 1).val ∧ (y 1).val < o1 + n1) (h2 : o2 ≤ (y 2).val ∧ (y 2).val < o2 + n2) :
    y ∈ (Rect.unit (s := ⟨3, ![Q, R, C]⟩) off ![1, n1, n2] inb).set := by
  subst ho
  rw [Rect.mem_set_unit]
  intro a
  match a with
  | ⟨0, _⟩ => exact ⟨h0.ge, by show (y 0).val < o0 + 1; omega⟩
  | ⟨1, _⟩ => exact h1
  | ⟨2, _⟩ => exact h2

theorem piece2 {α : Type} {R C n1 n2 : ℕ} (g : ℕ → ℕ → α) {off : Fin 2 → ℕ} (o1 o2 : ℕ) (ho : off = ![o1, o2])
    (inb : ∀ a, off a + (![n1, n2] : Fin 2 → ℕ) a ≤ (⟨2, ![R, C]⟩ : Shape).size a)
    (w : (⟨2, ![n1, n2]⟩ : Shape).Idx → α) (h : ∀ (a : Fin n1) (b : Fin n2), w (ix2 a b) = g (o1 + a.val) (o2 + b.val)) :
    ∀ x : (Rect.unit (s := ⟨2, ![R, C]⟩) off ![n1, n2] inb).shape.Idx,
      w x = (fun y : (⟨2, ![R, C]⟩ : Shape).Idx => g (y 0).val (y 1).val) ((Rect.unit off ![n1, n2] inb).emb x) := by
  subst ho
  intro x
  have hx : x = (ix2 (x 0) (x 1) : (⟨2, ![n1, n2]⟩ : Shape).Idx) := by
    funext a
    match a with
    | ⟨0, _⟩ => rfl
    | ⟨1, _⟩ => rfl
  refine (congrArg w hx).trans ((h (x 0) (x 1)).trans ?_)
  show g (o1 + (x 0).val) (o2 + (x 1).val) = g (o1 + 1 * (x 0).val) (o2 + 1 * (x 1).val)
  rw [Nat.one_mul, Nat.one_mul]

theorem mem2 {R C n1 n2 : ℕ} {off : Fin 2 → ℕ} (o1 o2 : ℕ) (ho : off = ![o1, o2])
    (inb : ∀ a, off a + (![n1, n2] : Fin 2 → ℕ) a ≤ (⟨2, ![R, C]⟩ : Shape).size a) (y : (⟨2, ![R, C]⟩ : Shape).Idx)
    (h1 : o1 ≤ (y 0).val ∧ (y 0).val < o1 + n1) (h2 : o2 ≤ (y 1).val ∧ (y 1).val < o2 + n2) :
    y ∈ (Rect.unit (s := ⟨2, ![R, C]⟩) off ![n1, n2] inb).set := by
  subst ho
  rw [Rect.mem_set_unit]
  intro a
  match a with
  | ⟨0, _⟩ => exact h1
  | ⟨1, _⟩ => exact h2

/-- A row of the gain, turned and repeated over the lanes. -/
theorem gain_row (x2 : Vec Ideal S8x128 .f32) (arg4 : Memref sig .tc .vmem S8x128 .f32) (harg4 : arg4.IsWhole) (g : ℕ) (hg : g < 8) (o : ℕ) (ho : o = 128 * g)
    {off : Fin 2 → ℕ} (hoff : off = ![g, 0]) (inb : ∀ a, off a + S1x128.size a ≤ S8x128.size a)
    (p : Vec Ideal S1x128 .f32 → FVec Ideal S128x128 .f32) (hp : ∀ v c l, p v (ix2 c l) = v (ix2 0 c)) (c l : Fin 128) :
    p (View.readAt (Elt Ideal) arg4.view (Rect.unit (s := S8x128) off S1x128.size inb).toLoadRect (harg4.unread x2)) (ix2 c l)
      = gainOf x2 (o + c.val) := by
  subst ho; subst hoff
  have hc : (128 * g + c.val) / 128 = g := by omega
  have hm : (128 * g + c.val) % 128 = c.val := by omega
  rw [hp, View.readAt_eq_ld, harg4.read_unread]
  unfold gainOf
  rw [dif_pos (by omega)]
  refine congrArg x2 ?_
  funext a
  match a with
  | ⟨0, _⟩ => exact Fin.ext (show g + 1 * 0 = (128 * g + c.val) / 128 by omega)
  | ⟨1, _⟩ => exact Fin.ext (show 0 + 1 * c.val = (128 * g + c.val) % 128 by omega)

theorem pay10_at (v : Vec Ideal S1x128 .f32) (c l : Fin 128) : k0_pay10 (F := Ideal) v (ix2 c l) = v (ix2 0 c) := by
  unfold k0_pay10
  pointwise
theorem pay11_at (v : Vec Ideal S1x128 .f32) (c l : Fin 128) : k0_pay11 (F := Ideal) v (ix2 c l) = v (ix2 0 c) := by
  unfold k0_pay11
  pointwise
theorem pay12_at (v : Vec Ideal S1x128 .f32) (c l : Fin 128) : k0_pay12 (F := Ideal) v (ix2 c l) = v (ix2 0 c) := by
  unfold k0_pay12
  pointwise
theorem pay13_at (v : Vec Ideal S1x128 .f32) (c l : Fin 128) : k0_pay13 (F := Ideal) v (ix2 c l) = v (ix2 0 c) := by
  unfold k0_pay13
  pointwise
theorem pay16_at (v : Vec Ideal S1x128 .f32) (c l : Fin 128) : k0_pay16 (F := Ideal) v (ix2 c l) = v (ix2 0 c) := by
  unfold k0_pay16
  pointwise
theorem pay17_at (v : Vec Ideal S1x128 .f32) (c l : Fin 128) : k0_pay17 (F := Ideal) v (ix2 c l) = v (ix2 0 c) := by
  unfold k0_pay17
  pointwise
theorem pay18_at (v : Vec Ideal S1x128 .f32) (c l : Fin 128) : k0_pay18 (F := Ideal) v (ix2 c l) = v (ix2 0 c) := by
  unfold k0_pay18
  pointwise
theorem pay15_at (v : Vec Ideal S1x128 .f32) (c l : Fin 128) : k0_pay15 (F := Ideal) (k0_pay14 v) (ix2 c l) = v (ix2 0 c) := by
  unfold k0_pay15 k0_pay14
  pointwise

/-! What the first point stores. -/
/-- The gain's eight rows of 128 channels. -/
def gainPieces (arg4 : Memref sig .tc .vmem S8x128 .f32) (harg4 : arg4.IsWhole) (x2 : Vec Ideal S8x128 .f32) : List (View.Piece (Elt Ideal) S1024x128 .f32) :=
  [⟨Rect.unit ![896, 0] S128x128.size inb_S1024x128_S128x128_896_0, k0_pay18 (View.readAt (Elt Ideal) arg4.view (Rect.unit (s := S8x128) ![7, 0] S1x128.size inb_S8x128_S1x128_7_0).toLoadRect (harg4.unread x2))⟩,
   ⟨Rect.unit ![768, 0] S128x128.size inb_S1024x128_S128x128_768_0, k0_pay17 (View.readAt (Elt Ideal) arg4.view (Rect.unit (s := S8x128) ![6, 0] S1x128.size inb_S8x128_S1x128_6_0).toLoadRect (harg4.unread x2))⟩,
   ⟨Rect.unit ![640, 0] S128x128.size inb_S1024x128_S128x128_640_0, k0_pay16 (View.readAt (Elt Ideal) arg4.view (Rect.unit (s := S8x128) ![5, 0] S1x128.size inb_S8x128_S1x128_5_0).toLoadRect (harg4.unread x2))⟩,
   ⟨Rect.unit ![512, 0] S128x128.size inb_S1024x128_S128x128_512_0, k0_pay15 (k0_pay14 (View.readAt (Elt Ideal) arg4.view (Rect.unit (s := S8x128) ![4, 0] S1x128.size inb_S8x128_S1x128_4_0).toLoadRect (harg4.unread x2)))⟩,
   ⟨Rect.unit ![384, 0] S128x128.size inb_S1024x128_S128x128_384_0, k0_pay13 (View.readAt (Elt Ideal) arg4.view (Rect.unit (s := S8x128) ![3, 0] S1x128.size inb_S8x128_S1x128_3_0).toLoadRect (harg4.unread x2))⟩,
   ⟨Rect.unit ![256, 0] S128x128.size inb_S1024x128_S128x128_256_0, k0_pay12 (View.readAt (Elt Ideal) arg4.view (Rect.unit (s := S8x128) ![2, 0] S1x128.size inb_S8x128_S1x128_2_0).toLoadRect (harg4.unread x2))⟩,
   ⟨Rect.unit ![128, 0] S128x128.size inb_S1024x128_S128x128_128_0, k0_pay11 (View.readAt (Elt Ideal) arg4.view (Rect.unit (s := S8x128) ![1, 0] S1x128.size inb_S8x128_S1x128_1_0).toLoadRect (harg4.unread x2))⟩,
   ⟨Rect.unit ![0, 0] S128x128.size inb_S1024x128_S128x128_0_0, k0_pay10 (View.readAt (Elt Ideal) arg4.view (Rect.unit (s := S8x128) ![0, 0] S1x128.size inb_S8x128_S1x128_0_0).toLoadRect (harg4.unread x2))⟩]
/-- The lane's number, -/
def laneNo : IVec S32x128 32 := iota Kind.tc S32x128 32 [1] iota_S32x128_d1_w32
/-- the frequencies, -/
def fr : FVec Ideal S32x128 .f32 := k0_pay19
/-- the words of their magnitudes, -/
def frBits : IVec S32x128 32 := k0_pay33 fr (k0_pay21 fr) (k0_pay31 fr) (k0_pay32 fr) (FloatOps.ofBits (F := Ideal) .f32 0x41800000#32)
/-- their leading parts -/
def frHead : FVec Ideal S32x128 .f32 := k0_pay35 frBits (k0_pay34 fr)
/-- and the remainders. -/
def frRest : FVec Ideal S32x128 .f32 := k0_pay36 fr frBits (k0_pay34 fr)
def freqPieces : List (View.Piece (Elt Ideal) S3x32x128 .f32) :=
  [⟨Rect.unit ![2, 0, 0] S1x32x128.size inb_S3x32x128_S1x32x128_2_0_0, k0_pay38 fr frBits (k0_pay34 fr)⟩,
   ⟨Rect.unit ![1, 0, 0] S1x32x128.size inb_S3x32x128_S1x32x128_1_0_0, k0_pay37 (F := Ideal) frBits (k0_pay34 fr)⟩,
   ⟨Rect.unit ![0, 0, 0] S1x32x128.size inb_S3x32x128_S1x32x128_0_0_0, k0_pay20 fr⟩]
/-- A sequence's first position, as the body reads it. -/
def seqPos (arg2 : Memref sig .tc .smem S4 .i32) (harg2 : arg2.IsWhole) (x0 : Vec Ideal S4 .i32) (off : Fin 1 → ℕ) (inb : ∀ a, off a + S1.size a ≤ S4.size a) (h : 0 < S1.numel) : BitVec 32 :=
  View.readAt (Elt Ideal) arg2.view (Rect.unit (s := S4) off S1.size inb).toLoadRect (harg2.unread x0) (Shape.Idx.first (s := S1) h)
/-- The sequence's first position in the lanes of its eight blocks. -/
def seqLanes (p0 p1 p2 p3 : BitVec 32) : IVec S32x128 32 :=
  k0_pay44 (F := Ideal) laneNo (k0_pay41 (F := Ideal) laneNo k0_pay39 k0_pay40 p0 p1) (8#32) (k0_pay42 laneNo) (k0_pay43 laneNo) (1#32) (0#32) p2 p3
def farPieces (p0 p1 p2 p3 : BitVec 32) : List (View.Piece (Elt Ideal) S2x32x128 .f32) :=
  [⟨Rect.unit ![1, 0, 0] S1x32x128.size inb_S2x32x128_S1x32x128_1_0_0, k0_pay52 fr frHead frRest laneNo (seqLanes p0 p1 p2 p3) k0_pay45⟩,
   ⟨Rect.unit ![0, 0, 0] S1x32x128.size inb_S2x32x128_S1x32x128_0_0_0, k0_pay51 fr frHead frRest laneNo (seqLanes p0 p1 p2 p3) k0_pay45⟩]
def nearPieces : List (View.Piece (Elt Ideal) S2x32x1024 .f32) :=
  [⟨Rect.unit ![1, 0, 896] S1x32x128.size inb_S2x32x1024_S1x32x128_1_0_896, k0_pay5 frRest (k0_pay103 laneNo) (k0_pay104 fr laneNo) (k0_pay105 frHead laneNo)⟩,
   ⟨Rect.unit ![0, 0, 896] S1x32x128.size inb_S2x32x1024_S1x32x128_0_0_896, k0_pay4 frRest (k0_pay103 laneNo) (k0_pay104 fr laneNo) (k0_pay105 frHead laneNo)⟩,
   ⟨Rect.unit ![1, 0, 768] S1x32x128.size inb_S2x32x1024_S1x32x128_1_0_768, k0_pay102 fr frHead frRest laneNo⟩,
   ⟨Rect.unit ![0, 0, 768] S1x32x128.size inb_S2x32x1024_S1x32x128_0_0_768, k0_pay101 fr frHead frRest laneNo⟩,
   ⟨Rect.unit ![1, 0, 640] S1x32x128.size inb_S2x32x1024_S1x32x128_1_0_640, k0_pay95 fr frHead frRest (k0_pay89 laneNo)⟩,
   ⟨Rect.unit ![0, 0, 640] S1x32x128.size inb_S2x32x1024_S1x32x128_0_0_640, k0_pay94 fr frHead frRest (k0_pay89 laneNo)⟩,
   ⟨Rect.unit ![1, 0, 512] S1x32x128.size inb_S2x32x1024_S1x32x128_1_0_512, k0_pay88 fr frHead frRest laneNo⟩,
   ⟨Rect.unit ![0, 0, 512] S1x32x128.size inb_S2x32x1024_S1x32x128_0_0_512, k0_pay87 fr frHead frRest laneNo⟩,
   ⟨Rect.unit ![1, 0, 384] S1x32x128.size inb_S2x32x1024_S1x32x128_1_0_384, k0_pay81 fr frHead frRest laneNo k0_pay74⟩,
   ⟨Rect.unit ![0, 0, 384] S1x32x128.size inb_S2x32x1024_S1x32x128_0_0_384, k0_pay80 fr frHead frRest laneNo k0_pay74⟩,
   ⟨Rect.unit ![1, 0, 256] S1x32x128.size inb_S2x32x1024_S1x32x128_1_0_256, k0_pay73 fr frHead frRest laneNo⟩,
   ⟨Rect.unit ![0, 0, 256] S1x32x128.size inb_S2x32x1024_S1x32x128_0_0_256, k0_pay72 fr frHead frRest laneNo⟩,
   ⟨Rect.unit ![1, 0, 128] S1x32x128.size inb_S2x32x1024_S1x32x128_1_0_128, k0_pay66 fr frHead frRest laneNo⟩,
   ⟨Rect.unit ![0, 0, 128] S1x32x128.size inb_S2x32x1024_S1x32x128_0_0_128, k0_pay65 fr frHead frRest laneNo⟩,
   ⟨Rect.unit ![1, 0, 0] S1x32x128.size inb_S2x32x1024_S1x32x128_1_0_0, k0_pay59 fr frHead frRest laneNo⟩,
   ⟨Rect.unit ![0, 0, 0] S1x32x128.size inb_S2x32x1024_S1x32x128_0_0_0, k0_pay58 fr frHead frRest laneNo⟩]

/-- The gain's table. -/
theorem gain_filled (x2 : Vec Ideal S8x128 .f32) (arg4 : Memref sig .tc .vmem S8x128 .f32) (harg4 : arg4.IsWhole) (arg8 : Memref sig .tc .vmem S1024x128 .f32)
    (a : Fin 1024) (l : Fin 128) : View.read (Elt Ideal) arg8.view (arg8.view.writes (Elt Ideal) arg8.view.junk (gainPieces arg4 harg4 x2)) (ix2 a l) = gainOf x2 a.val := by
  refine read_pieces arg8.view _ (fun y : S1024x128.Idx => gainOf x2 (y 0).val) _ ?_ _ ?_
  · unfold gainPieces
    refine ⟨piece2 (fun a _ => gainOf x2 a) 896 0 rfl inb_S1024x128_S128x128_896_0 _ fun c l => ?_, ?_⟩
    · exact gain_row x2 arg4 harg4 7 (by decide) _ rfl rfl inb_S8x128_S1x128_7_0 (fun v => k0_pay18 (F := Ideal) v) pay18_at c l
    refine ⟨piece2 (fun a _ => gainOf x2 a) 768 0 rfl inb_S1024x128_S128x128_768_0 _ fun c l => ?_, ?_⟩
    · exact gain_row x2 arg4 harg4 6 (by decide) _ rfl rfl inb_S8x128_S1x128_6_0 (fun v => k0_pay17 (F := Ideal) v) pay17_at c l
    refine ⟨piece2 (fun a _ => gainOf x2 a) 640 0 rfl inb_S1024x128_S128x128_640_0 _ fun c l => ?_, ?_⟩
    · exact gain_row x2 arg4 harg4 5 (by decide) _ rfl rfl inb_S8x128_S1x128_5_0 (fun v => k0_pay16 (F := Ideal) v) pay16_at c l
    refine ⟨piece2 (fun a _ => gainOf x2 a) 512 0 rfl inb_S1024x128_S128x128_512_0 _ fun c l => ?_, ?_⟩
    · exact gain_row x2 arg4 harg4 4 (by decide) _ rfl rfl inb_S8x128_S1x128_4_0 (fun v => k0_pay15 (F := Ideal) (k0_pay14 v)) pay15_at c l
    refine ⟨piece2 (fun a _ => gainOf x2 a) 384 0 rfl inb_S1024x128_S128x128_384_0 _ fun c l => ?_, ?_⟩
    · exact gain_row x2 arg4 harg4 3 (by decide) _ rfl rfl inb_S8x128_S1x128_3_0 (fun v => k0_pay13 (F := Ideal) v) pay13_at c l
    refine ⟨piece2 (fun a _ => gainOf x2 a) 256 0 rfl inb_S1024x128_S128x128_256_0 _ fun c l => ?_, ?_⟩
    · exact gain_row x2 arg4 harg4 2 (by decide) _ rfl rfl inb_S8x128_S1x128_2_0 (fun v => k0_pay12 (F := Ideal) v) pay12_at c l
    refine ⟨piece2 (fun a _ => gainOf x2 a) 128 0 rfl inb_S1024x128_S128x128_128_0 _ fun c l => ?_, ?_⟩
    · exact gain_row x2 arg4 harg4 1 (by decide) _ rfl rfl inb_S8x128_S1x128_1_0 (fun v => k0_pay11 (F := Ideal) v) pay11_at c l
    refine ⟨piece2 (fun a _ => gainOf x2 a) 0 0 rfl inb_S1024x128_S128x128_0_0 _ fun c l => ?_, ?_⟩
    · exact gain_row x2 arg4 harg4 0 (by decide) _ rfl rfl inb_S8x128_S1x128_0_0 (fun v => k0_pay10 (F := Ideal) v) pay10_at c l
    trivial
  · unfold gainPieces
    have hl := l.isLt
    have ha := a.isLt
    by_cases h7 : 896 ≤ a.val
    · refine ⟨_, .head _, ?_⟩; exact mem2 896 0 rfl inb_S1024x128_S128x128_896_0 _ ⟨by show _ ≤ a.val; omega, by show a.val < _; omega⟩ ⟨Nat.zero_le _, by show l.val < _; omega⟩
    by_cases h6 : 768 ≤ a.val
    · refine ⟨_, .tail _ (.head _), ?_⟩; exact mem2 768 0 rfl inb_S1024x128_S128x128_768_0 _ ⟨by show _ ≤ a.val; omega, by show a.val < _; omega⟩ ⟨Nat.zero_le _, by show l.val < _; omega⟩
    by_cases h5 : 640 ≤ a.val
    · refine ⟨_, .tail _ (.tail _ (.head _)), ?_⟩; exact mem2 640 0 rfl inb_S1024x128_S128x128_640_0 _ ⟨by show _ ≤ a.val; omega, by show a.val < _; omega⟩ ⟨Nat.zero_le _, by show l.val < _; omega⟩
    by_cases h4 : 512 ≤ a.val
    · refine ⟨_, .tail _ (.tail _ (.tail _ (.head _))), ?_⟩; exact mem2 512 0 rfl inb_S1024x128_S128x128_512_0 _ ⟨by show _ ≤ a.val; omega, by show a.val < _; omega⟩ ⟨Nat.zero_le _, by show l.val < _; omega⟩
    by_cases h3 : 384 ≤ a.val
    · refine ⟨_, .tail _ (.tail _ (.tail _ (.tail _ (.head _)))), ?_⟩; exact mem2 384 0 rfl inb_S1024x128_S128x128_384_0 _ ⟨by show _ ≤ a.val; omega, by show a.val < _; omega⟩ ⟨Nat.zero_le _, by show l.val < _; omega⟩
    by_cases h2 : 256 ≤ a.val
    · refine ⟨_, .tail _ (.tail _ (.tail _ (.tail _ (.tail _ (.head _))))), ?_⟩; exact mem2 256 0 rfl inb_S1024x128_S128x128_256_0 _ ⟨by show _ ≤ a.val; omega, by show a.val < _; omega⟩ ⟨Nat.zero_le _, by show l.val < _; omega⟩
    by_cases h1 : 128 ≤ a.val
    · refine ⟨_, .tail _ (.tail _ (.tail _ (.tail _ (.tail _ (.tail _ (.head _)))))), ?_⟩; exact mem2 128 0 rfl inb_S1024x128_S128x128_128_0 _ ⟨by show _ ≤ a.val; omega, by show a.val < _; omega⟩ ⟨Nat.zero_le _, by show l.val < _; omega⟩
    refine ⟨_, .tail _ (.tail _ (.tail _ (.tail _ (.tail _ (.tail _ (.tail _ (.head _))))))), ?_⟩; exact mem2 0 0 rfl inb_S1024x128_S128x128_0_0 _ ⟨by show _ ≤ a.val; omega, by show a.val < _; omega⟩ ⟨Nat.zero_le _, by show l.val < _; omega⟩

/-! The frequencies. -/
theorem fr_at (a : Fin 32) (l : Fin 128) : fr (ix2 a l) = ropeFreq a.val := by
  unfold fr k0_pay19
  pointwise
  rfl
theorem laneNo_at (a : Fin 32) (l : Fin 128) : laneNo (ix2 a l) = BitVec.ofNat 32 l.val := by
  unfold laneNo
  pointwise
theorem pay33_at (v : FVec Ideal S32x128 .f32) (w) (j : S32x128.Idx) (hw : w = FloatOps.ofBits (F := Ideal) .f32 0x41800000#32) :
    k0_pay33 v (k0_pay21 v) (k0_pay31 v) (k0_pay32 v) w j = absBits (v j) := by
  subst hw
  unfold k0_pay33
  unfold_payloads
  simp only [↓sel_at, ↓cmpf_at, ↓cmpi_at, ↓mulf_at, ↓divf_at, ↓absf_at, ↓addi_at, ↓muli_at, ↓ori_at, ↓andi_at, ↓fptosi_at, ↓bc_at]
  rfl
theorem pay34_at (v : FVec Ideal S32x128 .f32) (j : S32x128.Idx) : k0_pay34 v j = signTest (v j) := rfl
theorem frHead_at (a : Fin 32) (l : Fin 128) : frHead (ix2 a l) = ropeHead a.val := by
  unfold frHead frBits k0_pay35
  have h := pay33_at fr _ (ix2 a l) rfl
  have h' := pay34_at fr (ix2 a l)
  generalize k0_pay33 (F := Ideal) fr _ _ _ _ = B at h
  generalize k0_pay34 (F := Ideal) fr = S at h'
  rw [fr_at] at h h'
  show Ideal.ofBits .f32 (IntOp.andi (Scalar.select (S (ix2 a l)) (Scalar.ori (B (ix2 a l)) 2147483648#32) (B (ix2 a l))) 4294934528#32) = _
  rw [h, h']
  rfl
theorem frRest_at (a : Fin 32) (l : Fin 128) : frRest (ix2 a l) = ropeRest a.val := by
  have h := frHead_at a l
  unfold frHead at h
  unfold frRest k0_pay36
  generalize k0_pay35 (F := Ideal) frBits (k0_pay34 fr) = H at h
  show fr (ix2 a l) - H (ix2 a l) = _
  rw [h, fr_at]; rfl
theorem freq_filled (arg9 : Memref sig .tc .vmem S3x32x128 .f32) (q : Fin 3) (a : Fin 32) (l : Fin 128) :
    View.read (Elt Ideal) arg9.view (arg9.view.writes (Elt Ideal) arg9.view.junk freqPieces) (ix3 q a l)
      = (if q.val = 0 then ropeFreq a.val else if q.val = 1 then ropeHead a.val else ropeRest a.val) := by
  refine read_pieces arg9.view _ (fun y : S3x32x128.Idx => if (y 0).val = 0 then ropeFreq (y 1).val else if (y 0).val = 1 then ropeHead (y 1).val else ropeRest (y 1).val) _ ?_ _ ?_
  · unfold freqPieces
    refine ⟨plane3 (fun q a _ => if q = 0 then ropeFreq a else if q = 1 then ropeHead a else ropeRest a) 2 0 0 rfl inb_S3x32x128_S1x32x128_2_0_0 _ fun a l => ?_, ?_⟩
    · rw [Nat.zero_add]
      refine Eq.trans ?_ (frRest_at a l)
      unfold frRest k0_pay38
      generalize k0_pay36 (F := Ideal) fr frBits (k0_pay34 fr) = H
      pointwise
    refine ⟨plane3 (fun q a _ => if q = 0 then ropeFreq a else if q = 1 then ropeHead a else ropeRest a) 1 0 0 rfl inb_S3x32x128_S1x32x128_1_0_0 _ fun a l => ?_, ?_⟩
    · rw [Nat.zero_add]
      refine Eq.trans ?_ (frHead_at a l)
      unfold frHead k0_pay37
      generalize k0_pay35 (F := Ideal) frBits (k0_pay34 fr) = H
      pointwise
    refine ⟨plane3 (fun q a _ => if q = 0 then ropeFreq a else if q = 1 then ropeHead a else ropeRest a) 0 0 0 rfl inb_S3x32x128_S1x32x128_0_0_0 _ fun a l => ?_, ?_⟩
    · rw [Nat.zero_add]
      refine Eq.trans ?_ (fr_at a l)
      unfold k0_pay20
      generalize fr = H
      pointwise
    trivial
  · unfold freqPieces
    have hl := l.isLt
    have ha := a.isLt
    have hq := q.isLt
    have h1 : 0 ≤ a.val ∧ a.val < 0 + 32 := by omega
    have h2 : 0 ≤ l.val ∧ l.val < 0 + 128 := by omega
    by_cases c2 : q.val = 2
    · refine ⟨_, .head _, ?_⟩; exact mem_plane 2 0 0 rfl inb_S3x32x128_S1x32x128_2_0_0 _ c2 h1 h2
    by_cases c1 : q.val = 1
    · refine ⟨_, .tail _ (.head _), ?_⟩; exact mem_plane 1 0 0 rfl inb_S3x32x128_S1x32x128_1_0_0 _ c1 h1 h2
    refine ⟨_, .tail _ (.tail _ (.head _)), ?_⟩; exact mem_plane 0 0 0 rfl inb_S3x32x128_S1x32x128_0_0_0 _ (by show q.val = 0; omega) h1 h2

/-! The cosines and sines. -/
theorem nearC0_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay58 (F := Ideal) f h r n (ix3 0 a l) = tabC (num (n (ix2 a l) + 0#32)) a.val := by
  unfold tabC slack
  rw [← hf, ← hh, ← hr]
  unfold_payloads
  pointwise
  rfl
theorem nearS0_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay59 (F := Ideal) f h r n (ix3 0 a l) = tabS (num (n (ix2 a l) + 0#32)) a.val := by
  unfold tabS slack
  rw [← hf, ← hh, ← hr]
  unfold_payloads
  pointwise
  rfl
theorem nearC1_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay65 (F := Ideal) f h r n (ix3 0 a l) = tabC (num (n (ix2 a l) + 128#32)) a.val := by
  unfold tabC slack
  rw [← hf, ← hh, ← hr]
  unfold_payloads
  pointwise
  rfl
theorem nearS1_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay66 (F := Ideal) f h r n (ix3 0 a l) = tabS (num (n (ix2 a l) + 128#32)) a.val := by
  unfold tabS slack
  rw [← hf, ← hh, ← hr]
  unfold_payloads
  pointwise
  rfl
theorem nearC2_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay72 (F := Ideal) f h r n (ix3 0 a l) = tabC (num (n (ix2 a l) + 256#32)) a.val := by
  unfold tabC slack
  rw [← hf, ← hh, ← hr]
  unfold_payloads
  pointwise
  rfl
theorem nearS2_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay73 (F := Ideal) f h r n (ix3 0 a l) = tabS (num (n (ix2 a l) + 256#32)) a.val := by
  unfold tabS slack
  rw [← hf, ← hh, ← hr]
  unfold_payloads
  pointwise
  rfl
theorem nearC3_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay80 (F := Ideal) f h r n k0_pay74 (ix3 0 a l) = tabC (num (n (ix2 a l) + 384#32)) a.val := by
  unfold tabC slack
  rw [← hf, ← hh, ← hr]
  unfold_payloads
  pointwise
  rfl
theorem nearS3_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay81 (F := Ideal) f h r n k0_pay74 (ix3 0 a l) = tabS (num (n (ix2 a l) + 384#32)) a.val := by
  unfold tabS slack
  rw [← hf, ← hh, ← hr]
  unfold_payloads
  pointwise
  rfl
theorem nearC4_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay87 (F := Ideal) f h r n (ix3 0 a l) = tabC (num (n (ix2 a l) + 512#32)) a.val := by
  unfold tabC slack
  rw [← hf, ← hh, ← hr]
  unfold_payloads
  pointwise
  rfl
theorem nearS4_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay88 (F := Ideal) f h r n (ix3 0 a l) = tabS (num (n (ix2 a l) + 512#32)) a.val := by
  unfold tabS slack
  rw [← hf, ← hh, ← hr]
  unfold_payloads
  pointwise
  rfl
theorem nearC5_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay94 (F := Ideal) f h r (k0_pay89 n) (ix3 0 a l) = tabC (num (n (ix2 a l) + 640#32)) a.val := by
  unfold tabC slack
  rw [← hf, ← hh, ← hr]
  unfold_payloads
  pointwise
  rfl
theorem nearS5_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay95 (F := Ideal) f h r (k0_pay89 n) (ix3 0 a l) = tabS (num (n (ix2 a l) + 640#32)) a.val := by
  unfold tabS slack
  rw [← hf, ← hh, ← hr]
  unfold_payloads
  pointwise
  rfl
theorem nearC6_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay101 (F := Ideal) f h r n (ix3 0 a l) = tabC (num (n (ix2 a l) + 768#32)) a.val := by
  unfold tabC slack
  rw [← hf, ← hh, ← hr]
  unfold_payloads
  pointwise
  rfl
theorem nearS6_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay102 (F := Ideal) f h r n (ix3 0 a l) = tabS (num (n (ix2 a l) + 768#32)) a.val := by
  unfold tabS slack
  rw [← hf, ← hh, ← hr]
  unfold_payloads
  pointwise
  rfl
theorem nearC7_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay4 (F := Ideal) r (k0_pay103 n) (k0_pay104 f n) (k0_pay105 h n) (ix3 0 a l) = tabC (num (n (ix2 a l) + 896#32)) a.val := by
  unfold tabC slack
  rw [← hf, ← hh, ← hr]
  unfold_payloads
  pointwise
  rfl
theorem nearS7_at (f h r : FVec Ideal S32x128 .f32) (n : IVec S32x128 32) (a : Fin 32) (l : Fin 128) (hf : f (ix2 a l) = ropeFreq a.val) (hh : h (ix2 a l) = ropeHead a.val)
    (hr : r (ix2 a l) = ropeRest a.val) : k0_pay5 (F := Ideal) r (k0_pay103 n) (k0_pay104 f n) (k0_pay105 h n) (ix3 0 a l) = tabS (num (n (ix2 a l) + 896#32)) a.val := by
  unfold tabS slack
  rw [← hf, ← hh, ← hr]
  unfold_payloads
  pointwise
  rfl
theorem near_word (l : Fin 128) (o : ℕ) (w : BitVec 32) (hw : w = BitVec.ofNat 32 o) : BitVec.ofNat 32 l.val + w = BitVec.ofNat 32 (o + l.val) := by
  rw [hw, ← BitVec.ofNat_add, Nat.add_comm]
/-- Cosine (0) or sine (1). -/
def tabCS (q : ℕ) : EReal → ℕ → EReal := if q = 0 then tabC else tabS
theorem near_filled (arg10 : Memref sig .tc .vmem S2x32x1024 .f32) (q : Fin 2) (a : Fin 32) (t : Fin 1024) :
    View.read (Elt Ideal) arg10.view (arg10.view.writes (Elt Ideal) arg10.view.junk nearPieces) (ix3 q a t) = tabCS q.val (num (BitVec.ofNat 32 t.val)) a.val := by
  refine read_pieces arg10.view _ (fun y : S2x32x1024.Idx => tabCS (y 0).val (num (BitVec.ofNat 32 (y 2).val)) (y 1).val) _ ?_ _ ?_
  · unfold nearPieces
    refine ⟨plane3 (fun q a t => tabCS q (num (BitVec.ofNat 32 t)) a) 1 0 896 rfl inb_S2x32x1024_S1x32x128_1_0_896 _ fun a l => ?_, ?_⟩
    · refine (nearS7_at fr frHead frRest laneNo a l (fr_at a l) (frHead_at a l) (frRest_at a l)).trans ?_
      rw [laneNo_at, near_word l 896 _ rfl]
      show _ = tabCS 1 (num (BitVec.ofNat 32 (896 + l.val))) (0 + a.val)
      rw [Nat.zero_add a.val]
      rfl
    refine ⟨plane3 (fun q a t => tabCS q (num (BitVec.ofNat 32 t)) a) 0 0 896 rfl inb_S2x32x1024_S1x32x128_0_0_896 _ fun a l => ?_, ?_⟩
    · refine (nearC7_at fr frHead frRest laneNo a l (fr_at a l) (frHead_at a l) (frRest_at a l)).trans ?_
      rw [laneNo_at, near_word l 896 _ rfl]
      show _ = tabCS 0 (num (BitVec.ofNat 32 (896 + l.val))) (0 + a.val)
      rw [Nat.zero_add a.val]
      rfl
    refine ⟨plane3 (fun q a t => tabCS q (num (BitVec.ofNat 32 t)) a) 1 0 768 rfl inb_S2x32x1024_S1x32x128_1_0_768 _ fun a l => ?_, ?_⟩
    · refine (nearS6_at fr frHead frRest laneNo a l (fr_at a l) (frHead_at a l) (frRest_at a l)).trans ?_
      rw [laneNo_at, near_word l 768 _ rfl]
      show _ = tabCS 1 (num (BitVec.ofNat 32 (768 + l.val))) (0 + a.val)
      rw [Nat.zero_add a.val]
      rfl
    refine ⟨plane3 (fun q a t => tabCS q (num (BitVec.ofNat 32 t)) a) 0 0 768 rfl inb_S2x32x1024_S1x32x128_0_0_768 _ fun a l => ?_, ?_⟩
    · refine (nearC6_at fr frHead frRest laneNo a l (fr_at a l) (frHead_at a l) (frRest_at a l)).trans ?_
      rw [laneNo_at, near_word l 768 _ rfl]
      show _ = tabCS 0 (num (BitVec.ofNat 32 (768 + l.val))) (0 + a.val)
      rw [Nat.zero_add a.val]
      rfl
    refine ⟨plane3 (fun q a t => tabCS q (num (BitVec.ofNat 32 t)) a) 1 0 640 rfl inb_S2x32x1024_S1x32x128_1_0_640 _ fun a l => ?_, ?_⟩
    · refine (nearS5_at fr frHead frRest laneNo a l (fr_at a l) (frHead_at a l) (frRest_at a l)).trans ?_
      rw [laneNo_at, near_word l 640 _ rfl]
      show _ = tabCS 1 (num (BitVec.ofNat 32 (640 + l.val))) (0 + a.val)
      rw [Nat.zero_add a.val]
      rfl
    refine ⟨plane3 (fun q a t => tabCS q (num (BitVec.ofNat 32 t)) a) 0 0 640 rfl inb_S2x32x1024_S1x32x128_0_0_640 _ fun a l => ?_, ?_⟩
    · refine (nearC5_at fr frHead frRest laneNo a l (fr_at a l) (frHead_at a l) (frRest_at a l)).trans ?_
      rw [laneNo_at, near_word l 640 _ rfl]
      show _ = tabCS 0 (num (BitVec.ofNat 32 (640 + l.val))) (0 + a.val)
      rw [Nat.zero_add a.val]
      rfl
    refine ⟨plane3 (fun q a t => tabCS q (num (BitVec.ofNat 32 t)) a) 1 0 512 rfl inb_S2x32x1024_S1x32x128_1_0_512 _ fun a l => ?_, ?_⟩
    · refine (nearS4_at fr frHead frRest laneNo a l (fr_at a l) (frHead_at a l) (frRest_at a l)).trans ?_
      rw [laneNo_at, near_word l 512 _ rfl]
      show _ = tabCS 1 (num (BitVec.ofNat 32 (512 + l.val))) (0 + a.val)
      rw [Nat.zero_add a.val]
      rfl
    refine ⟨plane3 (fun q a t => tabCS q (num (BitVec.ofNat 32 t)) a) 0 0 512 rfl inb_S2x32x1024_S1x32x128_0_0_512 _ fun a l => ?_, ?_⟩
    · refine (nearC4_at fr frHead frRest laneNo a l (fr_at a l) (frHead_at a l) (frRest_at a l)).trans ?_
      rw [laneNo_at, near_word l 512 _ rfl]
      show _ = tabCS 0 (num (BitVec.ofNat 32 (512 + l.val))) (0 + a.val)
      rw [Nat.zero_add a.val]
      rfl
    refine ⟨plane3 (fun q a t => tabCS q (num (BitVec.ofNat 32 t)) a) 1 0 384 rfl inb_S2x32x1024_S1x32x128_1_0_384 _ fun a l => ?_, ?_⟩
    · refine (nearS3_at fr frHead frRest laneNo a l (fr_at a l) (frHead_at a l) (frRest_at a l)).trans ?_
      rw [laneNo_at, near_word l 384 _ rfl]
      show _ = tabCS 1 (num (BitVec.ofNat 32 (384 + l.val))) (0 + a.val)
      rw [Nat.zero_add a.val]
      rfl
    refine ⟨plane3 (fun q a t => tabCS q (num (BitVec.ofNat 32 t)) a) 0 0 384 rfl inb_S2x32x1024_S1x32x128_0_0_384 _ fun a l => ?_, ?_⟩
    · refine (nearC3_at fr frHead frRest laneNo a l (fr_at a l) (frHead_at a l) (frRest_at a l)).trans ?_
      rw [laneNo_at, near_word l 384 _ rfl]
      show _ = tabCS 0 (num (BitVec.ofNat 32 (384 + l.val))) (0 + a.val)
      rw [Nat.zero_add a.val]
      rfl
    refine ⟨plane3 (fun q a t => tabCS q (num (BitVec.ofNat 32 t)) a) 1 0 256 rfl inb_S2x32x1024_S1x32x128_1_0_256 _ fun a l => ?_, ?_⟩
    · refine (nearS2_at fr frHead frRest laneNo a l (fr_at a l) (frHead_at a l) (frRest_at a l)).trans ?_
      rw [laneNo_at, near_word l 256 _ rfl]
      show _ = tabCS 1 (num (BitVec.ofNat 32 (256 + l.val))) (0 + a.val)
      rw [Nat.zero_add a.val]
      rfl
    refine ⟨plane3 (fun q a t => tabCS q (num (BitVec.ofNat 32 t)) a) 0 0 256 rfl inb_S2x32x1024_S1x32x128_0_0_256 _ fun a l => ?_, ?_⟩
    · refine (nearC2_at fr frHead frRest laneNo a l (fr_at a l) (frHead_at a l) (frRest_at a l)).trans ?_
      rw [laneNo_at, near_word l 256 _ rfl]
      show _ = tabCS 0 (num (BitVec.ofNat 32 (256 + l.val))) (0 + a.val)
      rw [Nat.zero_add a.val]
      rfl
    refine ⟨plane3 (fun q a t => tabCS q (num (BitVec.ofNat 32 t)) a) 1 0 128 rfl inb_S2x32x1024_S1x32x128_1_0_128 _ fun a l => ?_, ?_⟩
    · refine (nearS1_at fr frHead frRest laneNo a l (fr_at a l) (frHead_at a l) (frRest_at a l)).trans ?_
      rw [laneNo_at, near_word l 128 _ rfl]
      show _ = tabCS 1 (num (BitVec.ofNat 32 (128 + l.val))) (0 + a.val)
      rw [Nat.zero_add a.val]
      rfl
    refine ⟨plane3 (fun q a t => tabCS q (num (BitVec.ofNat 32 t)) a) 0 0 128 rfl inb_S2x32x1024_S1x32x128_0_0_128 _ fun a l => ?_, ?_⟩
    · refine (nearC1_at fr frHead frRest laneNo a l (fr_at a l) (frHead_at a l) (frRest_at a l)).trans ?_
      rw [laneNo_at, near_word l 128 _ rfl]
      show _ = tabCS 0 (num (BitVec.ofNat 32 (128 + l.val))) (0 + a.val)
      rw [Nat.zero_add a.val]
      rfl
    refine ⟨plane3 (fun q a t => tabCS q (num (BitVec.ofNat 32 t)) a) 1 0 0 rfl inb_S2x32x1024_S1x32x128_1_0_0 _ fun a l => ?_, ?_⟩
    · refine (nearS0_at fr frHead frRest laneNo a l (fr_at a l) (frHead_at a l) (frRest_at a l)).trans ?_
      rw [laneNo_at, near_word l 0 _ rfl]
      show _ = tabCS 1 (num (BitVec.ofNat 32 (0 + l.val))) (0 + a.val)
      rw [Nat.zero_add a.val]
      rfl
    refine ⟨plane3 (fun q a t => tabCS q (num (BitVec.ofNat 32 t)) a) 0 0 0 rfl inb_S2x32x1024_S1x32x128_0_0_0 _ fun a l => ?_, ?_⟩
    · refine (nearC0_at fr frHead frRest laneNo a l (fr_at a l) (frHead_at a l) (frRest_at a l)).trans ?_
      rw [laneNo_at, near_word l 0 _ rfl]
      show _ = tabCS 0 (num (BitVec.ofNat 32 (0 + l.val))) (0 + a.val)
      rw [Nat.zero_add a.val]
      rfl
    trivial
  · unfold nearPieces
    have ht := t.isLt
    have ha := a.isLt
    have hq := q.isLt
    have h1 : 0 ≤ a.val ∧ a.val < 0 + 32 := by omega
    by_cases c0 : q.val = 1 ∧ 896 ≤ t.val
    · refine ⟨_, .head _, ?_⟩; exact mem_plane 1 0 896 rfl inb_S2x32x1024_S1x32x128_1_0_896 _ (by show q.val = _; omega) h1 ⟨by show _ ≤ t.val; omega, by show t.val < _; omega⟩
    by_cases c1 : q.val = 0 ∧ 896 ≤ t.val
    · refine ⟨_, .tail _ (.head _), ?_⟩; exact mem_plane 0 0 896 rfl inb_S2x32x1024_S1x32x128_0_0_896 _ (by show q.val = _; omega) h1 ⟨by show _ ≤ t.val; omega, by show t.val < _; omega⟩
    by_cases c2 : q.val = 1 ∧ 768 ≤ t.val
    · refine ⟨_, .tail _ (.tail _ (.head _)), ?_⟩; exact mem_plane 1 0 768 rfl inb_S2x32x1024_S1x32x128_1_0_768 _ (by show q.val = _; omega) h1 ⟨by show _ ≤ t.val; omega, by show t.val < _; omega⟩
    by_cases c3 : q.val = 0 ∧ 768 ≤ t.val
    · refine ⟨_, .tail _ (.tail _ (.tail _ (.head _))), ?_⟩; exact mem_plane 0 0 768 rfl inb_S2x32x1024_S1x32x128_0_0_768 _ (by show q.val = _; omega) h1 ⟨by show _ ≤ t.val; omega, by show t.val < _; omega⟩
    by_cases c4 : q.val = 1 ∧ 640 ≤ t.val
    · refine ⟨_, .tail _ (.tail _ (.tail _ (.tail _ (.head _)))), ?_⟩; exact mem_plane 1 0 640 rfl inb_S2x32x1024_S1x32x128_1_0_640 _ (by show q.val = _; omega) h1 ⟨by show _ ≤ t.val; omega, by show t.val < _; omega⟩
    by_cases c5 : q.val = 0 ∧ 640 ≤ t.val
    · refine ⟨_, .tail _ (.tail _ (.tail _ (.tail _ (.tail _ (.head _))))), ?_⟩; exact mem_plane 0 0 640 rfl inb_S2x32x1024_S1x32x128_0_0_640 _ (by show q.val = _; omega) h1 ⟨by show _ ≤ t.val; omega, by show t.val < _; omega⟩
    by_cases c6 : q.val = 1 ∧ 512 ≤ t.val
    · refine ⟨_, .tail _ (.tail _ (.tail _ (.tail _ (.tail _ (.tail _ (.head _)))))), ?_⟩; exact mem_plane 1 0 512 rfl inb_S2x32x1024_S1x32x128_1_0_512 _ (by show q.val = _; omega) h1 ⟨by show _ ≤ t.val; omega, by show t.val < _; omega⟩
    by_cases c7 : q.val = 0 ∧ 512 ≤ t.val
    · refine ⟨_, .tail _ (.tail _ (.tail _ (.tail _ (.tail _ (.tail _ (.tail _ (.head _))))))), ?_⟩; exact mem_plane 0 0 512 rfl inb_S2x32x1024_S1x32x128_0_0_512 _ (by show q.val = _; omega) h1 ⟨by show _ ≤ t.val; omega, by show t.val < _; omega⟩
    by_cases c8 : q.val = 1 ∧ 384 ≤ t.val
    · refine ⟨_, .tail _ (.tail _ (.tail _ (.tail _ (.tail _ (.tail _ (.tail _ (.tail _ (.head _)))))))), ?_⟩; exact mem_plane 1 0 384 rfl inb_S2x32x1024_S1x32x128_1_0_384 _ (by show q.val = _; omega) h1 ⟨by show _ ≤ t.val; omega, by show t.val < _; omega⟩
    by_cases c9 : q.val = 0 ∧ 384 ≤ t.val
    · refine ⟨_, .tail _ (.tail _ (.tail _ (.tail _ (.tail _ (.tail _ (.tail _ (.tail _ (.tail _ (.head _))))))))), ?_⟩; exact mem_plane 0 0 384 rfl inb_S2x32x1024_S1x32x128_0_0_384 _ (by show q.val = _; omega) h1 ⟨by show _ ≤ t.val; omega, by show t.val < _; omega⟩
    by_cases c10 : q.val = 1 ∧ 256 ≤ t.val
    · refine ⟨_, .tail _ (.tail _ (.tail _ (.tail _ (.tail _ (.tail _ (.tail _ (.tail _ (.tail _ (.tail _ (.head _)))))))))), ?_⟩; exact mem_plane 1 0 256 rfl inb_S2x32x1024_S1x32x128_1_0_256 _ (by show q.val = _; omega) h1 ⟨by show _ ≤ t.val; omega, by show t.val < _; omega⟩
    by_cases c11 : q.val = 0 ∧ 256 ≤ t.val
    · refine ⟨_, .tail _ (.tail _ (.tail _ (.tail _ (.tail _ (.tail _ (.tail _ (.tail _ (.tail _ (.tail _ (.tail _ (.head _))))))))))), ?_⟩; exact mem_plane 0 0 256 rfl inb_S2x32x1024_S1x32x128_0_0_256 _ (by show q.val = _; omega) h1 ⟨by show _ ≤ t.val; omega, by show t.val < _; omega⟩
    by_cases c12 : q.val = 1 ∧ 128 ≤ t.val
    · refine ⟨_, .tail _ (.tail _ (.tail _ (.tail _ (.tail _ (.tail _ (.tail _ (.tail _ (.tail _ (.tail _ (.tail _ (.tail _ (.head _)))))))))))), ?_⟩; exact mem_plane 1 0 128 rfl inb_S2x32x1024_S1x32x128_1_0_128 _ (by show q.val = _; omega) h1 ⟨by show _ ≤ t.val; omega, by show t.val < _; omega⟩
    by_cases c13 : q.val = 0 ∧ 128 ≤ t.val
    · refine ⟨_, .tail _ (.tail _ (.tail _ (.tail _ (.tail _ (.tail _ (.tail _ (.tail _ (.tail _ (.tail _ (.tail _ (.tail _ (.tail _ (.head _))))))))))))), ?_⟩; exact mem_plane 0 0 128 rfl inb_S2x32x1024_S1x32x128_0_0_128 _ (by show q.val = _; omega) h1 ⟨by show _ ≤ t.val; omega, by show t.val < _; omega⟩
    by_cases c14 : q.val = 1 ∧ 0 ≤ t.val
    · refine ⟨_, .tail _ (.tail _ (.tail _ (.tail _ (.tail _ (.tail _ (.tail _ (.tail _ (.tail _ (.tail _ (.tail _ (.tail _ (.tail _ (.tail _ (.head _)))))))))))))), ?_⟩; exact mem_plane 1 0 0 rfl inb_S2x32x1024_S1x32x128_1_0_0 _ (by show q.val = _; omega) h1 ⟨by show _ ≤ t.val; omega, by show t.val < _; omega⟩
    refine ⟨_, .tail _ (.tail _ (.tail _ (.tail _ (.tail _ (.tail _ (.tail _ (.tail _ (.tail _ (.tail _ (.tail _ (.tail _ (.tail _ (.tail _ (.tail _ (.head _))))))))))))))), ?_⟩; exact mem_plane 0 0 0 rfl inb_S2x32x1024_S1x32x128_0_0_0 _ (by show q.val = _; omega) h1 ⟨by show _ ≤ t.val; omega, by show t.val < _; omega⟩

/-! The blocks' first positions. -/
/-- The quotient by eight, rounded down; `k` is the sign of eight. -/
def floorBy (k w : BitVec 32) : BitVec 32 :=
  Scalar.select (IntOp.andi (Scalar.cmpi .ne (IntOp.subi ((Scalar.cmpi .sgt w 0#32).setWidth 32) ((Scalar.cmpi .slt w 0#32).setWidth 32)) k)
    (Scalar.cmpi .ne (IntOp.remsi .vector w 8#32) 0#32)) (IntOp.subi (IntOp.divsi .vector w 8#32) 1#32) (IntOp.divsi .vector w 8#32)
/-- The sign of eight as the body computes it. -/
def eightSign : BitVec 32 := IntOp.subi ((Scalar.cmpi .sgt 8#32 0#32).setWidth 32) ((Scalar.cmpi .slt 8#32 0#32).setWidth 32)
/-- The quotient by eight, rounded down. -/
def floorEight (w : BitVec 32) : BitVec 32 := floorBy eightSign w
theorem floorBy_one (w : BitVec 32) : floorBy (Scalar.subi 1#32 0#32) w = floorEight w := by
  have h : Scalar.subi 1#32 0#32 = eightSign := by decide +kernel
  rw [h]; rfl
/-- Whether a lane belongs to a sequence. -/
theorem lane_seq (b : Fin 4) (l : Fin 128) : Scalar.cmpi .eq (floorEight (BitVec.ofNat 32 l.val)) (BitVec.ofNat 32 b.val) = BitVec.ofBool (decide (l.val / 8 = b.val)) := by
  revert b l; decide +kernel
theorem sel_bool {α : Type} (p : Prop) [Decidable p] (a b : α) : Scalar.select (BitVec.ofBool (decide p)) a b = if p then a else b := by
  by_cases h : p <;> simp [Scalar.select, h]
theorem lanes_at (p0 p1 p2 p3 : BitVec 32) (a : Fin 32) (l : Fin 128) : seqLanes p0 p1 p2 p3 (ix2 a l)
    = if l.val / 8 = 3 then p3 else if l.val / 8 = 2 then p2 else if l.val / 8 = 1 then p1 else if l.val / 8 = 0 then p0 else 0#32 := by
  have e : seqLanes p0 p1 p2 p3 (ix2 a l) = Scalar.select (Scalar.cmpi .eq (floorEight (laneNo (ix2 a l))) (BitVec.ofNat 32 3)) p3
      (Scalar.select (Scalar.cmpi .eq (floorBy (Scalar.subi 1#32 0#32) (laneNo (ix2 a l))) (BitVec.ofNat 32 2)) p2
      (Scalar.select (Scalar.cmpi .eq (floorEight (laneNo (ix2 a l))) (BitVec.ofNat 32 1)) p1
      (Scalar.select (Scalar.cmpi .eq (floorEight (laneNo (ix2 a l))) (BitVec.ofNat 32 0)) p0 0#32))) := by
    have h40 : k0_pay40 = cmpi .eq (fun j => floorEight (laneNo j)) (broadcast S32x128 0#32) := rfl
    unfold seqLanes
    rw [h40]
    generalize laneNo = n
    rfl
  rw [laneNo_at] at e
  have h3 := lane_seq 3 l
  have h2 := lane_seq 2 l
  have h1 := lane_seq 1 l
  have h0 := lane_seq 0 l
  rw [e, floorBy_one]
  rw [show Scalar.cmpi .eq (floorEight (BitVec.ofNat 32 l.val)) (BitVec.ofNat 32 3) = BitVec.ofBool (decide (l.val / 8 = 3)) from h3,
    show Scalar.cmpi .eq (floorEight (BitVec.ofNat 32 l.val)) (BitVec.ofNat 32 2) = BitVec.ofBool (decide (l.val / 8 = 2)) from h2,
    show Scalar.cmpi .eq (floorEight (BitVec.ofNat 32 l.val)) (BitVec.ofNat 32 1) = BitVec.ofBool (decide (l.val / 8 = 1)) from h1,
    show Scalar.cmpi .eq (floorEight (BitVec.ofNat 32 l.val)) (BitVec.ofNat 32 0) = BitVec.ofBool (decide (l.val / 8 = 0)) from h0,
    sel_bool, sel_bool, sel_bool, sel_bool]
theorem farC_at (f h r : FVec Ideal S32x128 .f32) (n p : IVec S32x128 32) (a : Fin 32) (l : Fin 128) (hf : f (ix2 a l) = ropeFreq a.val) (hh : h (ix2 a l) = ropeHead a.val)
    (hr : r (ix2 a l) = ropeRest a.val) : k0_pay51 (F := Ideal) f h r n p k0_pay45 (ix3 0 a l) = tabC (num (p (ix2 a l) + IntOp.remsi .vector (n (ix2 a l)) 8#32 * 1024#32)) a.val := by
  unfold tabC slack
  rw [← hf, ← hh, ← hr]
  unfold_payloads
  pointwise
  rfl
theorem farS_at (f h r : FVec Ideal S32x128 .f32) (n p : IVec S32x128 32) (a : Fin 32) (l : Fin 128) (hf : f (ix2 a l) = ropeFreq a.val) (hh : h (ix2 a l) = ropeHead a.val)
    (hr : r (ix2 a l) = ropeRest a.val) : k0_pay52 (F := Ideal) f h r n p k0_pay45 (ix3 0 a l) = tabS (num (p (ix2 a l) + IntOp.remsi .vector (n (ix2 a l)) 8#32 * 1024#32)) a.val := by
  unfold tabS slack
  rw [← hf, ← hh, ← hr]
  unfold_payloads
  pointwise
  rfl
theorem rem_at (l : Fin 128) : IntOp.remsi .vector (BitVec.ofNat 32 l.val) 8#32 * 1024#32 = BitVec.ofNat 32 (l.val % 8 * 1024) := by
  revert l; decide +kernel
theorem far_word (x0 : Vec Ideal S4 .i32) (a : Fin 32) (l : Fin 128) :
    seqLanes (x0 (ix1 0)) (x0 (ix1 1)) (x0 (ix1 2)) (x0 (ix1 3)) (ix2 a l) + IntOp.remsi .vector (laneNo (ix2 a l)) 8#32 * 1024#32 = farPos x0 l.val := by
  rw [laneNo_at, rem_at, lanes_at]
  unfold farPos
  congr 1
  unfold posOf
  by_cases h3 : l.val / 8 = 3
  · rw [if_pos h3, dif_pos (by omega)]; exact congrArg x0 (congrArg ix1 (Fin.ext h3.symm))
  by_cases h2 : l.val / 8 = 2
  · rw [if_neg h3, if_pos h2, dif_pos (by omega)]; exact congrArg x0 (congrArg ix1 (Fin.ext h2.symm))
  by_cases h1 : l.val / 8 = 1
  · rw [if_neg h3, if_neg h2, if_pos h1, dif_pos (by omega)]; exact congrArg x0 (congrArg ix1 (Fin.ext h1.symm))
  by_cases h0 : l.val / 8 = 0
  · rw [if_neg h3, if_neg h2, if_neg h1, if_pos h0, dif_pos (by omega)]; exact congrArg x0 (congrArg ix1 (Fin.ext h0.symm))
  rw [if_neg h3, if_neg h2, if_neg h1, if_neg h0, dif_neg (by omega)]; rfl
theorem far_filled (x0 : Vec Ideal S4 .i32) (arg11 : Memref sig .tc .vmem S2x32x128 .f32) (q : Fin 2) (a : Fin 32) (l : Fin 128) :
    View.read (Elt Ideal) arg11.view (arg11.view.writes (Elt Ideal) arg11.view.junk (farPieces (x0 (ix1 0)) (x0 (ix1 1)) (x0 (ix1 2)) (x0 (ix1 3)))) (ix3 q a l)
      = tabCS q.val (num (farPos x0 l.val)) a.val := by
  refine read_pieces arg11.view _ (fun y : S2x32x128.Idx => tabCS (y 0).val (num (farPos x0 (y 2).val)) (y 1).val) _ ?_ _ ?_
  · unfold farPieces
    refine ⟨plane3 (fun q a t => tabCS q (num (farPos x0 t)) a) 1 0 0 rfl inb_S2x32x128_S1x32x128_1_0_0 _ fun a l => ?_, ?_⟩
    · rw [Nat.zero_add, Nat.zero_add]
      refine (farS_at fr frHead frRest laneNo _ a l (fr_at a l) (frHead_at a l) (frRest_at a l)).trans ?_
      rw [far_word]
      rfl
    refine ⟨plane3 (fun q a t => tabCS q (num (farPos x0 t)) a) 0 0 0 rfl inb_S2x32x128_S1x32x128_0_0_0 _ fun a l => ?_, ?_⟩
    · rw [Nat.zero_add, Nat.zero_add]
      refine (farC_at fr frHead frRest laneNo _ a l (fr_at a l) (frHead_at a l) (frRest_at a l)).trans ?_
      rw [far_word]
      rfl
    trivial
  · unfold farPieces
    have hl := l.isLt
    have ha := a.isLt
    have hq := q.isLt
    have h1 : 0 ≤ a.val ∧ a.val < 0 + 32 := by omega
    have h2 : 0 ≤ l.val ∧ l.val < 0 + 128 := by omega
    by_cases c1 : q.val = 1
    · refine ⟨_, .head _, ?_⟩; exact mem_plane 1 0 0 rfl inb_S2x32x128_S1x32x128_1_0_0 _ c1 h1 h2
    refine ⟨_, .tail _ (.head _), ?_⟩; exact mem_plane 0 0 0 rfl inb_S2x32x128_S1x32x128_0_0_0 _ (by show q.val = 0; omega) h1 h2

theorem seqPos_eq (arg2 : Memref sig .tc .smem S4 .i32) (harg2 : arg2.IsWhole) (x0 : Vec Ideal S4 .i32) (b : Fin 4) (off : Fin 1 → ℕ) (ho : off = ![b.val]) (inb : ∀ a, off a + S1.size a ≤ S4.size a) (h) :
    seqPos arg2 harg2 x0 off inb h = x0 (ix1 b) := by
  subst ho
  unfold seqPos
  rw [View.readAt_eq_ld, harg2.read_unread]
  show x0 _ = x0 _
  congr 1
  funext a
  have ha : a = 0 := Fin.ext (by have := a.isLt; change _ < 1 at this; show a.val = 0; omega)
  subst ha
  exact Fin.ext (show b.val + 1 * 0 = b.val by omega)

/-- The tables as the first point leaves them. -/
theorem filled (x0 : Vec Ideal S4 .i32) (x2 : Vec Ideal S8x128 .f32) (arg2 : Memref sig .tc .smem S4 .i32) (harg2 : arg2.IsWhole) (arg4 : Memref sig .tc .vmem S8x128 .f32) (harg4 : arg4.IsWhole)
    (arg8 : Memref sig .tc .vmem S1024x128 .f32) (arg9 : Memref sig .tc .vmem S3x32x128 .f32) (arg10 : Memref sig .tc .vmem S2x32x1024 .f32) (arg11 : Memref sig .tc .vmem S2x32x128 .f32) (h) :
    Filled x0 x2 (View.read (Elt Ideal) arg8.view (arg8.view.writes (Elt Ideal) arg8.view.junk (gainPieces arg4 harg4 x2)))
      (View.read (Elt Ideal) arg9.view (arg9.view.writes (Elt Ideal) arg9.view.junk freqPieces))
      (View.read (Elt Ideal) arg10.view (arg10.view.writes (Elt Ideal) arg10.view.junk nearPieces))
      (View.read (Elt Ideal) arg11.view (arg11.view.writes (Elt Ideal) arg11.view.junk
        (farPieces (seqPos arg2 harg2 x0 ![0] inb_S4_S1_0 h) (seqPos arg2 harg2 x0 ![1] inb_S4_S1_1 h) (seqPos arg2 harg2 x0 ![2] inb_S4_S1_2 h) (seqPos arg2 harg2 x0 ![3] inb_S4_S1_3 h)))) := by
  rw [seqPos_eq arg2 harg2 x0 0 ![0] rfl, seqPos_eq arg2 harg2 x0 1 ![1] rfl, seqPos_eq arg2 harg2 x0 2 ![2] rfl, seqPos_eq arg2 harg2 x0 3 ![3] rfl]
  exact
  { gain := gain_filled x2 arg4 harg4 arg8
    freq := freq_filled arg9 0
    head := freq_filled arg9 1
    rest := freq_filled arg9 2
    nearC := near_filled arg10 0
    nearS := near_filled arg10 1
    farC := far_filled x0 arg11 0
    farS := far_filled x0 arg11 1 }

end Cert.KernelIdeal.Run
-- ==== Proof.BodyFirst.lean ====
module
/-
  The body's run with its values: at the first point it fills the tables and leaves the three blocks.
-/
public import proofs.«01_k».proof.Proof.Filled
@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
/-- The body at the first point. -/
theorem body_first_value (c : Dev nD) (i : grid0.Coords) (arg2 : Memref sig .tc .smem S4 .i32) (harg2 : arg2.IsWhole) (arg3 : Memref sig .tc .vmem S1x1088x1024 .bf16) (harg3 : arg3.IsWhole) (arg4 : Memref sig .tc .vmem S8x128 .f32) (harg4 : arg4.IsWhole) (arg5 : Memref sig .tc .vmem S1x1184x1024 .i8) (harg5 : arg5.IsWhole) (arg6 : Memref sig .tc .vmem S1x1024x1024 .fp8e4m3) (harg6 : arg6.IsWhole) (arg7 : Memref sig .tc .vmem S1x8x1024 .f32) (harg7 : arg7.IsWhole) (arg8 : Memref sig .tc .vmem S1024x128 .f32) (harg8 : arg8.IsWhole) (arg9 : Memref sig .tc .vmem S3x32x128 .f32) (harg9 : arg9.IsWhole) (arg10 : Memref sig .tc .vmem S2x32x1024 .f32) (harg10 : arg10.IsWhole) (arg11 : Memref sig .tc .vmem S2x32x128 .f32) (harg11 : arg11.IsWhole) (arg12 : Memref sig .tc .vmem S1024x128 .f32) (harg12 : arg12.IsWhole) (hc0 : cond0_0 i)
    (x0 : Vec Ideal S4 .i32) (x1 : Vec Ideal S1x1088x1024 .bf16) (x2 : Vec Ideal S8x128 .f32) (E : Set ℕ) (K : PUnit → sProp 𝕄) :
    iprop(owns (c : Thread nD τ) arg2 fullShare.right x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare.right x0 ∗ owns (c : Thread nD τ) arg3 fullShare x1 ∗ owns (c : Thread nD τ) arg4 fullShare x2 ∗ owns (c : Thread nD τ) arg5 fullShare (recBlk x1 (gainOf x2) (tables x0 (blockNo i)) (farPos x0 (blockNo i))) ∗ owns (c : Thread nD τ) arg6 fullShare (codeBlk x1 (gainOf x2)) ∗ owns (c : Thread nD τ) arg7 fullShare (scaleBlk x1 (gainOf x2)) ∗ (∃ G F N R, ⌜Filled x0 x2 G F N R⌝ ∗ owns (c : Thread nD τ) arg8 fullShare G ∗ owns (c : Thread nD τ) arg9 fullShare F ∗ owns (c : Thread nD τ) arg10 fullShare N ∗ owns (c : Thread nD τ) arg11 fullShare R) ∗ (∃ d, owns (c : Thread nD τ) arg12 fullShare d)) -∗ K ⟨⟩))
      ⊢ wp Idealize.ShloMosaic.frame (wpE (defs₀ (F := Ideal)) Variants.none c none) E (cc0_mla_store i arg2 harg2 arg3 harg3 arg4 harg4 arg5 harg5 arg6 harg6 arg7 harg7 arg8 harg8 arg9 harg9 arg10 harg10 arg11 harg11 arg12 harg12) K := by
  simp only [cc0_mla_store_eq_skeleton]; unfold cc0_mla_store_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2
  sl_exec (disch := first | sl_exact hc0)
  sl_step
  iapply Hk
  have hfill := filled x0 x2 arg2 harg2 arg4 harg4 arg8 arg9 arg10 arg11 (by decide)
  have hF : Filled x0 x2
    (View.read (Elt Ideal) arg8.view (arg8.view.writes (Elt Ideal) arg8.view.junk (body_first_value.sl.H8_8 c arg4 harg4 x2)))
    (View.read (Elt Ideal) arg9.view (arg9.view.writes (Elt Ideal) arg9.view.junk body_first_value.sl.H9_3))
    (View.read (Elt Ideal) arg10.view (arg10.view.writes (Elt Ideal) arg10.view.junk body_first_value.sl.H10_16))
    (View.read (Elt Ideal) arg11.view (arg11.view.writes (Elt Ideal) arg11.view.junk (body_first_value.sl.H11_2 c arg2 harg2 x0))) := hfill
  have e8 : harg8.unread (View.read (Elt Ideal) arg8.view (arg8.view.writes (Elt Ideal) arg8.view.junk (body_first_value.sl.H8_8 c arg4 harg4 x2))) = _ := (harg8.eq_unread rfl).symm
  have e9 : harg9.unread (View.read (Elt Ideal) arg9.view (arg9.view.writes (Elt Ideal) arg9.view.junk body_first_value.sl.H9_3)) = _ := (harg9.eq_unread rfl).symm
  have e10 : harg10.unread (View.read (Elt Ideal) arg10.view (arg10.view.writes (Elt Ideal) arg10.view.junk body_first_value.sl.H10_16)) = _ := (harg10.eq_unread rfl).symm
  have e11 : harg11.unread (View.read (Elt Ideal) arg11.view (arg11.view.writes (Elt Ideal) arg11.view.junk (body_first_value.sl.H11_2 c arg2 harg2 x0))) = _ := (harg11.eq_unread rfl).symm
  have hv8 : ∀ (a : Fin 32) (l : Fin 128), k0_pay7 (F := Ideal) i (body_first_value.sl.v8 c arg2 harg2 arg11 x0) (ix2 a l) = tabC (num (farPos x0 (blockNo i))) a.val := by
    have h := far_c i arg11 harg11 _ (fun n => tabC (num (farPos x0 n))) hF.farC
    rw [e11] at h
    exact h
  have hv18 : ∀ (a : Fin 32) (l : Fin 128), k0_pay8 (F := Ideal) i (body_first_value.sl.v18 c arg2 harg2 arg11 x0) (ix2 a l) = tabS (num (farPos x0 (blockNo i))) a.val := by
    have h := far_s i arg11 harg11 _ (fun n => tabS (num (farPos x0 n))) hF.farS
    rw [e11] at h
    exact h
  have hb := loop_blocks Variants.none c none i arg2 harg2 arg3 harg3 arg4 harg4 arg5 harg5 arg6 harg6 arg7 harg7 arg8 harg8 arg9 harg9 arg10 harg10 arg11 harg11 arg12 harg12
    x1 _ _ _ (body_first_value.sl.v8 c arg2 harg2 arg11 x0) (body_first_value.sl.v18 c arg2 harg2 arg11 x0)
    (farPos x0 (blockNo i)) (gainOf x2) hF.gain (tables x0 (blockNo i)) hF.freq hF.head hF.rest hF.nearC hF.nearS
    hv8 hv18 f5 f6 f7 f12
  rw [e8, e9, e10] at hb
  have hfp : Scalar.addi (body_first_value.sl.r_10 c i arg2 harg2 x0) (Scalar.muli (BitVec.ofNat 32 ↑(i 1)) 1024#32) = farPos x0 (blockNo i) :=
    first_at i arg2 harg2 x0 _
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    rw [hfp]
    exact hb.1
  isplitl [H6]
  · iexists _; isplitr; swap; · iexact H6
    ipureintro
    rw [hfp]
    exact hb.2.1
  isplitl [H7]
  · iexists _; isplitr; swap; · iexact H7
    ipureintro
    rw [hfp]
    exact hb.2.2
  isplitl [H8 H9 H10 H11]
  · iexists _, _, _, _
    isplitr; swap
    · isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      iexists _; isplitr; swap; · iexact H11
      ipureintro; rfl
    ipureintro
    exact hF
  iexists _, _; isplitr; swap; · iexact H12
  ipureintro; rfl

end Cert.KernelIdeal.Run
-- ==== Proof.KernelValue.lean ====
module
/-
  The kernel's run with its values: the tables are carried from the first point on, and every point writes back its
  three blocks.
-/
public import proofs.«01_k».proof.Proof.BodyFirst
public import Idealize.ShloMosaic.Lib.Pipeline.Value
@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The number of a grid point's block is the point's own. -/
theorem blockNo_coords (t : Fin grid0.N) : blockNo (grid0.coords t) = t.val := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  unfold blockNo
  rw [e0, e1]
  omega

/-- The gain as the call finds it, in rows of 128. -/
def gainRows (c : Dev nD) : Vec Ideal S8x128 .f32 := V m c main_v1
/-- The positions as the call finds them. -/
def seqStart (c : Dev nD) : Vec Ideal S4 .i32 := V m c main_arg2

/-- The gain's window holds the whole gain at every point. -/
theorem iblk1_eq (c : Dev nD) (t : Fin grid0.N) : iblk m c 1 t = gainRows m c := by
  unfold iblk gainRows
  funext j
  show V m c main_v1 _ = V m c main_v1 j
  congr 1
  funext a
  refine Fin.ext ?_
  match a with
  | ⟨0, _⟩ => show 0 * 8 + 1 * (j 0).val = (j 0).val; omega
  | ⟨1, _⟩ => show 0 * 128 + 1 * (j 1).val = (j 1).val; omega

/-- The block of the first input at point `t`, -/
def xBlk (c : Dev nD) (t : Fin grid0.N) : Vec Ideal S1x1088x1024 .bf16 := iblk m c 0 t
/-- the channels' gain. -/
def gn (c : Dev nD) : ℕ → EReal := gainOf (gainRows m c)

/-- The scratch the body carries: anything before the first point, the tables after it. -/
def scr (c : Dev nD) (n : ℕ) : sProp 𝕄 :=
  if n = 0 then iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))
  else iprop(∃ G F N R, ⌜Filled (seqStart m c) (gainRows m c) G F N R⌝ ∗ owns (c : Thread nD τ) sc0 fullShare G ∗ owns (c : Thread nD τ) sc1 fullShare F ∗ owns (c : Thread nD τ) sc2 fullShare N ∗ owns (c : Thread nD τ) sc3 fullShare R)

/-- What the pipeline keeps between points. -/
def carried (c : Dev nD) (n : ℕ) : sProp 𝕄 :=
  iprop(scr m c n ∗ (∃ d, owns (c : Thread nD τ) sc4 fullShare d) ∗ (∃ r, prngReg c r) ∗ owns (c : Thread nD τ) (Memref.whole main_arg2) fullShare.right (seqStart m c))

/-- The proof data: inputs in place, each output at the block of its point. -/
def vdats (_ : Fin 1) (c : Dev nD) : Dat τ (Elt Ideal) Unit ℕ (UR sig nD τ) ℕ (Cfg₀ m) c where
  A w := V m c (Pipeline.arrRef spec0 w)
  after w t := match w with
    | ⟨0, _⟩ => iblk m c 0 t
    | ⟨1, _⟩ => iblk m c 1 t
    | ⟨2, h⟩ => recBlk (xBlk m c t) (gn m c) (tables (seqStart m c) t.val) (farPos (seqStart m c) t.val)
    | ⟨3, h⟩ => codeBlk (xBlk m c t) (gn m c)
    | ⟨4, h⟩ => scaleBlk (xBlk m c t) (gn m c)
  Φ t := carried m c t.val
  q _ := fullShare
  owed _ := 0

theorem vA_eq (c : Dev nD) (w : Fin 5) : (vdats m 0 c).A w = V m c (Pipeline.arrRef spec0 w) := by
  dsimp only [vdats]
theorem vafter0 (c : Dev nD) (t : Fin grid0.N) : (vdats m 0 c).after 0 t = iblk m c 0 t := rfl
theorem vafter1 (c : Dev nD) (t : Fin grid0.N) : (vdats m 0 c).after 1 t = iblk m c 1 t := rfl
theorem vafter2 (c : Dev nD) (t : Fin grid0.N) : (vdats m 0 c).after 2 t = recBlk (xBlk m c t) (gn m c) (tables (seqStart m c) t.val) (farPos (seqStart m c) t.val) := rfl
theorem vafter3 (c : Dev nD) (t : Fin grid0.N) : (vdats m 0 c).after 3 t = codeBlk (xBlk m c t) (gn m c) := rfl
theorem vafter4 (c : Dev nD) (t : Fin grid0.N) : (vdats m 0 c).after 4 t = scaleBlk (xBlk m c t) (gn m c) := rfl
theorem vbefore0 (c : Dev nD) (t : Fin grid0.N) (d) : (vdats m 0 c).before 0 t d = iblk m c 0 t :=
  before0_of m (vdats m 0 c) (vA_eq m c 0) (vafter0 m c) t d
theorem vbefore1 (c : Dev nD) (t : Fin grid0.N) (d) : (vdats m 0 c).before 1 t d = iblk m c 1 t :=
  before1_of m (vdats m 0 c) (vA_eq m c 1) (vafter1 m c) t d

/-- What the body is called with at point `t`, the windows one by one, -/
def vPre (c : Dev nD) (t : Fin grid0.N) : sProp 𝕄 :=
  iprop((vdats m 0 c).Φ t.castSucc ∗ (vdats m 0 c).owesAt () t.castSucc
    ∗ (∃ d, owns (c : Thread nD τ) (ms0 m t) fullShare ((vdats m 0 c).before 0 t d))
    ∗ (∃ d, owns (c : Thread nD τ) (ms1 m t) fullShare ((vdats m 0 c).before 1 t d))
    ∗ (∃ d, owns (c : Thread nD τ) (ms2 m t) fullShare ((vdats m 0 c).before 2 t d))
    ∗ (∃ d, owns (c : Thread nD τ) (ms3 m t) fullShare ((vdats m 0 c).before 3 t d))
    ∗ (∃ d, owns (c : Thread nD τ) (ms4 m t) fullShare ((vdats m 0 c).before 4 t d)))

/-- and what it returns. -/
def vPost (c : Dev nD) (t : Fin grid0.N) : sProp 𝕄 :=
  iprop((vdats m 0 c).Φ t.succ ∗ (vdats m 0 c).owesAt () t.succ
    ∗ owns (c : Thread nD τ) (ms0 m t) fullShare ((vdats m 0 c).after 0 t)
    ∗ owns (c : Thread nD τ) (ms1 m t) fullShare ((vdats m 0 c).after 1 t)
    ∗ owns (c : Thread nD τ) (ms2 m t) fullShare ((vdats m 0 c).after 2 t)
    ∗ owns (c : Thread nD τ) (ms3 m t) fullShare ((vdats m 0 c).after 3 t)
    ∗ owns (c : Thread nD τ) (ms4 m t) fullShare ((vdats m 0 c).after 4 t))

set_option maxHeartbeats 6400000 in
/-- The body at any point. -/
theorem vsound_body (c : Dev nD) (t : Fin grid0.N) :
    vPre m c t ⊢ wp Idealize.ShloMosaic.frame (wpE (defs₀ (F := Ideal)) Variants.none c none) Set.univ (bodyAt m t) (fun _ => vPost m c t) := by
  have ht : t.val < 32 := Nat.lt_of_lt_of_eq t.isLt N_0
  unfold vPre vPost bodyAt
  simp only [vbefore0, vbefore1]
  rw [show (vdats m 0 c).owesAt () t.succ = (vdats m 0 c).owesAt () t.castSucc from rfl, vafter0, vafter1, vafter2, vafter3, vafter4]
  rw [show (vdats m 0 c).Φ t.succ = carried m c (t.val + 1) from rfl, show (vdats m 0 c).Φ t.castSucc = carried m c t.val from rfl]
  unfold carried
  rw [show scr m c (t.val + 1) = iprop(∃ G F N R, ⌜Filled (seqStart m c) (gainRows m c) G F N R⌝ ∗ owns (c : Thread nD τ) sc0 fullShare G ∗ owns (c : Thread nD τ) sc1 fullShare F ∗ owns (c : Thread nD τ) sc2 fullShare N ∗ owns (c : Thread nD τ) sc3 fullShare R) from if_neg (Nat.succ_ne_zero _)]
  rw [← blockNo_coords t, iblk1_eq]
  by_cases h0 : cond0_0 (grid0.coords t)
  · have ht0 : blockNo (grid0.coords t) = 0 := by
      rw [blockNo_coords]
      have := (hcond0_0 t).mp h0
      omega
    rw [show scr m c (blockNo (grid0.coords t)) = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) from if_pos ht0]
    iintro ⟨⟨⟨HS0, HS1, HS2, HS3⟩, HS4, Hg, HT⟩, Ho, ⟨%d0, H0⟩, ⟨%d1, H1⟩, ⟨%d2, H2⟩, ⟨%d3, H3⟩, ⟨%d4, H4⟩⟩
    iapply (body_first_value c (grid0.coords t) _ _ _ _ _ _ _ _ _ _ _ _ _ _ _ _ _ _ _ _ _ _ h0 (seqStart m c) (xBlk m c t) (gainRows m c) Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS, HS4⟩
    isplitl [HS HS4 Hg HT]
    · isplitl [HS]; · iexact HS
      isplitl [HS4]; · iexact HS4
      isplitl [Hg]; · iexact Hg
      iexact HT
    isplitl [Ho]; · iexact Ho
    isplitl [H0]; · iexact H0
    isplitl [H1]; · iexact H1
    isplitl [H2]; · iexact H2
    isplitl [H3]; · iexact H3
    iexact H4
  · have ht0 : blockNo (grid0.coords t) ≠ 0 := by
      rw [blockNo_coords]
      intro h
      exact h0 ((hcond0_0 t).mpr (by rw [h]))
    rw [show scr m c (blockNo (grid0.coords t)) = iprop(∃ G F N R, ⌜Filled (seqStart m c) (gainRows m c) G F N R⌝ ∗ owns (c : Thread nD τ) sc0 fullShare G ∗ owns (c : Thread nD τ) sc1 fullShare F ∗ owns (c : Thread nD τ) sc2 fullShare N ∗ owns (c : Thread nD τ) sc3 fullShare R) from if_neg ht0]
    iintro ⟨⟨⟨%G, %F, %N, %R, %hfill, HS0, HS1, HS2, HS3⟩, HS4, Hg, HT⟩, Ho, ⟨%d0, H0⟩, ⟨%d1, H1⟩, ⟨%d2, H2⟩, ⟨%d3, H3⟩, ⟨%d4, H4⟩⟩
    iapply (body_later_value c (grid0.coords t) _ _ _ _ _ _ _ _ _ _ _ _ _ _ _ _ _ _ _ _ _ _ h0 (seqStart m c) (xBlk m c t) (gainRows m c) G F N R hfill Set.univ _)
    isplitl [HT]; · iexact HT
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨HT, H0, H1, H2, H3, H4, HS0, HS1, HS2, HS3, HS4⟩
    isplitl [HS0 HS1 HS2 HS3 HS4 Hg HT]
    · isplitl [HS0 HS1 HS2 HS3]
      · iexists _, _, _, _
        isplitr; · ipureintro; exact hfill
        isplitl [HS0]; · iexact HS0
        isplitl [HS1]; · iexact HS1
        isplitl [HS2]; · iexact HS2
        iexact HS3
      isplitl [HS4]; · iexact HS4
      isplitl [Hg]; · iexact Hg
      iexact HT
    isplitl [Ho]; · iexact Ho
    isplitl [H0]; · iexact H0
    isplitl [H1]; · iexact H1
    isplitl [H2]; · iexact H2
    isplitl [H3]; · iexact H3
    iexact H4

/-- The pipeline's obligation on the body, at every point. -/
theorem vbody_obligation (c : Dev nD) : BodyObligation (vdats m 0 c) (defs₀ (F := Ideal)) Variants.none () Set.univ := fun t => by
  rw [bigSep_W0, bigSep_W0, defs₀_row]
  exact triple_restated (vsound_body m c t) rfl .rfl fun _ => .rfl

/-- Before the first point: the scratch at anything, the table held. -/
theorem vin (c : Dev nD) : iprop(Pipeline.ΦA spec0 c ∗ Pipeline.ΦT pre0 (tab m 0).1 c) ⊢ (vdats m 0 c).Φ 0 := by
  rw [PhiA_eq, PhiT_eq, show (vdats m 0 c).Φ 0 = carried m c 0 from rfl]
  unfold carried
  rw [show scr m c 0 = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) from if_pos rfl]
  iintro ⟨⟨⟨HS0, HS1, HS2, HS3, HS4⟩, Hg⟩, HT⟩
  isplitl [HS0 HS1 HS2 HS3]
  · isplitl [HS0]; · iexact HS0
    isplitl [HS1]; · iexact HS1
    isplitl [HS2]; · iexact HS2
    iexact HS3
  isplitl [HS4]; · iexact HS4
  isplitl [Hg]; · iexact Hg
  iexact HT

/-- After the last point: the scratch at anything again. -/
theorem vout (c : Dev nD) : (vdats m 0 c).Φ (Fin.last (Cfg₀ m).N) ⊢ (Pipeline.ΦA spec0 c : sProp 𝕄) := by
  rw [PhiA_eq, show (vdats m 0 c).Φ (Fin.last (Cfg₀ m).N) = carried m c (Cfg₀ m).N from rfl]
  unfold carried
  rw [show scr m c (Cfg₀ m).N = iprop(∃ G F N R, ⌜Filled (seqStart m c) (gainRows m c) G F N R⌝ ∗ owns (c : Thread nD τ) sc0 fullShare G ∗ owns (c : Thread nD τ) sc1 fullShare F ∗ owns (c : Thread nD τ) sc2 fullShare N ∗ owns (c : Thread nD τ) sc3 fullShare R) from if_neg (by rw [show (Cfg₀ m).N = 32 from N_0]; decide)]
  iintro ⟨⟨%G, %F, %N, %R, -, HS0, HS1, HS2, HS3⟩, HS4, Hg, -⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  iexact Hg

set_option backward.isDefEq.respectTransparency.types false in
/-- Every execution of @main terminates, each output array at what the points wrote back. -/
theorem vrun : θ_run defs (onTc (τ := τ) (main (F := Ideal))) (s₀ m ρ) (fun r => Pipeline.FramePost (Pipeline.pin pcfgs (tab m)) (vdats m) 0 (V m) r) :=
  Pipeline.θ_run_frameP_track (Q' := _) pcfgs (tab m) (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m)
    (hpf := fun c k => by obtain rfl : c = 0 := Subsingleton.elim _ _; rfl) (hin := vin m) (hout := vout m) (hQ' := fun _ h => h.1)

end Cert.KernelIdeal.Run
-- ==== Proof.RefDefs.lean ====
module
/-
  The reference's payloads read at one index, in scalar operations: the vocabulary.
-/
public import proofs.«01_k».proof.Proof.ReferenceRun
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

/-- How many of `n` consecutive powers of two, the first at exponent `off`, a magnitude reaches. -/
def reach (n : ℕ) (off : BitVec 32) (m : EReal) : EReal :=
  ∑ k : Fin n, if FloatOps.exp2 (F := Ideal) (φ := .f32) (FloatOps.sitofp (F := Ideal) .f32 (BitVec.ofNat 32 k.val) + Ideal.ofBits .f32 off) ≤ m then 1 else 0

/-- The reference's word of a magnitude: exponent count and fraction. -/
def refMag (n : ℕ) (off top base mant : BitVec 32) (m : EReal) : BitVec 32 :=
  IntOp.addi (IntOp.muli (FloatOps.fptosi (F := Ideal) (φ := .f32) 32 (reach n off m)) base)
    (FloatOps.fptosi (F := Ideal) (φ := .f32) 32 (Ideal.liftRound Int.floor (m * FloatOps.exp2 (F := Ideal) (φ := .f32) (Ideal.ofBits .f32 top - reach n off m) * Ideal.ofBits .f32 mant)))

/-- Below zero, or a reciprocal below zero. -/
def negTest (x : EReal) : BitVec 1 := IntOp.ori (BitVec.ofBool (decide (x < 0))) (BitVec.ofBool (decide (Ideal.div 1 x < 0)))

/-- The word of a magnitude, the overlarge at `inf`. -/
def refAbs (n : ℕ) (off top base mant inf : BitVec 32) (x : EReal) : BitVec 32 :=
  if Ideal.ofBits .f32 2139095039#32 < FloatOps.absf (F := Ideal) (φ := .f32) x then inf else refMag n off top base mant (FloatOps.absf (F := Ideal) (φ := .f32) x)

/-- The reference's word of a value. -/
def refWord (n : ℕ) (off top base mant inf sign : BitVec 32) (x : EReal) : BitVec 32 :=
  Scalar.select (negTest x) (IntOp.addi (refAbs n off top base mant inf x) sign) (refAbs n off top base mant inf x)

variable (x0 : Vec Ideal S4x8192x1088 .bf16) (γ : Vec Ideal S1024 .f32) (p : Vec Ideal S4 .i32)

/-- One over the root mean square of a token's channels. -/
def refR (b : Fin 4) (t : Fin 8192) : EReal :=
  Ideal.rsqrt (Ideal.div (∑ c : Fin 1024, x0 (ix3 b t ⟨c.val, by omega⟩) * x0 (ix3 b t ⟨c.val, by omega⟩)) (Ideal.ofBits .f32 1149239296#32) + Ideal.ofBits .f32 897988541#32)

/-- The channel `l` of group `g`. -/
def chan (g : Fin 8) (l : Fin 128) : Fin 1024 := ⟨g.val * 128 + l.val, by omega⟩

/-- A channel normalized and gained. -/
def refY (b : Fin 4) (t : Fin 8192) (c : Fin 1024) : EReal := x0 (ix3 b t ⟨c.val, by omega⟩) * refR x0 b t * γ (ix1 c)

/-- The scale of a group whose largest magnitude is `a`. -/
def refScale (a : EReal) : EReal :=
  let q := a * Ideal.ofBits .f32 991054117#32
  if reach 254 3271294976#32 q = 0 then 1 else FloatOps.exp2 (F := Ideal) (φ := .f32) (reach 254 3271294976#32 q - Ideal.ofBits .f32 1123811328#32)

/-- The largest magnitude of a group. -/
def refTop (b : Fin 4) (t : Fin 8192) (g : Fin 8) : EReal :=
  Finset.univ.fold max ⊥ fun l : Fin 128 => FloatOps.absf (F := Ideal) (φ := .f32) (refY x0 γ b t (chan g l))

/-- A code: the normalized channel over its scale, clipped. -/
def refCode (y s : EReal) : EReal :=
  min (Ideal.ofBits .f32 1138753536#32) (max (Ideal.ofBits .f32 3286237184#32) (y * Ideal.div 1 s))

end Cert.ReferenceIdeal.Value
-- ==== Proof.Search.lean ====
module
/-
  The search for a leading power of two: what the kernel's halving steps and the reference's count find is one exponent
  count and one fraction.
-/
public import proofs.«01_k».proof.Proof.RefDefs
@[expose] public section
set_option maxRecDepth 16384
noncomputable section
namespace Cert.KernelIdeal.Run
open Idealize.ShloMosaic Idealize.ShloMosaic.TcCoe Idealize.ShloMosaic.Tactic
open Idealize.SL Idealize.SL.Sem
open Cert.ReferenceIdeal.Value (reach refMag negTest refAbs refWord refScale refCode)

/-- The word with exponent field `E` and no fraction denotes a power of two. -/
theorem ofBits_pow (E : ℕ) (h1 : 1 ≤ E) (h2 : E ≤ 254) :
    Ideal.ofBits .f32 (BitVec.ofNat 32 (E * 8388608)) = (((2 : ℝ) ^ ((E : ℤ) - 127) : ℝ) : EReal) := by
  have hex : ((BitVec.ofNat 32 (E * 8388608)).extractLsb' 23 8).toNat = E := by
    rw [BitVec.extractLsb'_toNat, BitVec.toNat_ofNat, Nat.shiftRight_eq_div_pow]; omega
  have hfr : ((BitVec.ofNat 32 (E * 8388608)).extractLsb' 0 23).toNat = 0 := by
    rw [BitVec.extractLsb'_toNat, BitVec.toNat_ofNat, Nat.shiftRight_eq_div_pow]; omega
  have hng : ((BitVec.ofNat 32 (E * 8388608)).extractLsb' 31 1 == 1#1) = false := by
    rw [beq_eq_false_iff_ne]
    intro h
    have := congrArg BitVec.toNat h
    rw [BitVec.extractLsb'_toNat, BitVec.toNat_ofNat, Nat.shiftRight_eq_div_pow] at this
    simp at this
    omega
  show Ideal.ieee 8 23 _ = _
  unfold Ideal.ieee
  simp only [hex, hfr]
  rw [show (8 + 23 : ℕ) = 31 from rfl, hng, if_neg (by omega), if_neg (by omega)]
  congr 1
  have h : (2 : ℝ) ^ ((E : ℤ) - 127) = (2 : ℝ) ^ (23 : ℤ) * (2 : ℝ) ^ ((E : ℤ) - 127 - 23) := by
    rw [← zpow_add₀ (by norm_num)]; congr 1; ring
  rw [h]
  norm_num

theorem ofBits_two_pow (E : ℕ) (s : ℕ) (hE : E = 127 + s) (h2 : E ≤ 254) :
    Ideal.ofBits .f32 (BitVec.ofNat 32 (E * 8388608)) = (((2 : ℝ) ^ s : ℝ) : EReal) := by
  rw [ofBits_pow E (by omega) h2, hE]
  congr 1
  rw [show ((127 + s : ℕ) : ℤ) - 127 = (s : ℤ) by push_cast; ring, zpow_natCast]

theorem ofBits_two_pow_inv (E : ℕ) (s : ℕ) (hE : E + s = 127) (h1 : 1 ≤ E) :
    Ideal.ofBits .f32 (BitVec.ofNat 32 (E * 8388608)) = ((((2 : ℝ) ^ s)⁻¹ : ℝ) : EReal) := by
  rw [ofBits_pow E h1 (by omega)]
  congr 1
  rw [show (E : ℤ) - 127 = -(s : ℤ) by omega, zpow_neg, zpow_natCast]

/-- The largest finite number of the format. -/
def fmax : ℝ := (2 ^ 24 - 1) * 2 ^ 104

theorem ofBits_fmax : Ideal.ofBits .f32 2139095039#32 = ((fmax : ℝ) : EReal) := by
  simp [Ideal.ofBits, Ideal.ieee, -EReal.coe_mul, fmax]; norm_num

theorem fmax_lt : fmax < 2 ^ 128 := by unfold fmax; norm_num

theorem ofBits_one : Ideal.ofBits .f32 1065353216#32 = ((1 : ℝ) : EReal) := by
  rw [show (1065353216#32 : BitVec 32) = BitVec.ofNat 32 (127 * 8388608) from rfl, ofBits_two_pow 127 0 rfl (by omega)]; norm_num

theorem sel_decide {α : Type} (p : Prop) [Decidable p] (a b : α) : Scalar.select (BitVec.ofBool (decide p)) a b = if p then a else b := by
  by_cases h : p <;> simp [Scalar.select, h]

theorem oge_eq (x y : EReal) : FloatOps.cmpf (F := Ideal) (φ := .f32) .oge x y = BitVec.ofBool (decide (y ≤ x)) := rfl
theorem ogt_eq (x y : EReal) : FloatOps.cmpf (F := Ideal) (φ := .f32) .ogt x y = BitVec.ofBool (decide (y < x)) := rfl
theorem olt_eq (x y : EReal) : FloatOps.cmpf (F := Ideal) (φ := .f32) .olt x y = BitVec.ofBool (decide (x < y)) := rfl
theorem oeq_eq (x y : EReal) : FloatOps.cmpf (F := Ideal) (φ := .f32) .oeq x y = BitVec.ofBool (decide (x = y)) := rfl
theorem one_eq (x y : EReal) : FloatOps.cmpf (F := Ideal) (φ := .f32) .one x y = BitVec.ofBool (decide (x ≠ y)) := rfl
theorem mulf_coe (x y : ℝ) : FloatOps.mulf (F := Ideal) (φ := .f32) ((x : ℝ) : EReal) ((y : ℝ) : EReal) = ((x * y : ℝ) : EReal) := (EReal.coe_mul x y).symm
theorem absf_coe (x : ℝ) : FloatOps.absf (F := Ideal) (φ := .f32) ((x : ℝ) : EReal) = ((|x| : ℝ) : EReal) := by
  show max ((x : ℝ) : EReal) (-((x : ℝ) : EReal)) = _
  rw [← EReal.coe_neg, show |x| = max x (-x) from rfl]
  exact (Monotone.map_max (f := ((↑) : ℝ → EReal)) EReal.coe_strictMono.monotone).symm

/-- What a search has found of `M`: a count `n`, in units of `u`, and a number below `2^k`. -/
def Found (u : ℕ) (M : ℝ) (k : ℕ) (y : EReal) (e : BitVec 32) (Y : ℝ) (n : ℕ) : Prop :=
  y = ((Y : ℝ) : EReal) ∧ e = BitVec.ofNat 32 (u * n) ∧ 0 ≤ Y ∧ Y < 2 ^ k ∧ (n = 0 ∨ 1 ≤ Y) ∧ M = Y * 2 ^ n

/-- One halving step. -/
theorem Found.step {u : ℕ} {M : ℝ} {k : ℕ} {y : EReal} {e : BitVec 32} {Y : ℝ} {n : ℕ} (h : Found u M k y e Y n) (s : ℕ) (hk : k = s + s) (E I : ℕ)
    (hE : E = 127 + s) (hI : I + s = 127) (hI1 : 1 ≤ I) (b : BitVec 32) (hb : b = BitVec.ofNat 32 (u * s)) :
    ∃ Y n, Found u M s (down (BitVec.ofNat 32 (E * 8388608)) (BitVec.ofNat 32 (I * 8388608)) y) (up (BitVec.ofNat 32 (E * 8388608)) b y e) Y n := by
  obtain ⟨rfl, rfl, h0, hlt, hn, hM⟩ := h
  have hs : (0 : ℝ) < 2 ^ s := by positivity
  have h1s : (1 : ℝ) ≤ 2 ^ s := one_le_pow₀ (by norm_num)
  unfold down up
  rw [oge_eq]
  simp only [sel_decide]
  rw [show FloatOps.ofBits (F := Ideal) .f32 (BitVec.ofNat 32 (E * 8388608)) = Ideal.ofBits .f32 _ from rfl,
    show FloatOps.ofBits (F := Ideal) .f32 (BitVec.ofNat 32 (I * 8388608)) = Ideal.ofBits .f32 _ from rfl,
    ofBits_two_pow E s hE (by omega), ofBits_two_pow_inv I s hI hI1, mulf_coe]
  by_cases hc : (2 : ℝ) ^ s ≤ Y
  · rw [if_pos (EReal.coe_le_coe_iff.mpr hc), if_pos (EReal.coe_le_coe_iff.mpr hc)]
    refine ⟨Y * (2 ^ s)⁻¹, n + s, rfl, ?_, by positivity, ?_, .inr ?_, ?_⟩
    · subst hb
      show BitVec.ofNat 32 (u * n) + BitVec.ofNat 32 (u * s) = _
      rw [← BitVec.ofNat_add, Nat.mul_add]
    · rw [← div_eq_mul_inv, div_lt_iff₀ hs, ← pow_add, ← hk]; exact hlt
    · rw [← div_eq_mul_inv, le_div_iff₀ hs, one_mul]; exact hc
    · rw [hM, pow_add]; field_simp
  · have hc' : ¬ ((((2 : ℝ) ^ s : ℝ) : EReal) ≤ ((Y : ℝ) : EReal)) := fun h => hc (EReal.coe_le_coe_iff.mp h)
    rw [if_neg hc', if_neg hc']
    exact ⟨Y, n, rfl, rfl, h0, not_le.mp hc, hn, hM⟩

/-- The kernel's search on a magnitude below `2^128`. -/
theorem search (m : ℝ) (h0 : 0 ≤ m) (h : m < 2 ^ 128) : ∃ Y n, Found 1 (m * 2 ^ 126) 1 (y7 ((m : ℝ) : EReal)) (e7 ((m : ℝ) : EReal)) Y n := by
  have hl : ∃ Y n, Found 1 (m * 2 ^ 126) 128 (lift ((m : ℝ) : EReal)) (lift0 ((m : ℝ) : EReal)) Y n := by
    unfold lift lift0
    rw [olt_eq]
    simp only [sel_decide]
    rw [show FloatOps.ofBits (F := Ideal) .f32 1065353216#32 = Ideal.ofBits .f32 1065353216#32 from rfl, ofBits_one,
      show FloatOps.ofBits (F := Ideal) .f32 2122317824#32 = Ideal.ofBits .f32 (BitVec.ofNat 32 (253 * 8388608)) from rfl, ofBits_two_pow 253 126 rfl (by omega), mulf_coe]
    by_cases hc : m < 1
    · rw [if_pos (EReal.coe_lt_coe_iff.mpr hc), if_pos (EReal.coe_lt_coe_iff.mpr hc)]
      refine ⟨m * 2 ^ 126, 0, rfl, rfl, by positivity, ?_, .inl rfl, by simp⟩
      nlinarith [show (2 : ℝ) ^ 128 = 4 * 2 ^ 126 by norm_num, show (0 : ℝ) < 2 ^ 126 by positivity]
    · have hc' : ¬ (((m : ℝ) : EReal) < ((1 : ℝ) : EReal)) := fun h => hc (EReal.coe_lt_coe_iff.mp h)
      rw [if_neg hc', if_neg hc']
      exact ⟨m, 126, rfl, rfl, h0, h, .inr (not_lt.mp hc), rfl⟩
  obtain ⟨_, _, f⟩ := hl
  obtain ⟨_, _, f⟩ := f.step 64 rfl 191 63 rfl rfl (by omega) 64#32 rfl
  obtain ⟨_, _, f⟩ := f.step 32 rfl 159 95 rfl rfl (by omega) 32#32 rfl
  obtain ⟨_, _, f⟩ := f.step 16 rfl 143 111 rfl rfl (by omega) 16#32 rfl
  obtain ⟨_, _, f⟩ := f.step 8 rfl 135 119 rfl rfl (by omega) 8#32 rfl
  obtain ⟨_, _, f⟩ := f.step 4 rfl 131 123 rfl rfl (by omega) 4#32 rfl
  obtain ⟨_, _, f⟩ := f.step 2 rfl 129 125 rfl rfl (by omega) 2#32 rfl
  obtain ⟨Y, n, f⟩ := f.step 1 rfl 128 126 rfl rfl (by omega) 1#32 rfl
  exact ⟨Y, n, f⟩

/-- The count found is below any exponent the number is below. -/
theorem count_lt {M Y : ℝ} {n : ℕ} (hn : n = 0 ∨ 1 ≤ Y) (hM : M = Y * 2 ^ n) (k : ℕ) (hk : 0 < k) (h : M < 2 ^ k) : n < k := by
  rcases hn with rfl | hY
  · exact hk
  · by_contra hc
    have h1 : (2 : ℝ) ^ k ≤ 2 ^ n := pow_le_pow_right₀ (by norm_num) (by omega)
    have h2 : (2 : ℝ) ^ n ≤ Y * 2 ^ n := le_mul_of_one_le_left (by positivity) hY
    linarith

/-- Powers of two from two on, against a number found. -/
theorem reach_iff {M Y : ℝ} {n : ℕ} (h0 : 0 ≤ Y) (h2 : Y < 2) (hn : n = 0 ∨ 1 ≤ Y) (hM : M = Y * 2 ^ n) (j : ℕ) : (2 : ℝ) ^ (j + 1) ≤ M ↔ j < n := by
  rw [hM]
  constructor
  · intro h
    by_contra hc
    have h1 : (2 : ℝ) ^ (n + 1) ≤ 2 ^ (j + 1) := pow_le_pow_right₀ (by norm_num) (by omega)
    have h3 : Y * 2 ^ n < 2 * 2 ^ n := mul_lt_mul_of_pos_right h2 (by positivity)
    rw [pow_succ] at h1
    linarith
  · intro h
    have h1 : (2 : ℝ) ^ (j + 1) ≤ 2 ^ n := pow_le_pow_right₀ (by norm_num) (by omega)
    have hY : 1 ≤ Y := hn.resolve_left (by omega)
    exact h1.trans (le_mul_of_one_le_left (by positivity) hY)

/-- The power the reference compares with. -/
theorem power_at (k a : ℕ) (hk : k < 1000) (off : BitVec 32) (ho : Ideal.ofBits .f32 off = ((-(a : ℝ) : ℝ) : EReal)) :
    FloatOps.exp2 (F := Ideal) (φ := .f32) (FloatOps.sitofp (F := Ideal) .f32 (BitVec.ofNat 32 k) + Ideal.ofBits .f32 off) = (((2 : ℝ) ^ k / 2 ^ a : ℝ) : EReal) := by
  have hs : FloatOps.sitofp (F := Ideal) .f32 (BitVec.ofNat 32 k) = (((k : ℝ) : ℝ) : EReal) := by
    show ((((BitVec.ofNat 32 k).toInt : ℤ) : ℝ) : EReal) = _
    rw [BitVec.toInt_eq_toNat_of_lt (by rw [BitVec.toNat_ofNat]; omega), BitVec.toNat_ofNat, Nat.mod_eq_of_lt (by omega)]
    norm_cast
  rw [hs, ho, ← EReal.coe_add]
  show Ideal.exp2 _ = _
  rw [Ideal.exp2_coe]
  congr 1
  show (2 : ℝ) ^ ((k : ℝ) + -(a : ℝ)) = _
  rw [← sub_eq_add_neg, Real.rpow_sub (by norm_num), Real.rpow_natCast, Real.rpow_natCast]

/-- The count from the power `2^(1-b)` up, of a number found. -/
theorem reach_found (N b n : ℕ) (hN : N < 1000) (off : BitVec 32) (ho : Ideal.ofBits .f32 off = ((-(b : ℝ) : ℝ) : EReal)) (m Y : ℝ) (h0 : 0 ≤ Y) (h2 : Y < 2)
    (hn : n = 0 ∨ 1 ≤ Y) (hM : m * 2 ^ (b + 1) = Y * 2 ^ n) (hnN : n ≤ N) : reach N off ((m : ℝ) : EReal) = (((n : ℝ) : ℝ) : EReal) := by
  unfold reach
  have : ∀ k : Fin N, (FloatOps.exp2 (F := Ideal) (φ := .f32) (FloatOps.sitofp (F := Ideal) .f32 (BitVec.ofNat 32 k.val) + Ideal.ofBits .f32 off) ≤ ((m : ℝ) : EReal)) ↔ k.val < n := fun k => by
    rw [power_at k.val b (by omega) off ho, EReal.coe_le_coe_iff, ← reach_iff h0 h2 hn hM k.val, div_le_iff₀ (by positivity), pow_succ, pow_succ]
    constructor <;> intro h <;> linarith
  simp only [this]
  rw [← Finset.sum_range (fun k => if k < n then (1 : EReal) else 0), Finset.sum_boole]
  rw [show Finset.filter (fun k => k < n) (Finset.range N) = Finset.range n by ext k; simp; omega, Finset.card_range, EReal.coe_natCast]

/-- The count from the power `2^(-b)` up, of a number found. -/
theorem reach_found' (N b n : ℕ) (hN : N < 1000) (off : BitVec 32) (ho : Ideal.ofBits .f32 off = ((-(b : ℝ) : ℝ) : EReal)) (m Y : ℝ) (h0 : 0 ≤ Y) (h2 : Y < 2)
    (hn : n = 0 ∨ 1 ≤ Y) (hM : m * 2 ^ b = Y * 2 ^ n) (hnN : n < N) : reach N off ((m : ℝ) : EReal) = (((n + (if 1 ≤ Y then 1 else 0) : ℕ) : ℝ) : EReal) := by
  have : ∀ k : Fin N, (FloatOps.exp2 (F := Ideal) (φ := .f32) (FloatOps.sitofp (F := Ideal) .f32 (BitVec.ofNat 32 k.val) + Ideal.ofBits .f32 off) ≤ ((m : ℝ) : EReal)) ↔ k.val < n + (if 1 ≤ Y then 1 else 0) := fun k => by
    rw [power_at k.val b (by omega) off ho, EReal.coe_le_coe_iff, div_le_iff₀ (by positivity), hM]
    rcases k with ⟨k, hk⟩
    cases k with
    | zero =>
      by_cases hY : 1 ≤ Y
      · simp only [hY, if_true, pow_zero]
        exact ⟨fun _ => by omega, fun _ => by nlinarith [one_le_pow₀ (n := n) (show (1 : ℝ) ≤ 2 by norm_num)]⟩
      · have : n = 0 := hn.resolve_right hY
        subst this
        simp [hY]
    | succ j =>
      rw [reach_iff h0 h2 hn rfl j]
      by_cases hY : 1 ≤ Y
      · simp [hY]
      · have : n = 0 := hn.resolve_right hY
        subst this
        simp [hY]
  unfold reach
  simp only [this]
  have hle : n + (if 1 ≤ Y then 1 else 0) ≤ N := by split <;> omega
  generalize n + (if 1 ≤ Y then 1 else 0) = n' at hle
  rw [← Finset.sum_range (fun k => if k < n' then (1 : EReal) else 0), Finset.sum_boole]
  rw [show Finset.filter (fun k => k < n') (Finset.range N) = Finset.range n' by ext k; simp; omega, Finset.card_range, EReal.coe_natCast]

/-- The integer word of a small number. -/
theorem fptosi_small (r : ℝ) (h0 : 0 ≤ r) (h : r < 2 ^ 31) : FloatOps.fptosi (F := Ideal) (φ := .f32) 32 ((r : ℝ) : EReal) = BitVec.ofNat 32 ⌊r⌋₊ := by
  show BitVec.ofInt 32 (Ideal.toIntClamped _ _ _) = _
  rw [Ideal.toIntClamped_coe, if_pos h0]
  have h1 : (0 : ℤ) ≤ ⌊r⌋ := Int.floor_nonneg.mpr h0
  have h2 : ⌊r⌋ < 2 ^ 31 := Int.floor_lt.mpr (by norm_num at h ⊢; exact h)
  rw [min_eq_right (by norm_num; omega), max_eq_right (by norm_num; omega)]
  rw [show ⌊r⌋ = ((⌊r⌋₊ : ℕ) : ℤ) from (Int.natCast_floor_eq_floor h0).symm]
  exact BitVec.ofInt_natCast 32 _

theorem fptosi_nat (n : ℕ) (h : n < 2 ^ 31) : FloatOps.fptosi (F := Ideal) (φ := .f32) 32 (((n : ℝ) : ℝ) : EReal) = BitVec.ofNat 32 n := by
  rw [fptosi_small _ (by positivity) (by exact_mod_cast h), Nat.floor_natCast]

/-- The reference's word of a number found. -/
theorem refMag_found (N b n : ℕ) (hN : N < 1000) (off top base mant : BitVec 32) (ho : Ideal.ofBits .f32 off = ((-(b : ℝ) : ℝ) : EReal))
    (ht : Ideal.ofBits .f32 top = (((b + 1 : ℕ) : ℝ) : EReal)) (μ : ℕ) (hmant : Ideal.ofBits .f32 mant = (((2 : ℝ) ^ μ : ℝ) : EReal)) (hμ : μ ≤ 23)
    (m Y : ℝ) (h0 : 0 ≤ Y) (h2 : Y < 2) (hn : n = 0 ∨ 1 ≤ Y) (hM : m * 2 ^ (b + 1) = Y * 2 ^ n) (hnN : n ≤ N) :
    refMag N off top base mant ((m : ℝ) : EReal) = BitVec.ofNat 32 n * base + BitVec.ofNat 32 ⌊Y * 2 ^ μ⌋₊ := by
  unfold refMag
  rw [reach_found N b n hN off ho m Y h0 h2 hn hM hnN, ht, hmant, ← EReal.coe_sub, fptosi_nat n (by omega)]
  rw [show FloatOps.exp2 (F := Ideal) (φ := .f32) (((((b + 1 : ℕ) : ℝ) - (n : ℝ) : ℝ)) : EReal) = (((2 : ℝ) ^ (b + 1) / 2 ^ n : ℝ) : EReal) by
    show Ideal.exp2 _ = _
    rw [Ideal.exp2_coe]
    congr 1
    show (2 : ℝ) ^ (((b + 1 : ℕ) : ℝ) - (n : ℝ)) = _
    rw [Real.rpow_sub (by norm_num), Real.rpow_natCast, Real.rpow_natCast]]
  rw [← EReal.coe_mul, ← EReal.coe_mul, Ideal.liftRound_coe]
  rw [show m * (2 ^ (b + 1) / 2 ^ n) * 2 ^ μ = Y * 2 ^ μ by rw [← mul_div_assoc, hM]; field_simp]
  have hp : (0 : ℝ) ≤ Y * 2 ^ μ := by positivity
  have hlt : ⌊Y * 2 ^ μ⌋₊ < 2 ^ 31 := by
    rw [Nat.floor_lt hp]
    have : (2 : ℝ) ^ μ ≤ 2 ^ 23 := pow_le_pow_right₀ (by norm_num) hμ
    push_cast
    nlinarith [show (0 : ℝ) < 2 ^ μ by positivity]
  rw [show ((⌊Y * 2 ^ μ⌋ : ℤ) : ℝ) = ((⌊Y * 2 ^ μ⌋₊ : ℕ) : ℝ) by rw [← Int.natCast_floor_eq_floor hp]; norm_cast, fptosi_nat _ hlt]
  rfl

/-- The kernel's word of a number found. -/
theorem magBits_found (m : ℝ) (h0 : 0 ≤ m) (h : m < 2 ^ 128) : ∃ (Y : ℝ) (n : ℕ), 0 ≤ Y ∧ Y < 2 ∧ (n = 0 ∨ 1 ≤ Y) ∧ m * 2 ^ 126 = Y * 2 ^ n ∧ n ≤ 253 ∧
    magBits ((m : ℝ) : EReal) = BitVec.ofNat 32 n * 8388608#32 + BitVec.ofNat 32 ⌊Y * 2 ^ 23⌋₊ := by
  obtain ⟨Y, n, hy, he, hY0, hY2, hn, hM⟩ := search m h0 h
  have hY2 : Y < 2 := by simpa using hY2
  refine ⟨Y, n, hY0, hY2, hn, hM, Nat.lt_succ_iff.mp (count_lt hn hM 254 (by omega) ?_), ?_⟩
  · calc m * 2 ^ 126 < 2 ^ 128 * 2 ^ 126 := by apply mul_lt_mul_of_pos_right h; positivity
      _ = 2 ^ 254 := by norm_num
  · unfold magBits
    rw [hy, he, show FloatOps.ofBits (F := Ideal) .f32 1258291200#32 = Ideal.ofBits .f32 (BitVec.ofNat 32 (150 * 8388608)) from rfl,
      ofBits_two_pow 150 23 rfl (by omega), mulf_coe, fptosi_small _ (by positivity) (by linarith [show (2 : ℝ) * 2 ^ 23 < 2 ^ 31 by norm_num]), Nat.one_mul]
    rfl

theorem signTest_eq (x : EReal) : signTest x = negTest x := by
  unfold signTest negTest
  rw [olt_eq, olt_eq, show FloatOps.ofBits (F := Ideal) .f32 0#32 = (0 : EReal) from Ideal.ofBits_zero_f32,
    show FloatOps.ofBits (F := Ideal) .f32 1065353216#32 = (1 : EReal) from ofBits_one]
  rfl

end Cert.KernelIdeal.Run
-- ==== Proof.Words.lean ====
module
/-
  The kernel's words and bytes are the reference's.
-/
public import proofs.«01_k».proof.Proof.Search
@[expose] public section
set_option maxRecDepth 16384
noncomputable section
namespace Cert.KernelIdeal.Run
open Idealize.ShloMosaic Idealize.ShloMosaic.TcCoe Idealize.ShloMosaic.Tactic
open Idealize.SL Idealize.SL.Sem
open Cert.ReferenceIdeal.Value (reach refMag negTest refAbs refWord refScale refCode)

/-- A byte of a word, taken by shift and mask. -/
theorem byte_eq (w : BitVec 32) (k : ℕ) (hk : k < 4) :
    (IntOp.andi (IntOp.shrui .vector w (IntOp.muli 8#32 (BitVec.ofNat 32 k))) 255#32).setWidth 8 = (w >>> (8 * k)).setWidth 8 := by
  have h : IntOp.shrui .vector w (IntOp.muli 8#32 (BitVec.ofNat 32 k)) = w >>> (8 * k) := by
    interval_cases k <;> rfl
  rw [h]
  unfold IntOp.andi
  apply BitVec.eq_of_toNat_eq
  simp only [BitVec.toNat_setWidth, BitVec.toNat_and]
  rw [show (255#32 : BitVec 32).toNat = 2 ^ 8 - 1 from rfl, Nat.and_two_pow_sub_one_eq_mod, Nat.mod_mod]

theorem ofBits_m5 : Ideal.ofBits .f32 3231711232#32 = ((-((5 : ℕ) : ℝ) : ℝ) : EReal) := by
  simp [Ideal.ofBits, Ideal.ieee, -EReal.coe_mul, -EReal.coe_neg]; norm_num
theorem ofBits_6 : Ideal.ofBits .f32 1086324736#32 = (((5 + 1 : ℕ) : ℝ) : EReal) := by
  simp [Ideal.ofBits, Ideal.ieee, -EReal.coe_mul, -EReal.coe_neg]; norm_num
theorem ofBits_m125 : Ideal.ofBits .f32 3271163904#32 = ((-((125 : ℕ) : ℝ) : ℝ) : EReal) := by
  simp [Ideal.ofBits, Ideal.ieee, -EReal.coe_mul, -EReal.coe_neg]; norm_num
theorem ofBits_126 : Ideal.ofBits .f32 1123811328#32 = (((125 + 1 : ℕ) : ℝ) : EReal) := by
  simp [Ideal.ofBits, Ideal.ieee, -EReal.coe_mul, -EReal.coe_neg]; norm_num
theorem ofBits_m126 : Ideal.ofBits .f32 3271294976#32 = ((-((126 : ℕ) : ℝ) : ℝ) : EReal) := by
  simp [Ideal.ofBits, Ideal.ieee, -EReal.coe_mul, -EReal.coe_neg]; norm_num

/-- One over the largest code, as the format has it. -/
def rho : ℝ := 9586981 / 2 ^ 32
theorem ofBits_rho : Ideal.ofBits .f32 991054117#32 = ((rho : ℝ) : EReal) := by
  simp [Ideal.ofBits, Ideal.ieee, -EReal.coe_mul, -EReal.coe_neg, rho]; norm_num

theorem not_one (x : EReal) : FloatOps.cmpf (F := Ideal) (φ := .f32) .one x x = 0#1 := by
  rw [one_eq]; simp

/-- The byte of a code within the format's range. -/
theorem fp8Byte_eq (c : ℝ) (hc : |c| ≤ 448) :
    fp8Byte ((c : ℝ) : EReal) = (refWord 14 3231711232#32 1086324736#32 8#32 1090519040#32 128#32 128#32 ((c : ℝ) : EReal)).setWidth 8 := by
  have h0 : 0 ≤ |c| := abs_nonneg c
  have f : Found 8 (|c| * 2 ^ 6) 16 (FloatOps.mulf (F := Ideal) (φ := .f32) (FloatOps.absf (F := Ideal) (φ := .f32) ((c : ℝ) : EReal)) (FloatOps.ofBits .f32 0x42800000#32)) 0#32 (|c| * 2 ^ 6) 0 := by
    refine ⟨?_, rfl, by positivity, ?_, .inl rfl, by simp⟩
    · rw [show FloatOps.ofBits (F := Ideal) .f32 0x42800000#32 = Ideal.ofBits .f32 (BitVec.ofNat 32 (133 * 8388608)) from rfl, ofBits_two_pow 133 6 rfl (by omega), absf_coe, mulf_coe]
    · norm_num; linarith
  obtain ⟨_, _, f⟩ := f.step 8 rfl 135 119 rfl rfl (by omega) 64#32 rfl
  obtain ⟨_, _, f⟩ := f.step 4 rfl 131 123 rfl rfl (by omega) 32#32 rfl
  obtain ⟨_, _, f⟩ := f.step 2 rfl 129 125 rfl rfl (by omega) 16#32 rfl
  obtain ⟨Y, n, f⟩ := f.step 1 rfl 128 126 rfl rfl (by omega) 8#32 rfl
  obtain ⟨hy, he, hY0, hY2, hn, hM⟩ := f
  have hY2 : Y < 2 := by simpa using hY2
  have hn14 : n ≤ 14 := Nat.lt_succ_iff.mp (count_lt hn hM 15 (by omega) (by norm_num; linarith))
  have hb : ∀ a b : BitVec 32, fp8Byte ((c : ℝ) : EReal) = fp8Byte ((c : ℝ) : EReal) := fun _ _ => rfl
  unfold fp8Byte
  dsimp only
  rw [not_one]
  rw [show FloatOps.ofBits (F := Ideal) .f32 0x41000000#32 = Ideal.ofBits .f32 (BitVec.ofNat 32 (130 * 8388608)) from rfl, ofBits_two_pow 130 3 rfl (by omega)]
  have hy' := hy
  have he' := he
  change down 0x40000000#32 0x3F000000#32 (down 0x40800000#32 0x3E800000#32 (down 0x41800000#32 0x3D800000#32 (down 0x43800000#32 0x3B800000#32 _))) = _ at hy'
  change up 0x40000000#32 8#32 (down 0x40800000#32 0x3E800000#32 (down 0x41800000#32 0x3D800000#32 (down 0x43800000#32 0x3B800000#32 _))) (up 0x40800000#32 16#32 (down 0x41800000#32 0x3D800000#32 (down 0x43800000#32 0x3B800000#32 _)) (up 0x41800000#32 32#32 (down 0x43800000#32 0x3B800000#32 _) (up 0x43800000#32 64#32 _ 0#32))) = _ at he'
  rw [hy', he', mulf_coe, fptosi_small _ (by positivity) (by norm_num; linarith), signTest_eq]
  unfold refWord refAbs
  rw [ofBits_fmax, absf_coe, if_neg (by rw [EReal.coe_lt_coe_iff, not_lt]; refine hc.trans ?_; unfold fmax; norm_num)]
  rw [refMag_found 14 5 n (by omega) _ _ _ _ ofBits_m5 ofBits_6 3 (ofBits_two_pow 130 3 rfl (by omega)) (by omega) |c| Y hY0 hY2 hn hM hn14]
  rw [BitVec.ofNat_mul, BitVec.mul_comm]
  rfl

/-- The word of a value without its sign, and the reference's upper half of it. -/
theorem abs_word (x : EReal) : ∃ W : ℕ, W < 2 ^ 31 ∧ absBits x = BitVec.ofNat 32 W ∧
    refAbs 253 3271163904#32 1123811328#32 128#32 1124073472#32 32640#32 x = BitVec.ofNat 32 (W / 65536) := by
  unfold absBits refAbs
  rw [not_one, show FloatOps.ofBits (F := Ideal) .f32 2139095039#32 = Ideal.ofBits .f32 2139095039#32 from rfl, ogt_eq, sel_decide]
  rw [show ∀ a b : BitVec 32, Scalar.select 0#1 a b = b from fun _ _ => rfl]
  by_cases h : Ideal.ofBits .f32 2139095039#32 < FloatOps.absf (F := Ideal) (φ := .f32) x
  · rw [if_pos h, if_pos h]
    exact ⟨2139095040, by norm_num, rfl, rfl⟩
  · rw [if_neg h, if_neg h]
    rw [ofBits_fmax] at h
    have hx : ∃ r : ℝ, x = (r : EReal) := by
      induction x using EReal.rec with
      | coe r => exact ⟨r, rfl⟩
      | bot => exact absurd (show ((fmax : ℝ) : EReal) < max (⊥ : EReal) (-⊥) by simp) h
      | top => exact absurd (show ((fmax : ℝ) : EReal) < max (⊤ : EReal) (-⊤) by simp) h
    obtain ⟨r, rfl⟩ := hx
    rw [absf_coe] at h ⊢
    rw [EReal.coe_lt_coe_iff, not_lt] at h
    obtain ⟨Y, n, hY0, hY2, hn, hM, hn2, hw⟩ := magBits_found |r| (abs_nonneg r) (lt_of_le_of_lt h fmax_lt)
    have hfl : ⌊Y * 2 ^ 23⌋₊ < 2 ^ 24 := by rw [Nat.floor_lt (by positivity)]; norm_num; linarith
    refine ⟨n * 8388608 + ⌊Y * 2 ^ 23⌋₊, by omega, ?_, ?_⟩
    · rw [hw, BitVec.ofNat_add, BitVec.ofNat_mul]
    · rw [refMag_found 253 125 n (by omega) _ _ _ _ ofBits_m125 ofBits_126 7 (ofBits_two_pow 134 7 rfl (by omega)) (by omega) |r| Y hY0 hY2 hn hM hn2]
      have hd : ⌊Y * 2 ^ 7⌋₊ = ⌊Y * 2 ^ 23⌋₊ / 65536 := by
        have h1 := Nat.floor_le (show (0 : ℝ) ≤ Y * 2 ^ 23 by positivity)
        have h2 := Nat.lt_floor_add_one (Y * 2 ^ 23)
        rw [Nat.floor_eq_iff (by positivity)]
        generalize ⌊Y * 2 ^ 23⌋₊ = f at h1 h2
        have h3 : ((f / 65536 * 65536 : ℕ) : ℝ) ≤ f := by exact_mod_cast Nat.div_mul_le_self f 65536
        have h4 : ((f + 1 : ℕ) : ℝ) ≤ (((f / 65536 + 1) * 65536 : ℕ) : ℝ) := by
          have : f + 1 ≤ (f / 65536 + 1) * 65536 := by omega
          exact_mod_cast this
        generalize f / 65536 = q at h3 h4
        push_cast at h3 h4
        norm_num at h1 h2 ⊢
        constructor <;> linarith
      rw [hd, ← BitVec.ofNat_mul, ← BitVec.ofNat_add]
      exact congrArg (BitVec.ofNat 32) (by omega)

/-- The two bytes of a value's upper half. -/
theorem half_eq (x : EReal) (k : ℕ) (hk : k < 2) : ((halfWord x) >>> (8 * k)).setWidth 8 =
    (IntOp.andi (IntOp.shrui .vector (refWord 253 3271163904#32 1123811328#32 128#32 1124073472#32 32640#32 32768#32 x) (IntOp.muli 8#32 (BitVec.ofNat 32 k))) 255#32).setWidth 8 := by
  rw [byte_eq _ k (by omega)]
  obtain ⟨W, hW, ha, hr⟩ := abs_word x
  have hh : (halfWord x) = (refWord 253 3271163904#32 1123811328#32 128#32 1124073472#32 32640#32 32768#32 x).setWidth 16 := by
    have hs : ∀ w : BitVec 32, (IntOp.shrsi .vector w 16#32).setWidth 16 = (w >>> 16).setWidth 16 := fun w => by
      show (w.sshiftRight 16).setWidth 16 = _
      apply BitVec.eq_of_getLsbD_eq
      intro i hi
      simp only [BitVec.getLsbD_setWidth, BitVec.getLsbD_sshiftRight, BitVec.getLsbD_ushiftRight, hi, decide_true, Bool.true_and]
      rw [if_pos (by omega)]
      simp; omega
    unfold halfWord f32Bits refWord
    rw [hs, ha, hr, signTest_eq]
    by_cases hsg : negTest x = 1#1
    · rw [hsg, show ∀ a b : BitVec 32, Scalar.select 1#1 a b = a from fun _ _ => rfl, show ∀ a b : BitVec 32, Scalar.select 1#1 a b = a from fun _ _ => rfl]
      have ho : Scalar.ori (BitVec.ofNat 32 W) 2147483648#32 = BitVec.ofNat 32 (W + 2147483648) := by
        show BitVec.ofNat 32 W ||| 2147483648#32 = _
        rw [BitVec.ofNat_add, BitVec.add_eq_or_of_and_eq_zero]
        apply BitVec.eq_of_getLsbD_eq
        intro i hi
        rw [BitVec.getLsbD_and, BitVec.getLsbD_ofNat]
        by_cases h31 : i = 31
        · subst h31
          rw [Nat.testBit_lt_two_pow hW]; simp
        · have : (2147483648#32 : BitVec 32).getLsbD i = false := by
            interval_cases i <;> first | rfl | exact absurd rfl h31
          show (_ && (2147483648#32 : BitVec 32).getLsbD i) = _
          rw [this]; simp
      rw [ho]
      show _ = (BitVec.ofNat 32 (W / 65536) + 32768#32).setWidth 16
      apply BitVec.eq_of_toNat_eq
      simp only [BitVec.toNat_setWidth, BitVec.toNat_ushiftRight, BitVec.toNat_ofNat, BitVec.toNat_add, Nat.shiftRight_eq_div_pow]
      norm_num
      omega
    · have hsg : negTest x = 0#1 := by generalize negTest x = b at hsg; revert hsg; revert b; decide
      rw [hsg, show ∀ a b : BitVec 32, Scalar.select 0#1 a b = b from fun _ _ => rfl, show ∀ a b : BitVec 32, Scalar.select 0#1 a b = b from fun _ _ => rfl]
      apply BitVec.eq_of_toNat_eq
      simp only [BitVec.toNat_setWidth, BitVec.toNat_ushiftRight, BitVec.toNat_ofNat, Nat.shiftRight_eq_div_pow]
      norm_num
      omega
  rw [hh]
  apply BitVec.eq_of_getLsbD_eq
  intro i hi
  simp only [BitVec.getLsbD_setWidth, BitVec.getLsbD_ushiftRight, hi, decide_true, Bool.true_and]
  rw [show decide (8 * k + i < 16) = true from decide_eq_true (by omega)]
  simp

/-- The exponent field of a group's scale, one below. -/
def scaleNo (E : ℕ) : ℕ := if E = 0 then 127 else E + 1

/-- The scale's word and the reference's scale, of a group whose largest magnitude is a number of moderate size. -/
theorem scale_word (a : ℝ) (h0 : 0 ≤ a) (h : a < 2 ^ 134) : ∃ E : ℕ, E ≤ 252 ∧ scaleWord ((a : ℝ) : EReal) = BitVec.ofNat 32 (scaleNo E * 8388608) ∧
    refScale ((a : ℝ) : EReal) = (((2 : ℝ) ^ ((scaleNo E : ℤ) - 127) : ℝ) : EReal) := by
  have hrho : 0 < rho := by unfold rho; norm_num
  have hq0 : 0 ≤ a * rho := by positivity
  have hq : a * rho < 2 ^ 126 := by
    have : rho < 1 / 2 ^ 8 := by unfold rho; norm_num
    calc a * rho ≤ a * (1 / 2 ^ 8) := mul_le_mul_of_nonneg_left this.le h0
      _ < 2 ^ 134 * (1 / 2 ^ 8) := by apply mul_lt_mul_of_pos_right h; norm_num
      _ = 2 ^ 126 := by norm_num
  obtain ⟨Y, n, hY0, hY2, hn, hM, -, hw⟩ := magBits_found (a * rho) hq0 (hq.trans (by norm_num))
  have hn2 : n ≤ 251 := Nat.lt_succ_iff.mp (count_lt hn hM 252 (by omega) (by
    calc a * rho * 2 ^ 126 < 2 ^ 126 * 2 ^ 126 := by apply mul_lt_mul_of_pos_right hq; positivity
      _ = 2 ^ 252 := by norm_num))
  refine ⟨n + (if 1 ≤ Y then 1 else 0), by split <;> omega, ?_, ?_⟩
  · have hfl : ⌊Y * 2 ^ 23⌋₊ < 2 ^ 24 := by rw [Nat.floor_lt (by positivity)]; norm_num; linarith
    have hfE : ⌊Y * 2 ^ 23⌋₊ / 8388608 = if 1 ≤ Y then 1 else 0 := by
      by_cases hY : 1 ≤ Y
      · rw [if_pos hY]
        have : 8388608 ≤ ⌊Y * 2 ^ 23⌋₊ := by rw [Nat.le_floor_iff (by positivity)]; norm_num; linarith
        omega
      · rw [if_neg hY]
        have : ⌊Y * 2 ^ 23⌋₊ < 8388608 := by rw [Nat.floor_lt (by positivity)]; norm_num; linarith
        omega
    have hbits : f32Bits (((a * rho : ℝ)) : EReal) = BitVec.ofNat 32 (n * 8388608 + ⌊Y * 2 ^ 23⌋₊) := by
      unfold f32Bits
      have hneg : negTest ((a * rho : ℝ) : EReal) = 0#1 := by
        have h1 : ¬ ((a * rho : ℝ) : EReal) < 0 := not_lt.mpr (EReal.coe_nonneg.mpr hq0)
        have h2 : ¬ Ideal.div 1 ((a * rho : ℝ) : EReal) < 0 := by
          unfold Ideal.div
          by_cases hz : ((a * rho : ℝ) : EReal) = 0
          · rw [if_pos hz]; simp
          · rw [if_neg hz, one_mul, not_lt]
            exact EReal.inv_nonneg_of_nonneg (EReal.coe_nonneg.mpr hq0)
        unfold negTest
        rw [decide_eq_false h1, decide_eq_false h2]
        rfl
      rw [signTest_eq, hneg, show ∀ a b : BitVec 32, Scalar.select 0#1 a b = b from fun _ _ => rfl]
      unfold absBits
      rw [not_one, show FloatOps.ofBits (F := Ideal) .f32 2139095039#32 = Ideal.ofBits .f32 2139095039#32 from rfl, ogt_eq, sel_decide,
        show ∀ a b : BitVec 32, Scalar.select 0#1 a b = b from fun _ _ => rfl, ofBits_fmax, absf_coe, abs_of_nonneg hq0, if_neg, hw, BitVec.ofNat_add, BitVec.ofNat_mul]
      rw [EReal.coe_lt_coe_iff, not_lt]
      refine hq.le.trans ?_
      unfold fmax; norm_num
    have hmask : Scalar.andi (BitVec.ofNat 32 (n * 8388608 + ⌊Y * 2 ^ 23⌋₊)) 2139095040#32 = BitVec.ofNat 32 ((n + (if 1 ≤ Y then 1 else 0)) * 8388608) := by
      rw [← hfE]
      generalize ⌊Y * 2 ^ 23⌋₊ = F at hfl
      show BitVec.ofNat 32 _ &&& 2139095040#32 = _
      have hv : n * 8388608 + F = (n + F / 8388608) * 8388608 + F % 8388608 := by omega
      have hE : n + F / 8388608 ≤ 252 := by omega
      have hF : F % 8388608 < 8388608 := Nat.mod_lt _ (by norm_num)
      rw [hv]
      generalize n + F / 8388608 = e at hE
      generalize F % 8388608 = r at hF
      apply BitVec.eq_of_getLsbD_eq
      intro i hi
      rw [BitVec.getLsbD_and, show ∀ A : ℕ, (BitVec.ofNat 32 A).getLsbD i = (decide (i < 32) && A.testBit i) from fun A => BitVec.getLsbD_ofNat ..]
      rw [show (BitVec.ofNat 32 (e * 8388608)).getLsbD i = (decide (i < 32) && (e * 8388608).testBit i) from BitVec.getLsbD_ofNat ..]
      rw [show e * 8388608 + r = 2 ^ 23 * e + r by ring, show e * 8388608 = 2 ^ 23 * e by ring, Nat.testBit_two_pow_mul_add _ (by norm_num; omega), Nat.testBit_two_pow_mul]
      by_cases h23 : i < 23
      · have : (2139095040#32 : BitVec 32).getLsbD i = false := by interval_cases i <;> rfl
        rw [this]; simp; omega
      · rw [if_neg h23]
        by_cases h31 : i = 31
        · subst h31
          rw [show (31 : ℕ) - 23 = 8 from rfl, Nat.testBit_lt_two_pow (show e < 2 ^ 8 by omega)]; simp
        · have : (2139095040#32 : BitVec 32).getLsbD i = true := by
            have : 23 ≤ i := by omega
            interval_cases i <;> first | rfl | exact absurd rfl h31
          rw [this]; simp [hi]; omega
    unfold scaleWord
    dsimp only
    rw [show FloatOps.ofBits (F := Ideal) .f32 991054117#32 = Ideal.ofBits .f32 991054117#32 from rfl, ofBits_rho, mulf_coe, hbits, hmask]
    have hE : n + (if 1 ≤ Y then 1 else 0) ≤ 252 := by split <;> omega
    have hza : a = 0 → n + (if 1 ≤ Y then 1 else 0) = 0 := fun hz => by
      have hYn : Y * 2 ^ n = 0 := by rw [← hM, hz]; ring
      have hY : Y = 0 := by
        rcases mul_eq_zero.mp hYn with h | h
        · exact h
        · exact absurd h (by positivity)
      have : ¬ (1 ≤ Y) := by rw [hY]; norm_num
      rw [if_neg this, hn.resolve_right this]
    generalize n + (if 1 ≤ Y then 1 else 0) = E at hE hza
    rw [oeq_eq, show FloatOps.ofBits (F := Ideal) .f32 0#32 = (0 : EReal) from Ideal.ofBits_zero_f32]
    have c2 : Scalar.cmpi .eq (BitVec.ofNat 32 (E * 8388608)) 2139095040#32 = 0#1 := by
      show BitVec.ofBool (decide _) = _
      rw [decide_eq_false]; · rfl
      intro h
      have := congrArg BitVec.toNat h
      simp at this
      omega
    rw [c2]
    unfold scaleNo
    by_cases hz : E = 0
    · subst hz
      rw [if_pos rfl]
      by_cases ha : ((a : ℝ) : EReal) = 0
      · rw [decide_eq_true ha]; rfl
      · rw [decide_eq_false ha]; rfl
    · rw [if_neg hz, decide_eq_false (fun ha => hz (hza (by exact_mod_cast ha)))]
      have c1 : Scalar.cmpi .eq (BitVec.ofNat 32 (E * 8388608)) 0#32 = 0#1 := by
        show BitVec.ofBool (decide _) = _
        rw [decide_eq_false]; · rfl
        intro h
        have := congrArg BitVec.toNat h
        simp at this
        omega
      rw [c1]
      show BitVec.ofNat 32 (E * 8388608) + 8388608#32 = _
      rw [Nat.add_mul, BitVec.ofNat_add]
  · unfold refScale
    dsimp only
    rw [ofBits_rho, ← EReal.coe_mul, reach_found' 254 126 n (by omega) _ ofBits_m126 (a * rho) Y hY0 hY2 hn hM (by omega), ofBits_126]
    generalize n + (if 1 ≤ Y then 1 else 0) = E
    unfold scaleNo
    by_cases hz : E = 0
    · subst hz
      simp
    · rw [if_neg hz, if_neg (by
        intro h
        exact hz (by exact_mod_cast h)), ← EReal.coe_sub]
      show Ideal.exp2 _ = _
      rw [Ideal.exp2_coe]
      congr 1
      show (2 : ℝ) ^ ((E : ℝ) - ((125 + 1 : ℕ) : ℝ)) = _
      rw [show ((E : ℝ) - ((125 + 1 : ℕ) : ℝ)) = (((((E + 1 : ℕ) : ℤ) - 127 : ℤ)) : ℝ) by push_cast; ring, Real.rpow_intCast]

theorem scaleNo_bounds (E : ℕ) (h : E ≤ 252) : 1 ≤ scaleNo E ∧ scaleNo E ≤ 253 := by
  unfold scaleNo; split <;> omega

/-- The number of the scale's word is the scale. -/
theorem ofBits_scale (E : ℕ) (h : E ≤ 252) : Ideal.ofBits .f32 (BitVec.ofNat 32 (scaleNo E * 8388608)) = (((2 : ℝ) ^ ((scaleNo E : ℤ) - 127) : ℝ) : EReal) :=
  ofBits_pow _ (scaleNo_bounds E h).1 (by have := (scaleNo_bounds E h).2; omega)

theorem inverse_word (e : ℕ) (h1 : 1 ≤ e) (h2 : e ≤ 253) : IntOp.subi 2130706432#32 (BitVec.ofNat 32 (e * 8388608)) = BitVec.ofNat 32 ((254 - e) * 8388608) := by
  have hk : ∀ e' : Fin 254, IntOp.subi 2130706432#32 (BitVec.ofNat 32 (e'.val * 8388608)) = BitVec.ofNat 32 ((254 - e'.val) * 8388608) := by decide +kernel
  exact hk ⟨e, by omega⟩

theorem inverse_pow (e : ℕ) (h2 : e ≤ 253) : (2 : ℝ) ^ (((254 - e : ℕ) : ℤ) - 127) = ((2 : ℝ) ^ ((e : ℤ) - 127))⁻¹ := by
  rw [← zpow_neg]
  exact congrArg (fun z : ℤ => (2 : ℝ) ^ z) (by omega)

theorem div_one_coe (r : ℝ) (hp : r ≠ 0) : Ideal.div 1 (r : EReal) = ((r⁻¹ : ℝ) : EReal) := by
  unfold Ideal.div
  rw [if_neg (EReal.coe_ne_zero.mpr hp), one_mul, EReal.coe_inv]

/-- The word the kernel divides by the scale with. -/
theorem ofBits_inverse (E : ℕ) (h : E ≤ 252) :
    Ideal.ofBits .f32 (IntOp.subi 2130706432#32 (BitVec.ofNat 32 (scaleNo E * 8388608))) = Ideal.div 1 (((2 : ℝ) ^ ((scaleNo E : ℤ) - 127) : ℝ) : EReal) := by
  obtain ⟨h1, h2⟩ := scaleNo_bounds E h
  generalize scaleNo E = e at h1 h2
  rw [inverse_word e (by omega) (by omega), ofBits_pow (254 - e) (by omega) (by omega), inverse_pow e (by omega), div_one_coe _ (zpow_ne_zero _ (by norm_num))]

/-- The reference's word of the scale is the scale's word. -/
theorem refWord_scale (E : ℕ) (h : E ≤ 252) :
    refWord 253 3271163904#32 1123811328#32 8388608#32 1258291200#32 2139095040#32 0#32 (((2 : ℝ) ^ ((scaleNo E : ℤ) - 127) : ℝ) : EReal) = BitVec.ofNat 32 (scaleNo E * 8388608) := by
  obtain ⟨h1, h2⟩ := scaleNo_bounds E h
  generalize scaleNo E = e at h1 h2
  unfold refWord
  have hadd : ∀ a : BitVec 32, IntOp.addi a 0#32 = a := fun a => BitVec.add_zero a
  rw [hadd, show ∀ (b : BitVec 1) (a : BitVec 32), Scalar.select b a a = a from fun b a => by unfold Scalar.select; split <;> rfl]
  unfold refAbs
  have hp : (0 : ℝ) ≤ (2 : ℝ) ^ ((e : ℤ) - 127) := by positivity
  have hle : (2 : ℝ) ^ ((e : ℤ) - 127) ≤ (2 : ℝ) ^ (126 : ℤ) := zpow_le_zpow_right₀ (by norm_num) (by omega)
  rw [ofBits_fmax, absf_coe, abs_of_nonneg hp, if_neg (by
    rw [EReal.coe_lt_coe_iff, not_lt]
    refine hle.trans ?_
    unfold fmax; norm_num)]
  rw [refMag_found 253 125 (e - 1) (by omega) _ _ _ _ ofBits_m125 ofBits_126 23 (ofBits_two_pow 150 23 rfl (by omega)) (by omega) ((2 : ℝ) ^ ((e : ℤ) - 127)) 1 (by norm_num) (by norm_num) (.inr le_rfl) (by
    rw [one_mul, ← zpow_natCast, ← zpow_natCast, ← zpow_add₀ (by norm_num)]
    congr 1
    omega) (by omega)]
  rw [show ⌊(1 : ℝ) * 2 ^ 23⌋₊ = 8388608 by norm_num, ← BitVec.ofNat_mul, ← BitVec.ofNat_add]
  exact congrArg (BitVec.ofNat 32) (by omega)

end Cert.KernelIdeal.Run
-- ==== Proof.Row.lean ====
module
/-
  One token of a block: the kernel's root mean square, group maxima and codes are the reference's.
-/
public import proofs.«01_k».proof.Proof.Block
public import proofs.«01_k».proof.Proof.Words
@[expose] public section
set_option maxRecDepth 16384
noncomputable section
namespace Cert.KernelIdeal.Run
open Idealize.ShloMosaic Idealize.ShloMosaic.TcCoe Idealize.ShloMosaic.Tactic
open Idealize.SL Idealize.SL.Sem
open Cert.KernelIdeal Cert.KernelIdeal.Gen
open Cert.ReferenceIdeal.Value (refR refY refTop refScale refCode chan)

theorem ofBits_1024 : Ideal.ofBits .f32 1149239296#32 = ((1024 : ℝ) : EReal) := by
  simp [Ideal.ofBits, Ideal.ieee, -EReal.coe_mul, -EReal.coe_neg]; norm_num
theorem ofBits_1024_inv : Ideal.ofBits .f32 981467136#32 = ((1024⁻¹ : ℝ) : EReal) := by
  simp [Ideal.ofBits, Ideal.ieee, -EReal.coe_mul, -EReal.coe_neg]; norm_num
/-- What is added to the mean square. -/
def eps : ℝ := 8796093 / 2 ^ 43
theorem ofBits_eps : Ideal.ofBits .f32 897988541#32 = ((eps : ℝ) : EReal) := by
  simp [Ideal.ofBits, Ideal.ieee, -EReal.coe_mul, -EReal.coe_neg, eps]; norm_num
theorem eps_pos : 0 < eps := by unfold eps; norm_num

theorem div_1024 (s : EReal) : Ideal.div s (Ideal.ofBits .f32 1149239296#32) = s * ((1024⁻¹ : ℝ) : EReal) := by
  rw [ofBits_1024]
  unfold Ideal.div
  rw [if_neg (EReal.coe_ne_zero.mpr (by norm_num)), EReal.coe_inv]

theorem sq_nonneg' (x : EReal) : 0 ≤ x * x := by
  induction x using EReal.rec with
  | coe r => rw [← EReal.coe_mul]; exact EReal.coe_nonneg.mpr (mul_self_nonneg r)
  | bot => simp
  | top => simp

/-- The reciprocal root mean square is a number, and bounds every channel. -/
theorem rms (x : Fin 1024 → EReal) : ∃ r : ℝ, 0 ≤ r ∧
    Ideal.rsqrt (Ideal.div (∑ c : Fin 1024, x c * x c) (Ideal.ofBits .f32 1149239296#32) + Ideal.ofBits .f32 897988541#32) = ((r : ℝ) : EReal)
      ∧ ∀ c, ∃ y : ℝ, |y| ≤ 32 ∧ x c * ((r : ℝ) : EReal) = ((y : ℝ) : EReal) := by
  rw [div_1024, ofBits_eps]
  have hle : ∀ c, x c * x c ≤ ∑ c : Fin 1024, x c * x c := fun c =>
    Finset.single_le_sum (f := fun c => x c * x c) (fun i _ => sq_nonneg' (x i)) (Finset.mem_univ c)
  have h0 : 0 ≤ ∑ c : Fin 1024, x c * x c := Finset.sum_nonneg fun i _ => sq_nonneg' (x i)
  generalize (∑ c : Fin 1024, x c * x c) = S at hle h0
  induction S using EReal.rec with
  | bot => exact absurd h0 (by simp)
  | top =>
    refine ⟨0, le_refl _, ?_, fun c => ⟨0, by norm_num, by simp⟩⟩
    rw [EReal.top_mul_coe_of_pos (by norm_num), EReal.top_add_coe, show Ideal.rsqrt ⊤ = 0 from Ideal.rsqrt_top]
    rfl
  | coe s =>
    have hs : 0 ≤ s := EReal.coe_nonneg.mp h0
    have hm : 0 < s * 1024⁻¹ + eps := by have := eps_pos; positivity
    refine ⟨(√(s * 1024⁻¹ + eps))⁻¹, by positivity, ?_, fun c => ?_⟩
    · rw [← EReal.coe_mul, ← EReal.coe_add, Ideal.rsqrt_coe, if_neg (by linarith), if_neg (by linarith)]
    · have hc := hle c
      generalize x c = z at hc
      induction z using EReal.rec with
      | bot => exact absurd hc (by simp)
      | top => exact absurd hc (by simp)
      | coe v =>
        rw [← EReal.coe_mul, EReal.coe_le_coe_iff] at hc
        refine ⟨v * (√(s * 1024⁻¹ + eps))⁻¹, ?_, by rw [EReal.coe_mul]⟩
        rw [abs_mul, abs_of_nonneg (show 0 ≤ (√(s * 1024⁻¹ + eps))⁻¹ by positivity), ← div_eq_mul_inv, div_le_iff₀ (Real.sqrt_pos.mpr hm)]
        refine abs_le_of_sq_le_sq ?_ (by positivity)
        rw [mul_pow, Real.sq_sqrt hm.le]
        have := eps_pos
        nlinarith

/-- A largest element is attained. -/
theorem fold_attained (f : Fin 128 → EReal) : ∃ i, Finset.univ.fold max ⊥ f = f i ∧ ∀ j, f j ≤ f i := by
  obtain ⟨i, -, hi⟩ := Finset.exists_max_image (Finset.univ : Finset (Fin 128)) f ⟨0, Finset.mem_univ _⟩
  refine ⟨i, le_antisymm ?_ ?_, fun j => hi j (Finset.mem_univ j)⟩
  · rw [Finset.fold_max_le]
    exact ⟨bot_le, fun j hj => hi j hj⟩
  · rw [Finset.le_fold_max]
    exact .inr ⟨i, Finset.mem_univ i, le_refl _⟩

theorem mul_mono (r : ℝ) (hr : 0 ≤ r) : Monotone fun a : EReal => a * ((r : ℝ) : EReal) := fun a b h =>
  mul_le_mul_of_nonneg_right h (EReal.coe_nonneg.mpr hr)

theorem abs_scale (z : EReal) (r : ℝ) (hr : 0 ≤ r) :
    FloatOps.absf (F := Ideal) (φ := .f32) z * ((r : ℝ) : EReal) = FloatOps.absf (F := Ideal) (φ := .f32) (z * ((r : ℝ) : EReal)) := by
  show max z (-z) * _ = max (z * _) (-(z * _))
  rw [(mul_mono r hr).map_max, ← EReal.neg_mul]

theorem fold_scale (z : Fin 128 → EReal) (r : ℝ) (hr : 0 ≤ r) :
    (Finset.univ.fold max ⊥ fun i => FloatOps.absf (F := Ideal) (φ := .f32) (z i)) * ((r : ℝ) : EReal)
      = Finset.univ.fold max ⊥ fun i => FloatOps.absf (F := Ideal) (φ := .f32) (z i * ((r : ℝ) : EReal)) := by
  obtain ⟨i, hi, hm⟩ := fold_attained fun i => FloatOps.absf (F := Ideal) (φ := .f32) (z i)
  obtain ⟨j, hj, hn⟩ := fold_attained fun i => FloatOps.absf (F := Ideal) (φ := .f32) (z i * ((r : ℝ) : EReal))
  rw [hi, hj]
  refine le_antisymm ?_ ?_
  · rw [abs_scale _ _ hr]; exact hn i
  · rw [← abs_scale _ _ hr]; exact mul_mono r hr (hm j)

/-- Token `l` of the block `X`, with the gain `g`, is token `t` of sequence `b`. -/
structure Token (X : Vec Ideal S1x1088x1024 .bf16) (g : ℕ → EReal) (l : ℕ) (x0 : Vec Ideal S4x8192x1088 .bf16) (γ : Vec Ideal S1024 .f32) (b : Fin 4) (t : Fin 8192) : Prop where
  x : ∀ c : Fin 1088, xat X c.val l = x0 (ix3 b t c)
  g : ∀ c : Fin 1024, g c.val = γ (ix1 c)
  fin : ∀ c : Fin 1024, ∃ v : ℝ, γ (ix1 c) = ((v : ℝ) : EReal) ∧ |v| ≤ 2 ^ 128

variable {X : Vec Ideal S1x1088x1024 .bf16} {g : ℕ → EReal} {l : ℕ} {x0 : Vec Ideal S4x8192x1088 .bf16} {γ : Vec Ideal S1024 .f32} {b : Fin 4} {t : Fin 8192}
  (T : Token X g l x0 γ b t)
include T

theorem Token.r : rr X l = refR x0 b t := by
  unfold rr refR
  rw [div_1024, ofBits_1024_inv]
  have : ∀ c : Fin 1024, sqx X c.val l = x0 (ix3 b t ⟨c.val, by omega⟩) * x0 (ix3 b t ⟨c.val, by omega⟩) := fun c => by
    unfold sqx; rw [T.x ⟨c.val, by omega⟩]
  simp only [this]

theorem Token.num : ∃ r : ℝ, 0 ≤ r ∧ refR x0 b t = ((r : ℝ) : EReal) ∧ ∀ c : Fin 1024, ∃ y : ℝ, |y| ≤ 2 ^ 133 ∧ refY x0 γ b t c = ((y : ℝ) : EReal) := by
  obtain ⟨r, hr, he, hy⟩ := rms fun c : Fin 1024 => x0 (ix3 b t ⟨c.val, by omega⟩)
  refine ⟨r, hr, he, fun c => ?_⟩
  obtain ⟨y, hy1, hy2⟩ := hy c
  obtain ⟨v, hv1, hv2⟩ := T.fin c
  refine ⟨y * v, ?_, ?_⟩
  · rw [abs_mul]
    calc |y| * |v| ≤ 32 * 2 ^ 128 := mul_le_mul hy1 hv2 (abs_nonneg _) (by norm_num)
      _ = 2 ^ 133 := by norm_num
  · unfold refY
    rw [show refR x0 b t = ((r : ℝ) : EReal) from he, hy2, hv1, EReal.coe_mul]

theorem Token.z (c : Fin 1024) : zz X g c.val l * rr X l = refY x0 γ b t c := by
  unfold zz refY
  rw [T.r, T.g c, T.x ⟨c.val, by omega⟩]
  ac_rfl

theorem Token.top (k : Fin 8) : top X g k.val l * rr X l = refTop x0 γ b t k := by
  obtain ⟨r, hr, he, -⟩ := T.num
  unfold Cert.KernelIdeal.Run.top refTop
  have hz := T.z
  rw [T.r, he] at hz
  rw [T.r, he, fold_scale _ r hr]
  refine congrArg (fun f => Finset.univ.fold max ⊥ f) (funext fun i : Fin 128 => ?_)
  rw [← hz (chan k i)]
  exact congrArg (fun n => FloatOps.absf (F := Ideal) (φ := .f32) (zz X g n l * ((r : ℝ) : EReal))) (by show 128 * k.val + i.val = k.val * 128 + i.val; omega)

theorem Token.word (k : Fin 8) : ∃ E : ℕ, E ≤ 252 ∧ sword X g k.val l = BitVec.ofNat 32 (scaleNo E * 8388608) ∧
    refScale (refTop x0 γ b t k) = (((2 : ℝ) ^ ((scaleNo E : ℤ) - 127) : ℝ) : EReal) := by
  obtain ⟨r, hr, he, hy⟩ := T.num
  obtain ⟨i, hi, -⟩ := fold_attained fun i => FloatOps.absf (F := Ideal) (φ := .f32) (refY x0 γ b t (chan k i))
  obtain ⟨y, hy1, hy2⟩ := hy (chan k i)
  have ha : refTop x0 γ b t k = ((|y| : ℝ) : EReal) := by
    refine Eq.trans hi ?_
    show FloatOps.absf (F := Ideal) (φ := .f32) (refY x0 γ b t (chan k i)) = _
    rw [hy2, absf_coe]
  unfold sword
  rw [T.top, ha]
  exact scale_word |y| (abs_nonneg y) (lt_of_le_of_lt hy1 (by norm_num))

/-- The scale. -/
theorem Token.scale (k : Fin 8) : Ideal.ofBits .f32 (sword X g k.val l) = refScale (refTop x0 γ b t k) := by
  obtain ⟨E, hE, hw, hs⟩ := T.word k
  rw [hw, hs, ofBits_scale E hE]

/-- A byte of the scale. -/
theorem Token.scaleByte (k : Fin 8) (q : ℕ) (hq : q < 4) : (sword X g k.val l >>> (8 * q)).setWidth 8
    = (IntOp.andi (IntOp.shrui .vector (Cert.ReferenceIdeal.Value.refWord 253 3271163904#32 1123811328#32 8388608#32 1258291200#32 2139095040#32 0#32 (refScale (refTop x0 γ b t k))) (IntOp.muli 8#32 (BitVec.ofNat 32 q))) 255#32).setWidth 8 := by
  obtain ⟨E, hE, hw, hs⟩ := T.word k
  rw [byte_eq _ q hq, hs, refWord_scale E hE, hw]

/-- A code. -/
theorem Token.code (c : Fin 1024) : code X g c.val l = refCode (refY x0 γ b t c) (refScale (refTop x0 γ b t ⟨c.val / 128, by omega⟩)) := by
  obtain ⟨E, hE, hw, hs⟩ := T.word ⟨c.val / 128, by omega⟩
  unfold Cert.KernelIdeal.Run.code refCode
  rw [show sword X g (c.val / 128) l = _ from hw, ofBits_inverse E hE, hs, ← T.z c]
  rw [show ∀ a b c : EReal, a * (b * c) = a * c * b from fun a b c => by ac_rfl]

theorem Token.code_num (c : Fin 1024) : ∃ v : ℝ, |v| ≤ 448 ∧ Cert.KernelIdeal.Run.code X g c.val l = ((v : ℝ) : EReal) := by
  unfold Cert.KernelIdeal.Run.code
  generalize zz X g c.val l * _ = w
  rw [show Ideal.ofBits .f32 0x43E00000#32 = ((448 : ℝ) : EReal) by simp [Ideal.ofBits, Ideal.ieee, -EReal.coe_mul, -EReal.coe_neg]; norm_num,
    show Ideal.ofBits .f32 0xC3E00000#32 = ((-448 : ℝ) : EReal) by simp [Ideal.ofBits, Ideal.ieee, -EReal.coe_mul, -EReal.coe_neg]; norm_num]
  induction w using EReal.rec with
  | bot =>
    refine ⟨-448, by norm_num, ?_⟩
    rw [max_eq_left bot_le, min_eq_right]
    exact EReal.coe_le_coe_iff.mpr (by norm_num)
  | top =>
    refine ⟨448, by norm_num, ?_⟩
    rw [max_eq_right le_top, min_eq_left le_top]
  | coe r =>
    refine ⟨min 448 (max (-448) r), abs_le.mpr ⟨le_min (by norm_num) (le_max_left _ _), min_le_left _ _⟩, ?_⟩
    rw [EReal.coe_strictMono.monotone.map_min, EReal.coe_strictMono.monotone.map_max]

/-- The byte of a code. -/
theorem Token.codeByte (c : Fin 1024) : fp8Byte (Cert.KernelIdeal.Run.code X g c.val l)
    = (Cert.ReferenceIdeal.Value.refWord 14 3231711232#32 1086324736#32 8#32 1090519040#32 128#32 128#32 (refCode (refY x0 γ b t c) (refScale (refTop x0 γ b t ⟨c.val / 128, by omega⟩)))).setWidth 8 := by
  rw [← T.code c]
  obtain ⟨v, hv, he⟩ := T.code_num c
  rw [he, fp8Byte_eq v hv]

end Cert.KernelIdeal.Run
-- ==== Proof.RefD.lean ====
module
/-
  The reference's payloads read at one index, in scalar operations: the turned channels.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

/-- The angle of pair `i` at position word `w`. -/
def refAngle (w : BitVec 32) (i : ℕ) : EReal :=
  FloatOps.sitofp (F := Ideal) .f32 w * FloatOps.powf (F := Ideal) (φ := .f32) (Ideal.ofBits .f32 1176256512#32) (Ideal.div (Ideal.ofBits .f32 3221225472#32 * FloatOps.sitofp (F := Ideal) .f32 (BitVec.ofNat 32 i)) (Ideal.ofBits .f32 1115684864#32))
variable (x0 : Vec Ideal S4x8192x1088 .bf16) (p : Vec Ideal S4 .i32)
theorem pay7_lo (b : Fin 4) (t : Fin 8192) (q : Fin 64) (hq : q.val < 32) :
    k0_pay7 (F := Ideal) (k0_pay3 x0) p (ix3 b t q) =
      x0 (ix3 b t ⟨1024 + q.val, by omega⟩) * FloatOps.cos (F := Ideal) (φ := .f32) (refAngle (p (ix1 b) + BitVec.ofNat 32 t.val) q.val)
        - x0 (ix3 b t ⟨1024 + (32 + q.val), by omega⟩) * FloatOps.sin (F := Ideal) (φ := .f32) (refAngle (p (ix1 b) + BitVec.ofNat 32 t.val) q.val) := by
  unfold k0_pay7 k0_pay3
  pointwise [hq]
  rfl
theorem pay7_hi (b : Fin 4) (t : Fin 8192) (q : Fin 64) (hq : ¬ q.val < 32) :
    k0_pay7 (F := Ideal) (k0_pay3 x0) p (ix3 b t q) =
      x0 (ix3 b t ⟨1024 + (32 + (q.val - 32)), by omega⟩) * FloatOps.cos (F := Ideal) (φ := .f32) (refAngle (p (ix1 b) + BitVec.ofNat 32 t.val) (q.val - 32))
        + x0 (ix3 b t ⟨1024 + (q.val - 32), by omega⟩) * FloatOps.sin (F := Ideal) (φ := .f32) (refAngle (p (ix1 b) + BitVec.ofNat 32 t.val) (q.val - 32)) := by
  unfold k0_pay7 k0_pay3
  pointwise [hq]
  rfl

end Cert.ReferenceIdeal.Value
-- ==== Proof.Angle.lean ====
module
/-
  The rotary angle: what the split frequency leaves over is zero, and the near and far tables add up to the angle.
-/
public import proofs.«01_k».proof.Proof.Row
public import proofs.«01_k».proof.Proof.Tables
public import proofs.«01_k».proof.Proof.RefD
@[expose] public section
set_option maxRecDepth 16384
noncomputable section
namespace Cert.KernelIdeal.Run
open Idealize.ShloMosaic Idealize.ShloMosaic.TcCoe Idealize.ShloMosaic.Tactic
open Idealize.SL Idealize.SL.Sem
open Cert.KernelIdeal Cert.KernelIdeal.Gen
open Cert.ReferenceIdeal.Value (refR refY refTop refScale refCode chan refAngle)

theorem num_eq (w : BitVec 32) : num w = ((w.toInt : ℝ) : EReal) := rfl

theorem ofBits_1e4 : Ideal.ofBits .f32 1176256512#32 = ((10000 : ℝ) : EReal) := by
  simp [Ideal.ofBits, Ideal.ieee, -EReal.coe_mul, -EReal.coe_neg]; norm_num
theorem ofBits_m2 : Ideal.ofBits .f32 3221225472#32 = ((-2 : ℝ) : EReal) := by
  simp [Ideal.ofBits, Ideal.ieee, -EReal.coe_mul, -EReal.coe_neg]; norm_num
theorem ofBits_64 : Ideal.ofBits .f32 1115684864#32 = ((64 : ℝ) : EReal) := by
  simp [Ideal.ofBits, Ideal.ieee, -EReal.coe_mul, -EReal.coe_neg]; norm_num

/-- The frequency is a number of at most one. -/
theorem freq_num (i : ℕ) (hi : i < 32) : ∃ f : ℝ, 0 ≤ f ∧ f ≤ 1 ∧ ropeFreq i = ((f : ℝ) : EReal) := by
  have e : ropeFreq i = Ideal.pow (Ideal.ofBits .f32 1176256512#32) (Ideal.div (Ideal.ofBits .f32 3221225472#32 * num (BitVec.ofNat 32 i)) (Ideal.ofBits .f32 1115684864#32)) := rfl
  have ht : (BitVec.ofNat 32 i).toInt = (i : ℤ) := by
    rw [BitVec.toInt_eq_toNat_of_lt (by rw [BitVec.toNat_ofNat]; omega), BitVec.toNat_ofNat]; omega
  have hd : Ideal.div (Ideal.ofBits .f32 3221225472#32 * num (BitVec.ofNat 32 i)) (Ideal.ofBits .f32 1115684864#32) = ((-2 * (i : ℝ) * 64⁻¹ : ℝ) : EReal) := by
    rw [num_eq, ht, ofBits_m2, ofBits_64, ← EReal.coe_mul]
    unfold Ideal.div
    rw [if_neg (EReal.coe_ne_zero.mpr (by norm_num)), ← EReal.coe_inv, ← EReal.coe_mul]
    norm_num
  rw [e, hd, ofBits_1e4]
  refine ⟨(10000 : ℝ) ^ (-2 * (i : ℝ) * 64⁻¹ : ℝ), by positivity, ?_, rfl⟩
  refine Real.rpow_le_one_of_one_le_of_nonpos (by norm_num) ?_
  have : (0 : ℝ) ≤ i := Nat.cast_nonneg i
  linarith

/-- A word whose exponent is not the largest is a number's. -/
theorem ofBits_num (w : BitVec 32) (h : (w.extractLsb' 23 8).toNat ≠ 255) : ∃ r : ℝ, Ideal.ofBits .f32 w = ((r : ℝ) : EReal) := by
  show ∃ r : ℝ, Ideal.ieee 8 23 w = _
  unfold Ideal.ieee
  dsimp only
  rw [if_neg (show ¬ (w.extractLsb' 23 8).toNat = 2 ^ 8 - 1 from h)]
  split
  · exact ⟨_, rfl⟩
  · exact ⟨_, rfl⟩

/-- The word of a number below the format's reach has such an exponent. -/
theorem absBits_exp (f : ℝ) (h0 : 0 ≤ f) (h1 : f ≤ 1) : ∃ W : ℕ, W < 255 * 8388608 ∧ absBits ((f : ℝ) : EReal) = BitVec.ofNat 32 W := by
  obtain ⟨Y, n, hY0, hY2, hn, hM, hn2, hw⟩ := magBits_found f h0 (lt_of_le_of_lt h1 (by norm_num))
  have hfl : ⌊Y * 2 ^ 23⌋₊ < 2 ^ 24 := by rw [Nat.floor_lt (by positivity)]; norm_num; linarith
  refine ⟨n * 8388608 + ⌊Y * 2 ^ 23⌋₊, by omega, ?_⟩
  unfold absBits
  rw [not_one, show FloatOps.ofBits (F := Ideal) .f32 2139095039#32 = Ideal.ofBits .f32 2139095039#32 from rfl, ogt_eq, sel_decide]
  rw [show ∀ a b : BitVec 32, Scalar.select 0#1 a b = b from fun _ _ => rfl, ofBits_fmax, absf_coe, abs_of_nonneg h0]
  rw [if_neg (by rw [EReal.coe_lt_coe_iff, not_lt]; refine h1.trans ?_; unfold fmax; norm_num)]
  rw [hw, BitVec.ofNat_add, BitVec.ofNat_mul]

theorem exp_pos_word (W : ℕ) (h : W < 255 * 8388608) : ((IntOp.andi (BitVec.ofNat 32 W) 4294934528#32).extractLsb' 23 8).toNat ≠ 255 := by
  have e : IntOp.andi (BitVec.ofNat 32 W) 4294934528#32 = BitVec.ofNat 32 W &&& 4294934528#32 := rfl
  rw [e, BitVec.extractLsb'_toNat, BitVec.toNat_and, Nat.shiftRight_and_distrib, BitVec.toNat_ofNat, Nat.mod_eq_of_lt (by omega : W < 2 ^ 32), Nat.shiftRight_eq_div_pow]
  intro hh
  have hl : (W / 2 ^ 23 &&& ((4294934528#32).toNat >>> 23)) ≤ W / 2 ^ 23 := Nat.and_le_left
  have hd : W / 2 ^ 23 < 255 := by omega
  generalize (W / 2 ^ 23 &&& ((4294934528#32).toNat >>> 23)) = q at hh hl
  omega

theorem exp_neg_word (W : ℕ) (h : W < 255 * 8388608) : ((IntOp.andi (Scalar.ori (BitVec.ofNat 32 W) 2147483648#32) 4294934528#32).extractLsb' 23 8).toNat ≠ 255 := by
  have e : (IntOp.andi (Scalar.ori (BitVec.ofNat 32 W) 2147483648#32) 4294934528#32).extractLsb' 23 8 = (IntOp.andi (BitVec.ofNat 32 W) 4294934528#32).extractLsb' 23 8 := by
    show (((BitVec.ofNat 32 W) ||| 2147483648#32) &&& 4294934528#32).extractLsb' 23 8 = ((BitVec.ofNat 32 W) &&& 4294934528#32).extractLsb' 23 8
    generalize BitVec.ofNat 32 W = w
    apply BitVec.eq_of_getLsbD_eq
    intro i hi
    simp only [BitVec.getLsbD_extractLsb', BitVec.getLsbD_and, BitVec.getLsbD_or]
    have : (2147483648#32).getLsbD (23 + i) = false := by
      interval_cases i <;> rfl
    rw [this, Bool.or_false]
  rw [e]
  exact exp_pos_word W h

/-- The frequency's leading part is a number. -/
theorem head_num (i : ℕ) (hi : i < 32) : ∃ r : ℝ, ropeHead i = ((r : ℝ) : EReal) := by
  obtain ⟨f, h0, h1, hf⟩ := freq_num i hi
  obtain ⟨W, hW, ha⟩ := absBits_exp f h0 h1
  unfold ropeHead f32Bits
  rw [hf, ha]
  unfold Scalar.select
  split
  · exact ofBits_num _ (exp_neg_word W hW)
  · exact ofBits_num _ (exp_pos_word W hW)

/-- Nothing is left over. -/
theorem slack_zero (w : BitVec 32) (i : ℕ) (hi : i < 32) : num w * ropeFreq i - num w * ropeHead i - num w * ropeRest i = 0 := by
  obtain ⟨f, -, -, hf⟩ := freq_num i hi
  obtain ⟨h, hh⟩ := head_num i hi
  unfold ropeRest
  rw [hf, hh, num_eq, ← EReal.coe_sub, ← EReal.coe_mul, ← EReal.coe_mul, ← EReal.coe_mul, ← EReal.coe_sub, ← EReal.coe_sub]
  rw [show ((w.toInt : ℝ) * f - (w.toInt : ℝ) * h - (w.toInt : ℝ) * (f - h)) = 0 by ring]
  rfl

theorem tabC_eq (w : BitVec 32) (i : ℕ) (hi : i < 32) : tabC (num w) i = FloatOps.cos (F := Ideal) (φ := .f32) (num w * ropeFreq i) := by
  unfold tabC slack
  rw [slack_zero w i hi, zero_mul, add_zero]
theorem tabS_eq (w : BitVec 32) (i : ℕ) (hi : i < 32) : tabS (num w) i = FloatOps.sin (F := Ideal) (φ := .f32) (num w * ropeFreq i) := by
  unfold tabS slack
  rw [slack_zero w i hi, zero_mul, sub_zero]

theorem cos_coe (r : ℝ) : FloatOps.cos (F := Ideal) (φ := .f32) ((r : ℝ) : EReal) = ((Real.cos r : ℝ) : EReal) := rfl
theorem sin_coe (r : ℝ) : FloatOps.sin (F := Ideal) (φ := .f32) ((r : ℝ) : EReal) = ((Real.sin r : ℝ) : EReal) := rfl

/-- A position a little further on, as a number. -/
theorem toInt_add_small (w : BitVec 32) (k : ℕ) (hw : w.toInt ≤ 2147475456) (hk : k < 8192) : (w + BitVec.ofNat 32 k).toInt = w.toInt + k := by
  have := w.isLt
  rw [BitVec.toInt_eq_toNat_cond] at hw
  rw [BitVec.toInt_eq_toNat_cond, BitVec.toInt_eq_toNat_cond, BitVec.toNat_add, BitVec.toNat_ofNat]
  split at hw <;> split <;> omega

/-- The cosine and sine the kernel turns by are the angle's. -/
theorem fine_eq (x0 : Vec Ideal S4 .i32) (n : ℕ) (hn : n < 32) (l : ℕ) (hl : l < 1024) (i : ℕ) (hi : i < 32)
    (hp : (posOf x0 (n / 8)).toInt ≤ 2147475456) :
    fineC (tables x0 n) (farPos x0 n) i l = FloatOps.cos (F := Ideal) (φ := .f32) (refAngle (posOf x0 (n / 8) + BitVec.ofNat 32 (n % 8 * 1024 + l)) i)
      ∧ fineS (tables x0 n) (farPos x0 n) i l = FloatOps.sin (F := Ideal) (φ := .f32) (refAngle (posOf x0 (n / 8) + BitVec.ofNat 32 (n % 8 * 1024 + l)) i) := by
  obtain ⟨f, -, -, hf⟩ := freq_num i hi
  have ha : refAngle (posOf x0 (n / 8) + BitVec.ofNat 32 (n % 8 * 1024 + l)) i = num (posOf x0 (n / 8) + BitVec.ofNat 32 (n % 8 * 1024 + l)) * ropeFreq i := rfl
  have ho : over (tables x0 n) (farPos x0 n) i l = 0 := slack_zero _ i hi
  have hc : coarseC (tables x0 n) i l = FloatOps.cos (F := Ideal) (φ := .f32) (num (posOf x0 (n / 8) + BitVec.ofNat 32 (n % 8 * 1024 + l)) * ropeFreq i)
      ∧ coarseS (tables x0 n) i l = FloatOps.sin (F := Ideal) (φ := .f32) (num (posOf x0 (n / 8) + BitVec.ofNat 32 (n % 8 * 1024 + l)) * ropeFreq i) := by
    unfold coarseC coarseS
    show tabC (num (farPos x0 n)) i * tabC (num (BitVec.ofNat 32 l)) i - tabS (num (farPos x0 n)) i * tabS (num (BitVec.ofNat 32 l)) i = _
      ∧ tabS (num (farPos x0 n)) i * tabC (num (BitVec.ofNat 32 l)) i + tabC (num (farPos x0 n)) i * tabS (num (BitVec.ofNat 32 l)) i = _
    rw [tabC_eq (farPos x0 n) i hi, tabS_eq (farPos x0 n) i hi, tabC_eq (BitVec.ofNat 32 l) i hi, tabS_eq (BitVec.ofNat 32 l) i hi, hf]
    simp only [num_eq]
    unfold farPos
    rw [toInt_add_small _ _ hp (by omega), toInt_add_small _ _ hp (by omega)]
    have hl' : (BitVec.ofNat 32 l).toInt = (l : ℤ) := by
      rw [BitVec.toInt_eq_toNat_of_lt (by rw [BitVec.toNat_ofNat]; omega), BitVec.toNat_ofNat]; omega
    rw [hl']
    generalize n % 8 * 1024 = k
    generalize (posOf x0 (n / 8)).toInt = a
    rw [show (((a + ((k + l : ℕ) : ℤ) : ℤ) : ℝ)) = ((a + (k : ℤ) : ℤ) : ℝ) + ((l : ℤ) : ℝ) by push_cast; ring]
    simp only [← EReal.coe_mul, cos_coe, sin_coe, ← EReal.coe_sub, ← EReal.coe_add]
    rw [add_mul, Real.cos_add, Real.sin_add]
    exact ⟨rfl, rfl⟩
  unfold fineC fineS
  rw [ho, ha, hc.1, hc.2, zero_mul, zero_mul, sub_zero, add_zero]
  exact ⟨rfl, rfl⟩

end Cert.KernelIdeal.Run
-- ==== Proof.RefA.lean ====
module
/-
  The reference's payloads read at one index, in scalar operations: the normalized channel.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

variable (x0 : Vec Ideal S4x8192x1088 .bf16) (γ : Vec Ideal S1024 .f32) (p : Vec Ideal S4 .i32)
theorem pay4_at (b : Fin 4) (t : Fin 8192) (g : Fin 8) (l : Fin 128) :
    k0_pay4 (F := Ideal) x0 γ (ix4 b t g l) = refY x0 γ b t (chan g l) := by
  unfold k0_pay4
  pointwise
  rfl

end Cert.ReferenceIdeal.Value
-- ==== Proof.RefB.lean ====
module
/-
  The reference's payloads read at one index, in scalar operations: the scale.
-/
public import proofs.«01_k».proof.Proof.Search
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

variable (x0 : Vec Ideal S4x8192x1088 .bf16) (γ : Vec Ideal S1024 .f32) (p : Vec Ideal S4 .i32)
theorem max_at (Y : FVec Ideal S4x8192x8x128 .f32) (b : Fin 4) (t : Fin 8192) (g : Fin 8) :
    multiReduction (F := Ideal) .maximumf [3] S4x8192x8 (absf Y) 0xFF800000#32 reduces_S4x8192x8x128_S4x8192x8 (.inl rfl) rfl (ix3 b t g)
      = Finset.univ.fold max (Ideal.ofBits .f32 0xFF800000#32) fun l : Fin 128 => FloatOps.absf (F := Ideal) (φ := .f32) (Y (ix4 b t g l)) := by
  pointwise

theorem tail_at (R : FVec Ideal S4x8192x8 .f32) (b : Fin 4) (t : Fin 8192) (g : Fin 8) :
    select (cmpf .oeq R (broadcast S4x8192x8 (FloatOps.ofBits (F := Ideal) .f32 0#32))) (broadcast S4x8192x8 (FloatOps.ofBits (F := Ideal) .f32 1065353216#32))
      (exp2 (subf R (broadcast S4x8192x8 (FloatOps.ofBits (F := Ideal) .f32 1123811328#32)))) (ix3 b t g)
      = if R (ix3 b t g) = 0 then 1 else FloatOps.exp2 (F := Ideal) (φ := .f32) (R (ix3 b t g) - Ideal.ofBits .f32 1123811328#32) := by
  show Scalar.select (BitVec.ofBool (decide (R (ix3 b t g) = Ideal.ofBits .f32 0#32))) (Ideal.ofBits .f32 1065353216#32) _ = _
  rw [Cert.KernelIdeal.Run.sel_decide, Ideal.ofBits_zero_f32, Cert.KernelIdeal.Run.ofBits_one]
  rfl

theorem pay5_ofB (M : FVec Ideal S4x8192x8 .f32) (b : Fin 4) (t : Fin 8192) (g : Fin 8) :
    multiReduction (F := Ideal) .add [3] S4x8192x8 (select (cmpf .oge (broadcastTo S4x8192x8x254 (shapeCast S4x8192x8x1 M shapeCasts_S4x8192x8_S4x8192x8x1) broadcasts_S4x8192x8x1_S4x8192x8x254)
       (broadcastTo S4x8192x8x254 (exp2 (addf (sitofp .f32 (iota .tc S1x1x1x254 32 [3] iota_S1x1x1x254_d3_w32)) (broadcast S1x1x1x254 (Scalar.ofBits .f32 0xC2FC0000#32)))) broadcasts_S1x1x1x254_S4x8192x8x254))
       (broadcast S4x8192x8x254 (Scalar.ofBits (F := Ideal) .f32 0x3F800000#32)) (broadcast S4x8192x8x254 (Scalar.ofBits .f32 0x00000000#32))) 0x00000000#32 reduces_S4x8192x8x254_S4x8192x8 (.inl rfl) rfl (ix3 b t g)
     = reach 254 3271294976#32 (M (ix3 b t g)) := by
  pointwise
  rfl

/-- The scale from the largest code's worth of a group. -/
def payRest (M : FVec Ideal S4x8192x8 .f32) : FVec Ideal S4x8192x8 .f32 :=
    select (cmpf .oeq (multiReduction (F := Ideal) .add [3] S4x8192x8 (select (cmpf .oge (broadcastTo S4x8192x8x254 (shapeCast S4x8192x8x1 M shapeCasts_S4x8192x8_S4x8192x8x1) broadcasts_S4x8192x8x1_S4x8192x8x254)
       (broadcastTo S4x8192x8x254 (exp2 (addf (sitofp .f32 (iota .tc S1x1x1x254 32 [3] iota_S1x1x1x254_d3_w32)) (broadcast S1x1x1x254 (Scalar.ofBits .f32 0xC2FC0000#32)))) broadcasts_S1x1x1x254_S4x8192x8x254))
       (broadcast S4x8192x8x254 (Scalar.ofBits (F := Ideal) .f32 0x3F800000#32)) (broadcast S4x8192x8x254 (Scalar.ofBits .f32 0x00000000#32))) 0x00000000#32 reduces_S4x8192x8x254_S4x8192x8 (.inl rfl) rfl) (broadcast S4x8192x8 (Scalar.ofBits (F := Ideal) .f32 0#32))) (broadcast S4x8192x8 (Scalar.ofBits (F := Ideal) .f32 1065353216#32))
      (exp2 (subf (multiReduction (F := Ideal) .add [3] S4x8192x8 (select (cmpf .oge (broadcastTo S4x8192x8x254 (shapeCast S4x8192x8x1 M shapeCasts_S4x8192x8_S4x8192x8x1) broadcasts_S4x8192x8x1_S4x8192x8x254)
       (broadcastTo S4x8192x8x254 (exp2 (addf (sitofp .f32 (iota .tc S1x1x1x254 32 [3] iota_S1x1x1x254_d3_w32)) (broadcast S1x1x1x254 (Scalar.ofBits .f32 0xC2FC0000#32)))) broadcasts_S1x1x1x254_S4x8192x8x254))
       (broadcast S4x8192x8x254 (Scalar.ofBits (F := Ideal) .f32 0x3F800000#32)) (broadcast S4x8192x8x254 (Scalar.ofBits .f32 0x00000000#32))) 0x00000000#32 reduces_S4x8192x8x254_S4x8192x8 (.inl rfl) rfl) (broadcast S4x8192x8 (Scalar.ofBits (F := Ideal) .f32 1123811328#32))))

theorem pay5_all (M : FVec Ideal S4x8192x8 .f32) (b : Fin 4) (t : Fin 8192) (g : Fin 8) :
    payRest M (ix3 b t g)
      = if reach 254 3271294976#32 (M (ix3 b t g)) = 0 then 1 else FloatOps.exp2 (F := Ideal) (φ := .f32) (reach 254 3271294976#32 (M (ix3 b t g)) - Ideal.ofBits .f32 1123811328#32) := by
  unfold payRest
  have h := pay5_ofB M b t g
  generalize (multiReduction (F := Ideal) .add [3] S4x8192x8 (select (cmpf .oge (broadcastTo S4x8192x8x254 (shapeCast S4x8192x8x1 M shapeCasts_S4x8192x8_S4x8192x8x1) broadcasts_S4x8192x8x1_S4x8192x8x254)
       (broadcastTo S4x8192x8x254 (exp2 (addf (sitofp .f32 (iota .tc S1x1x1x254 32 [3] iota_S1x1x1x254_d3_w32)) (broadcast S1x1x1x254 (Scalar.ofBits .f32 0xC2FC0000#32)))) broadcasts_S1x1x1x254_S4x8192x8x254))
       (broadcast S4x8192x8x254 (Scalar.ofBits (F := Ideal) .f32 0x3F800000#32)) (broadcast S4x8192x8x254 (Scalar.ofBits .f32 0x00000000#32))) 0x00000000#32 reduces_S4x8192x8x254_S4x8192x8 (.inl rfl) rfl) = R at h ⊢
  rw [← h]
  exact tail_at R b t g

/-- The payload in its pieces. -/
theorem pay5_eq : k0_pay5 (F := Ideal) x0 γ = payRest (mulf (multiReduction (F := Ideal) .maximumf [3] S4x8192x8 (absf (k0_pay4 (F := Ideal) x0 γ)) 0xFF800000#32 reduces_S4x8192x8x128_S4x8192x8 (.inl rfl) rfl) (broadcast S4x8192x8 (Scalar.ofBits (F := Ideal) .f32 0x3B124925#32))) := by
  unfold k0_pay5 payRest
  rfl

theorem mulf_at (M : FVec Ideal S4x8192x8 .f32) (b : Fin 4) (t : Fin 8192) (g : Fin 8) : mulf M (broadcast S4x8192x8 (Scalar.ofBits (F := Ideal) .f32 0x3B124925#32)) (ix3 b t g) = M (ix3 b t g) * Ideal.ofBits .f32 991054117#32 := by
  rfl

theorem pay5_split (b : Fin 4) (t : Fin 8192) (g : Fin 8) :
    k0_pay5 (F := Ideal) x0 γ (ix3 b t g) = refScale ((multiReduction (F := Ideal) .maximumf [3] S4x8192x8 (absf (k0_pay4 (F := Ideal) x0 γ)) 0xFF800000#32 reduces_S4x8192x8x128_S4x8192x8 (.inl rfl) rfl) (ix3 b t g)) := by
  rw [pay5_eq, pay5_all, mulf_at]
  unfold refScale
  rfl

theorem bot_bits : Ideal.ofBits .f32 0xFF800000#32 = ⊥ := by simp [Ideal.ofBits, Ideal.ieee]

theorem fold_congr (f g : Fin 128 → EReal) (h : ∀ l, f l = g l) : (Finset.univ.fold max (Ideal.ofBits .f32 0xFF800000#32) fun l : Fin 128 => FloatOps.absf (F := Ideal) (φ := .f32) (f l)) = Finset.univ.fold max ⊥ fun l : Fin 128 => FloatOps.absf (F := Ideal) (φ := .f32) (g l) := by
  rw [bot_bits, show f = g from funext h]

theorem max4_at (Y : FVec Ideal S4x8192x8x128 .f32) (b : Fin 4) (t : Fin 8192) (g : Fin 8) (h : ∀ l, Y (ix4 b t g l) = refY x0 γ b t (chan g l)) :
    multiReduction (F := Ideal) .maximumf [3] S4x8192x8 (absf Y) 0xFF800000#32 reduces_S4x8192x8x128_S4x8192x8 (.inl rfl) rfl (ix3 b t g) = refTop x0 γ b t g := by
  exact (max_at Y b t g).trans (fold_congr (fun l => Y (ix4 b t g l)) (fun l => refY x0 γ b t (chan g l)) h)

theorem pay5_at (b : Fin 4) (t : Fin 8192) (g : Fin 8) (h : ∀ l, k0_pay4 (F := Ideal) x0 γ (ix4 b t g l) = refY x0 γ b t (chan g l)) :
    k0_pay5 (F := Ideal) x0 γ (ix3 b t g) = refScale (refTop x0 γ b t g) := by
  have e := max4_at x0 γ (k0_pay4 x0 γ) b t g h
  have s := pay5_split x0 γ b t g
  rw [e] at s
  exact s

end Cert.ReferenceIdeal.Value
-- ==== Proof.RefC.lean ====
module
/-
  The reference's payloads read at one index, in scalar operations: the code.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

theorem pay6_at (y : FVec Ideal S4x8192x8x128 .f32) (s : FVec Ideal S4x8192x8 .f32) (b : Fin 4) (t : Fin 8192) (c : Fin 1024) :
    k0_pay6 (F := Ideal) y s (ix3 b t c) = refCode (y (ix4 b t ⟨c.val / 128, by omega⟩ ⟨c.val % 128, by omega⟩)) (s (ix3 b t ⟨c.val / 128, by omega⟩)) := by
  unfold k0_pay6
  pointwise
  rfl

end Cert.ReferenceIdeal.Value
-- ==== Proof.RefE.lean ====
module
/-
  The reference's payloads read at one index, in scalar operations: the code bytes.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

theorem pay12_at (y : FVec Ideal S4x8192x8x128 .f32) (s : FVec Ideal S4x8192x8 .f32) (b : Fin 4) (t : Fin 8192) (c : Fin 1024) :
    k0_pay12 (F := Ideal) (k0_pay8 y s) (k0_pay9 y s) (k0_pay10 y s) k0_pay11 (ix3 b t c) = refWord 14 3231711232#32 1086324736#32 8#32 1090519040#32 128#32 128#32 (k0_pay6 y s (ix3 b t c)) := by
  unfold k0_pay12 k0_pay11 k0_pay10 k0_pay9 k0_pay8
  generalize k0_pay6 y s = z
  pointwise
  rfl

end Cert.ReferenceIdeal.Value
-- ==== Proof.RefF.lean ====
module
/-
  The reference's payloads read at one index, in scalar operations: the scale bytes.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

theorem pay15_at (s : FVec Ideal S4x8192x8 .f32) (b : Fin 4) (t : Fin 8192) (c : Fin 32) :
    k0_pay15 (F := Ideal) s (k0_pay13 s) (k0_pay14 s) (ix3 b t c) =
      IntOp.andi (IntOp.shrui .vector (refWord 253 3271163904#32 1123811328#32 8388608#32 1258291200#32 2139095040#32 0#32 (s (ix3 b t ⟨c.val / 4, by omega⟩))) (IntOp.muli 8#32 (BitVec.ofNat 32 (c.val % 4)))) 255#32 := by
  unfold k0_pay15 k0_pay14 k0_pay13
  pointwise
  rfl

end Cert.ReferenceIdeal.Value
-- ==== Proof.RefG.lean ====
module
/-
  The reference's payloads read at one index, in scalar operations: the record, code and scale rows.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

variable (B : IVec S4x8192x1024 32) (S : IVec S4x8192x32 32) (z : FVec Ideal S4x8192x64 .bf16)
theorem pay20_code (b : Fin 4) (r : Fin 1184) (t : Fin 8192) (h : r.val < 1024) :
    k0_pay20 (F := Ideal) B S (k0_pay16 z) (k0_pay17 z) k0_pay18 (k0_pay19 z) (ix3 b r t) = B (ix3 b t ⟨r.val, h⟩) := by
  unfold k0_pay20
  pointwise [h]
theorem pay20_scale (b : Fin 4) (r : Fin 1184) (t : Fin 8192) (h : ¬ r.val < 1024) (h' : r.val - 1024 < 32) :
    k0_pay20 (F := Ideal) B S (k0_pay16 z) (k0_pay17 z) k0_pay18 (k0_pay19 z) (ix3 b r t) = S (ix3 b t ⟨r.val - 1024, h'⟩) := by
  unfold k0_pay20
  pointwise [h, h']

end Cert.ReferenceIdeal.Value
-- ==== Proof.RefH.lean ====
module
/-
  The reference's payloads read at one index, in scalar operations: the record, rope rows.
-/
public import proofs.«01_k».proof.Proof.RefDefs
public import proofs.«01_k».proof.Proof.Scalars
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

variable (B : IVec S4x8192x1024 32) (S : IVec S4x8192x32 32) (z : FVec Ideal S4x8192x64 .bf16)
theorem pay20_rope (b : Fin 4) (r : Fin 1184) (t : Fin 8192) (h : ¬ r.val < 1024) (h' : ¬ r.val - 1024 < 32) :
    k0_pay20 (F := Ideal) B S (k0_pay16 z) (k0_pay17 z) k0_pay18 (k0_pay19 z) (ix3 b r t) =
      IntOp.andi (IntOp.shrui .vector (refWord 253 3271163904#32 1123811328#32 128#32 1124073472#32 32640#32 32768#32 (z (ix3 b t ⟨(r.val - 1056) / 2, by omega⟩))) (IntOp.muli 8#32 (BitVec.ofNat 32 ((r.val - 1056) % 2)))) 255#32 := by
  unfold k0_pay20 k0_pay19 k0_pay18 k0_pay17 k0_pay16
  pointwise [h, h']
  rfl

end Cert.ReferenceIdeal.Value
-- ==== Proof.RefValue.lean ====
module
/-
  The reference's three results at an index, and the kernel's block of them.
-/
public import proofs.«01_k».proof.Proof.Angle
public import proofs.«01_k».proof.Proof.RefA
public import proofs.«01_k».proof.Proof.RefB
public import proofs.«01_k».proof.Proof.RefC
public import proofs.«01_k».proof.Proof.RefE
public import proofs.«01_k».proof.Proof.RefF
public import proofs.«01_k».proof.Proof.RefG
public import proofs.«01_k».proof.Proof.RefH
@[expose] public section
set_option maxRecDepth 16384
noncomputable section
namespace Cert.ReferenceIdeal.Value
open Idealize.ShloMosaic Idealize.ShloMosaic.TcCoe Idealize.ShloMosaic.Tactic
open Idealize.SL Idealize.SL.Sem
open Cert.ReferenceIdeal Cert.ReferenceIdeal.Gen

variable (x0 : Vec Ideal S4x8192x1088 .bf16) (γ : Vec Ideal S1024 .f32) (p : Vec Ideal S4 .i32)

theorem pay21_eq : k0_pay21 (F := Ideal) x0 γ p = k0_pay4 x0 γ := by
  unfold k0_pay21
  rw [View.ld_unit_zero (S := S4x8192x1088) (by decide), View.ld_unit_zero (S := S1024) (by decide)]
theorem pay22_eq : k0_pay22 (F := Ideal) x0 γ p = k0_pay5 x0 γ := by
  unfold k0_pay22
  rw [View.ld_unit_zero (S := S4x8192x1088) (by decide), View.ld_unit_zero (S := S1024) (by decide)]
theorem pay23_eq : k0_pay23 (F := Ideal) x0 γ p = k0_pay7 (k0_pay3 x0) p := by
  unfold k0_pay23
  rw [View.ld_unit_zero (S := S4x8192x1088) (by decide), View.ld_unit_zero (S := S4) (by decide)]

theorem pay22_at (b : Fin 4) (t : Fin 8192) (g : Fin 8) : k0_pay22 (F := Ideal) x0 γ p (ix3 b t g) = refScale (refTop x0 γ b t g) := by
  rw [pay22_eq]
  exact pay5_at x0 γ b t g fun l => pay4_at x0 γ b t g l

theorem pay2_at (s : FVec Ideal S4x8192x8 .f32) (b : Fin 4) (t : Fin 8192) (g : Fin 8) : k0_pay2 (F := Ideal) s (ix3 b g t) = s (ix3 b t g) := by
  unfold k0_pay2
  pointwise

theorem pay1_at (z : IVec S4x1184x8192 32) (b : Fin 4) (r : Fin 1184) (t : Fin 8192) : k0_pay1 z (ix3 b r t) = (z (ix3 b r t)).setWidth 8 := by
  rfl

/-- The scales. -/
theorem G5_at (b : Fin 4) (t : Fin 8192) (g : Fin 8) : G5 (F := Ideal) x0 γ p (ix3 b g t) = refScale (refTop x0 γ b t g) :=
  (pay2_at _ b t g).trans (pay22_at x0 γ p b t g)

/-- The codes. -/
theorem code_at (b : Fin 4) (t : Fin 8192) (c : Fin 1024) : k0_pay6 (F := Ideal) (k0_pay21 x0 γ p) (k0_pay22 x0 γ p) (ix3 b t c) = refCode (refY x0 γ b t c) (refScale (refTop x0 γ b t ⟨c.val / 128, by omega⟩)) := by
  rw [pay6_at, pay22_at, pay21_eq, pay4_at]
  refine congrArg (fun c => refCode (refY x0 γ b t c) _) (Fin.ext ?_)
  show c.val / 128 * 128 + c.val % 128 = c.val
  omega

theorem G4_at (b : Fin 4) (t : Fin 8192) (c : Fin 1024) : G4 (F := Ideal) x0 γ p (ix3 b t c) = refCode (refY x0 γ b t c) (refScale (refTop x0 γ b t ⟨c.val / 128, by omega⟩)) :=
  code_at x0 γ p b t c

end Cert.ReferenceIdeal.Value

namespace Cert.KernelIdeal.Run
open Idealize.ShloMosaic Idealize.ShloMosaic.TcCoe Idealize.ShloMosaic.Tactic
open Idealize.SL Idealize.SL.Sem
open Cert.KernelIdeal Cert.KernelIdeal.Gen
open Cert.ReferenceIdeal.Value (refR refY refTop refScale refCode chan refAngle)

variable {X : Vec Ideal S1x1088x1024 .bf16} {g : ℕ → EReal} {l : ℕ} {x0 : Vec Ideal S4x8192x1088 .bf16} {γ : Vec Ideal S1024 .f32} {b : Fin 4} {t : Fin 8192}
  (T : Token X g l x0 γ b t) (p : Vec Ideal S4 .i32)
include T

theorem rec_code (W : Tables) (first : BitVec 32) (r : Fin 1184) (h : r.val < 1024) : recG X g W first r.val l = Cert.ReferenceIdeal.Value.G3 (F := Ideal) x0 γ p (ix3 b r t) := by
  unfold Cert.ReferenceIdeal.Value.G3
  rw [Cert.ReferenceIdeal.Value.pay1_at, Cert.ReferenceIdeal.Value.pay20_code _ _ _ b r t h, Cert.ReferenceIdeal.Value.pay12_at, Cert.ReferenceIdeal.Value.code_at]
  unfold recG
  rw [if_pos h]
  exact T.codeByte ⟨r.val, h⟩

theorem rec_scale (W : Tables) (first : BitVec 32) (r : Fin 1184) (h : ¬ r.val < 1024) (h' : r.val - 1024 < 32) : recG X g W first r.val l = Cert.ReferenceIdeal.Value.G3 (F := Ideal) x0 γ p (ix3 b r t) := by
  unfold Cert.ReferenceIdeal.Value.G3
  rw [Cert.ReferenceIdeal.Value.pay1_at, Cert.ReferenceIdeal.Value.pay20_scale _ _ _ b r t h h', Cert.ReferenceIdeal.Value.pay15_at, Cert.ReferenceIdeal.Value.pay22_at]
  unfold recG
  rw [if_neg h, if_pos (by omega)]
  exact T.scaleByte ⟨(r.val - 1024) / 4, by omega⟩ _ (by omega)

/-- The rotated channel. -/
theorem turned_eq (n : ℕ) (hn : n < 32) (hl : l < 1024) (hb : b.val = n / 8) (ht : t.val = n % 8 * 1024 + l)
    (hp : (p (ix1 b)).toInt ≤ 2147475456) (q : Fin 64) :
    turned X (tables p n) (farPos p n) q.val l = Cert.ReferenceIdeal.Gen.k0_pay23 (F := Ideal) x0 γ p (ix3 b t q) := by
  have hpos : posOf p (n / 8) = p (ix1 b) := by
    unfold posOf
    rw [dif_pos (by omega)]
    exact congrArg (fun b => p (ix1 b)) (Fin.ext hb.symm)
  rw [Cert.ReferenceIdeal.Value.pay23_eq]
  unfold turned
  by_cases hq : q.val < 32
  · obtain ⟨hc, hs⟩ := fine_eq p n hn l hl q.val hq (by rw [hpos]; exact hp)
    rw [if_pos hq, hc, hs, hpos, ← ht, Cert.ReferenceIdeal.Value.pay7_lo x0 p b t q hq]
    rw [show 1056 + q.val = 1024 + (32 + q.val) by omega]
    rw [T.x ⟨1024 + q.val, by omega⟩, T.x ⟨1024 + (32 + q.val), by omega⟩]
  · obtain ⟨hc, hs⟩ := fine_eq p n hn l hl (q.val - 32) (by omega) (by rw [hpos]; exact hp)
    rw [if_neg hq, hc, hs, hpos, ← ht, Cert.ReferenceIdeal.Value.pay7_hi x0 p b t q hq]
    rw [show 1024 + q.val = 1024 + (32 + (q.val - 32)) by omega, show 992 + q.val = 1024 + (q.val - 32) by omega]
    rw [T.x ⟨1024 + (32 + (q.val - 32)), by omega⟩, T.x ⟨1024 + (q.val - 32), by omega⟩]

theorem rec_rope (n : ℕ) (hn : n < 32) (hl : l < 1024) (hb : b.val = n / 8) (ht : t.val = n % 8 * 1024 + l)
    (hp : (p (ix1 b)).toInt ≤ 2147475456) (r : Fin 1184) (h : ¬ r.val < 1024) (h' : ¬ r.val - 1024 < 32) :
    recG X g (tables p n) (farPos p n) r.val l = Cert.ReferenceIdeal.Value.G3 (F := Ideal) x0 γ p (ix3 b r t) := by
  unfold Cert.ReferenceIdeal.Value.G3
  rw [Cert.ReferenceIdeal.Value.pay1_at, Cert.ReferenceIdeal.Value.pay20_rope _ _ _ b r t h h']
  unfold recG
  rw [if_neg h, if_neg (by omega), half_eq _ _ (by omega)]
  rw [show turned X (tables p n) (farPos p n) ((r.val - 1056) / 2) l = _ from turned_eq T p n hn hl hb ht hp ⟨(r.val - 1056) / 2, by omega⟩]

/-- A byte of the record. -/
theorem rec_eq (n : ℕ) (hn : n < 32) (hl : l < 1024) (hb : b.val = n / 8) (ht : t.val = n % 8 * 1024 + l)
    (hp : (p (ix1 b)).toInt ≤ 2147475456) (r : Fin 1184) :
    recG X g (tables p n) (farPos p n) r.val l = Cert.ReferenceIdeal.Value.G3 (F := Ideal) x0 γ p (ix3 b r t) := by
  by_cases h : r.val < 1024
  · exact rec_code T p _ _ r h
  by_cases h' : r.val - 1024 < 32
  · exact rec_scale T p _ _ r h h'
  exact rec_rope T p n hn hl hb ht hp r h h'

end Cert.KernelIdeal.Run
-- ==== Proof.Arrays.lean ====
module
/-
  The kernel's three arrays after the run, as functions of the arguments.
-/
public import proofs.«01_k».proof.Proof.KernelValue
public import proofs.«01_k».proof.Proof.RefValue
@[expose] public section
set_option maxRecDepth 16384
noncomputable section
namespace Cert.KernelIdeal.Run
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ)

theorem coords_b (t : Fin grid0.N) : (grid0.coords t 0).val = t.val / 8 := by
  have ht : t.val < 32 := Nat.lt_of_lt_of_eq t.isLt N_0
  have e0 : (grid0.coords t 0).val = t.val / 8 % 4 := Pipeline.Grid.coords_val t 0 (by decide) rfl
  rw [e0]; omega
theorem coords_s (t : Fin grid0.N) : (grid0.coords t 1).val = t.val % 8 := by
  have e1 : (grid0.coords t 1).val = t.val / 1 % 8 := Pipeline.Grid.coords_val t 1 (by decide) rfl
  rw [e1, Nat.div_one]

theorem toNat_small (n : ℕ) (h : n < 32) : (BitVec.ofNat 32 n).toNat = n := by
  rw [BitVec.toNat_ofNat]; omega

/-- The sequence of a point, -/
def seqOf (t : Fin grid0.N) : Fin 4 := ⟨t.val / 8, by have := Nat.lt_of_lt_of_eq t.isLt N_0; omega⟩
/-- and the token at lane `l` of its block. -/
def tokOf (t : Fin grid0.N) (l : Fin 1024) : Fin 8192 := ⟨t.val % 8 * 1024 + l.val, by omega⟩

/-- Where a block's element lies in its array. -/
theorem emb_0 (t : Fin grid0.N) (j : S1x1088x1024.Idx) : (((Cfg₀ m).win 0).blk t).view.emb j = (ix3 (seqOf t) (j 1) (tokOf t (j 2)) : S4x1088x8192.Idx) := by
  have ht : t.val < 32 := Nat.lt_of_lt_of_eq t.isLt N_0
  funext a; apply Fin.ext
  match a with
  | ⟨0, _⟩ =>
    show (BitVec.ofNat 32 (grid0.coords t 0).val).toNat * 1 + 1 * (j 0).val = t.val / 8
    have h0 : (j 0).val < 1 := (j 0).isLt
    rw [coords_b, toNat_small _ (by omega)]; omega
  | ⟨1, _⟩ => show 0 * 1088 + 1 * (j 1).val = (j 1).val; omega
  | ⟨2, _⟩ =>
    show (BitVec.ofNat 32 (grid0.coords t 1).val).toNat * 1024 + 1 * (j 2).val = t.val % 8 * 1024 + (j 2).val
    rw [coords_s, toNat_small _ (by omega)]; omega
theorem emb_2 (t : Fin grid0.N) (j : S1x1184x1024.Idx) : (((Cfg₀ m).win 2).blk t).view.emb j = (ix3 (seqOf t) (j 1) (tokOf t (j 2)) : S4x1184x8192.Idx) := by
  have ht : t.val < 32 := Nat.lt_of_lt_of_eq t.isLt N_0
  funext a; apply Fin.ext
  match a with
  | ⟨0, _⟩ =>
    show (BitVec.ofNat 32 (grid0.coords t 0).val).toNat * 1 + 1 * (j 0).val = t.val / 8
    have h0 : (j 0).val < 1 := (j 0).isLt
    rw [coords_b, toNat_small _ (by omega)]; omega
  | ⟨1, _⟩ => show 0 * 1184 + 1 * (j 1).val = (j 1).val; omega
  | ⟨2, _⟩ =>
    show (BitVec.ofNat 32 (grid0.coords t 1).val).toNat * 1024 + 1 * (j 2).val = t.val % 8 * 1024 + (j 2).val
    rw [coords_s, toNat_small _ (by omega)]; omega
theorem emb_3 (t : Fin grid0.N) (j : S1x1024x1024.Idx) : (((Cfg₀ m).win 3).blk t).view.emb j = (ix3 (seqOf t) (tokOf t (j 1)) (j 2) : S4x8192x1024.Idx) := by
  have ht : t.val < 32 := Nat.lt_of_lt_of_eq t.isLt N_0
  funext a; apply Fin.ext
  match a with
  | ⟨0, _⟩ =>
    show (BitVec.ofNat 32 (grid0.coords t 0).val).toNat * 1 + 1 * (j 0).val = t.val / 8
    have h0 : (j 0).val < 1 := (j 0).isLt
    rw [coords_b, toNat_small _ (by omega)]; omega
  | ⟨1, _⟩ =>
    show (BitVec.ofNat 32 (grid0.coords t 1).val).toNat * 1024 + 1 * (j 1).val = t.val % 8 * 1024 + (j 1).val
    rw [coords_s, toNat_small _ (by omega)]; omega
  | ⟨2, _⟩ => show 0 * 1024 + 1 * (j 2).val = (j 2).val; omega
theorem emb_4 (t : Fin grid0.N) (j : S1x8x1024.Idx) : (((Cfg₀ m).win 4).blk t).view.emb j = (ix3 (seqOf t) (j 1) (tokOf t (j 2)) : S4x8x8192.Idx) := by
  have ht : t.val < 32 := Nat.lt_of_lt_of_eq t.isLt N_0
  funext a; apply Fin.ext
  match a with
  | ⟨0, _⟩ =>
    show (BitVec.ofNat 32 (grid0.coords t 0).val).toNat * 1 + 1 * (j 0).val = t.val / 8
    have h0 : (j 0).val < 1 := (j 0).isLt
    rw [coords_b, toNat_small _ (by omega)]; omega
  | ⟨1, _⟩ => show 0 * 8 + 1 * (j 1).val = (j 1).val; omega
  | ⟨2, _⟩ =>
    show (BitVec.ofNat 32 (grid0.coords t 1).val).toNat * 1024 + 1 * (j 2).val = t.val % 8 * 1024 + (j 2).val
    rw [coords_s, toNat_small _ (by omega)]; omega

/-- The arguments. -/
abbrev arg0 (c : Dev nD) : Vec Ideal S4x8192x1088 .bf16 := m ((c : Thread nD τ).loc main_arg0)
abbrev arg1 (c : Dev nD) : Vec Ideal S1024 .f32 := m ((c : Thread nD τ).loc main_arg1)
abbrev arg2 (c : Dev nD) : Vec Ideal S4 .i32 := m ((c : Thread nD τ).loc main_arg2)

theorem V_v0 (c : Dev nD) : (V m c main_v0 : Vec Ideal S4x1088x8192 .bf16) = transpose S4x1088x8192 [0, 2, 1] (arg0 m c) transposes_S4x8192x1088_S4x1088x8192_0_2_1 := by
  unfold V
  after_results
theorem V_v1 (c : Dev nD) : (V m c main_v1 : Vec Ideal S8x128 .f32) = shapeCast S8x128 (arg1 m c) shapeCasts_S1024_S8x128 := by
  unfold V
  after_results
  rfl

/-- The input block is the argument's. -/
theorem x_at (c : Dev nD) (t : Fin grid0.N) (l : Fin 1024) (ch : Fin 1088) : xat (xBlk m c t) ch.val l.val = arg0 m c (ix3 (seqOf t) (tokOf t l) ch) := by
  rw [← xat_eq (xBlk m c t) 0 ch l]
  show (V m c main_v0 : Vec Ideal S4x1088x8192 .bf16) ((((Cfg₀ m).win 0).blk t).view.emb (ix3 0 ch l : S1x1088x1024.Idx)) = _
  rw [emb_0, V_v0]
  pointwise

theorem g_at (c : Dev nD) (ch : Fin 1024) : gn m c ch.val = arg1 m c (ix1 ch) := by
  unfold gn gainOf gainRows
  rw [dif_pos (by omega), V_v1]
  pointwise

variable {m}
theorem token (c : Dev nD) (hfin : ∀ ch : Fin 1024, ∃ v : ℝ, arg1 m c (ix1 ch) = ((v : ℝ) : EReal) ∧ |v| ≤ 2 ^ 128) (t : Fin grid0.N) (l : Fin 1024) :
    Token (xBlk m c t) (gn m c) l.val (arg0 m c) (arg1 m c) (seqOf t) (tokOf t l) :=
  ⟨x_at m c t l, g_at m c, hfin⟩

/-- The point whose block holds a token. -/
def pointOf (b : Fin 4) (s : Fin 8192) : Fin grid0.N := ⟨b.val * 8 + s.val / 1024, by rw [N_0]; omega⟩
def laneOf (s : Fin 8192) : Fin 1024 := ⟨s.val % 1024, by omega⟩
theorem seq_pointOf (b : Fin 4) (s : Fin 8192) : seqOf (pointOf b s) = b := Fin.ext (by show (b.val * 8 + s.val / 1024) / 8 = b.val; omega)
theorem tok_pointOf (b : Fin 4) (s : Fin 8192) : tokOf (pointOf b s) (laneOf s) = s := Fin.ext (by show (b.val * 8 + s.val / 1024) % 8 * 1024 + s.val % 1024 = s.val; omega)

theorem seqStart_eq (c : Dev nD) : seqStart m c = arg2 m c := V_main_arg2 m c

variable (c : Dev nD) (hfin : ∀ ch : Fin 1024, ∃ v : ℝ, arg1 m c (ix1 ch) = ((v : ℝ) : EReal) ∧ |v| ≤ 2 ^ 128)
  (hpos : ∀ b : Fin 4, (arg2 m c (ix1 b)).toInt ≤ 2147475456)

include hfin hpos in
theorem block_2 (t : Fin grid0.N) (j : S1x1184x1024.Idx) : recBlk (xBlk m c t) (gn m c) (tables (arg2 m c) t.val) (farPos (arg2 m c) t.val) j = Cert.ReferenceIdeal.Value.G3 (F := Ideal) (arg0 m c) (arg1 m c) (arg2 m c) (ix3 (seqOf t) (j 1) (tokOf t (j 2)) : S4x1184x8192.Idx) := by
  have ht : t.val < 32 := Nat.lt_of_lt_of_eq t.isLt N_0
  exact rec_eq (token c hfin t (j 2)) (arg2 m c) t.val ht (j 2).isLt rfl rfl (hpos _) (j 1)

include hfin hpos in
theorem flushed_2 (t : Fin grid0.N) : (vdats m 0 c).flushed 2 t = (((Cfg₀ m).win 2).blk t).view.read (Elt Ideal) (Cert.ReferenceIdeal.Value.G3 (F := Ideal) (arg0 m c) (arg1 m c) (arg2 m c)) := by
  have hA : (vdats m 0 c).after 2 t = recBlk (xBlk m c t) (gn m c) (tables (arg2 m c) t.val) (farPos (arg2 m c) t.val) := by
    rw [vafter2, seqStart_eq]
  funext j
  show (vdats m 0 c).after 2 t j = Cert.ReferenceIdeal.Value.G3 (F := Ideal) (arg0 m c) (arg1 m c) (arg2 m c) ((((Cfg₀ m).win 2).blk t).view.emb j)
  exact (congrFun hA j).trans ((block_2 c hfin hpos t j).trans (congrArg (Cert.ReferenceIdeal.Value.G3 (F := Ideal) (arg0 m c) (arg1 m c) (arg2 m c)) (emb_2 m t j).symm))

include hfin in
theorem block_3 (t : Fin grid0.N) (j : S1x1024x1024.Idx) : codeBlk (xBlk m c t) (gn m c) j = Cert.ReferenceIdeal.Value.G4 (F := Ideal) (arg0 m c) (arg1 m c) (arg2 m c) (ix3 (seqOf t) (tokOf t (j 1)) (j 2) : S4x8192x1024.Idx) := by
  have ht : t.val < 32 := Nat.lt_of_lt_of_eq t.isLt N_0
  exact ((token c hfin t (j 1)).code (j 2)).trans (Cert.ReferenceIdeal.Value.G4_at (arg0 m c) (arg1 m c) (arg2 m c) (seqOf t) (tokOf t (j 1)) (j 2)).symm

include hfin in
theorem flushed_3 (t : Fin grid0.N) : (vdats m 0 c).flushed 3 t = (((Cfg₀ m).win 3).blk t).view.read (Elt Ideal) (Cert.ReferenceIdeal.Value.G4 (F := Ideal) (arg0 m c) (arg1 m c) (arg2 m c)) := by
  have hA : (vdats m 0 c).after 3 t = codeBlk (xBlk m c t) (gn m c) := by
    rw [vafter3]
  funext j
  show (vdats m 0 c).after 3 t j = Cert.ReferenceIdeal.Value.G4 (F := Ideal) (arg0 m c) (arg1 m c) (arg2 m c) ((((Cfg₀ m).win 3).blk t).view.emb j)
  exact (congrFun hA j).trans ((block_3 c hfin t j).trans (congrArg (Cert.ReferenceIdeal.Value.G4 (F := Ideal) (arg0 m c) (arg1 m c) (arg2 m c)) (emb_3 m t j).symm))

include hfin in
theorem block_4 (t : Fin grid0.N) (j : S1x8x1024.Idx) : scaleBlk (xBlk m c t) (gn m c) j = Cert.ReferenceIdeal.Value.G5 (F := Ideal) (arg0 m c) (arg1 m c) (arg2 m c) (ix3 (seqOf t) (j 1) (tokOf t (j 2)) : S4x8x8192.Idx) := by
  have ht : t.val < 32 := Nat.lt_of_lt_of_eq t.isLt N_0
  exact ((token c hfin t (j 2)).scale (j 1)).trans (Cert.ReferenceIdeal.Value.G5_at (arg0 m c) (arg1 m c) (arg2 m c) (seqOf t) (tokOf t (j 2)) (j 1)).symm

include hfin in
theorem flushed_4 (t : Fin grid0.N) : (vdats m 0 c).flushed 4 t = (((Cfg₀ m).win 4).blk t).view.read (Elt Ideal) (Cert.ReferenceIdeal.Value.G5 (F := Ideal) (arg0 m c) (arg1 m c) (arg2 m c)) := by
  have hA : (vdats m 0 c).after 4 t = scaleBlk (xBlk m c t) (gn m c) := by
    rw [vafter4]
  funext j
  show (vdats m 0 c).after 4 t j = Cert.ReferenceIdeal.Value.G5 (F := Ideal) (arg0 m c) (arg1 m c) (arg2 m c) ((((Cfg₀ m).win 4).blk t).view.emb j)
  exact (congrFun hA j).trans ((block_4 c hfin t j).trans (congrArg (Cert.ReferenceIdeal.Value.G5 (F := Ideal) (arg0 m c) (arg1 m c) (arg2 m c)) (emb_4 m t j).symm))

theorem flush_2 : ∀ t : Fin grid0.N, ((Cfg₀ m).win 2).flush t = true :=
  (by decide +kernel : ∀ t : Fin grid0.N, Pipeline.Window.flushOf grid0 true cc0_transform_2 t = true)
theorem flush_3 : ∀ t : Fin grid0.N, ((Cfg₀ m).win 3).flush t = true :=
  (by decide +kernel : ∀ t : Fin grid0.N, Pipeline.Window.flushOf grid0 true cc0_transform_3 t = true)
theorem flush_4 : ∀ t : Fin grid0.N, ((Cfg₀ m).win 4).flush t = true :=
  (by decide +kernel : ∀ t : Fin grid0.N, Pipeline.Window.flushOf grid0 true cc0_transform_4 t = true)

theorem mem_2 (b : Fin 4) (r : Fin 1184) (s : Fin 8192) : (ix3 b r s : S4x1184x8192.Idx) ∈ (((Cfg₀ m).win 2).blk (pointOf b s)).view.set := by
  have h := (((Cfg₀ m).win 2).blk (pointOf b s)).view.emb_mem_set (ix3 0 r (laneOf s) : S1x1184x1024.Idx)
  have e := emb_2 m (pointOf b s) (ix3 0 r (laneOf s) : S1x1184x1024.Idx)
  have e2 : (ix3 (seqOf (pointOf b s)) r (tokOf (pointOf b s) (laneOf s)) : S4x1184x8192.Idx) = ix3 b r s := by
    rw [seq_pointOf, tok_pointOf]
  have e3 : (((Cfg₀ m).win 2).blk (pointOf b s)).view.emb (ix3 0 r (laneOf s) : S1x1184x1024.Idx) = (ix3 b r s : S4x1184x8192.Idx) := e.trans e2
  rw [e3] at h
  exact h

theorem covered_2 (i : S4x1184x8192.Idx) : ∃ t : Fin grid0.N, ((Cfg₀ m).win 2).flush t = true ∧ i ∈ (((Cfg₀ m).win 2).blk t).view.set := by
  have hi : i = (ix3 (i 0) (i 1) (i 2) : S4x1184x8192.Idx) := by
    funext a
    match a with
    | ⟨0, _⟩ => rfl
    | ⟨1, _⟩ => rfl
    | ⟨2, _⟩ => rfl
  refine ⟨(pointOf (i 0) (i 2)), flush_2 _, ?_⟩
  have h := mem_2 (m := m) (i 0) (i 1) (i 2)
  rw [← hi] at h
  exact h

theorem mem_3 (b : Fin 4) (r : Fin 1024) (s : Fin 8192) : (ix3 b s r : S4x8192x1024.Idx) ∈ (((Cfg₀ m).win 3).blk (pointOf b s)).view.set := by
  have h := (((Cfg₀ m).win 3).blk (pointOf b s)).view.emb_mem_set (ix3 0 (laneOf s) r : S1x1024x1024.Idx)
  have e := emb_3 m (pointOf b s) (ix3 0 (laneOf s) r : S1x1024x1024.Idx)
  have e2 : (ix3 (seqOf (pointOf b s)) (tokOf (pointOf b s) (laneOf s)) r : S4x8192x1024.Idx) = ix3 b s r := by
    rw [seq_pointOf, tok_pointOf]
  have e3 : (((Cfg₀ m).win 3).blk (pointOf b s)).view.emb (ix3 0 (laneOf s) r : S1x1024x1024.Idx) = (ix3 b s r : S4x8192x1024.Idx) := e.trans e2
  rw [e3] at h
  exact h

theorem covered_3 (i : S4x8192x1024.Idx) : ∃ t : Fin grid0.N, ((Cfg₀ m).win 3).flush t = true ∧ i ∈ (((Cfg₀ m).win 3).blk t).view.set := by
  have hi : i = (ix3 (i 0) (i 1) (i 2) : S4x8192x1024.Idx) := by
    funext a
    match a with
    | ⟨0, _⟩ => rfl
    | ⟨1, _⟩ => rfl
    | ⟨2, _⟩ => rfl
  refine ⟨(pointOf (i 0) (i 1)), flush_3 _, ?_⟩
  have h := mem_3 (m := m) (i 0) (i 2) (i 1)
  rw [← hi] at h
  exact h

theorem mem_4 (b : Fin 4) (r : Fin 8) (s : Fin 8192) : (ix3 b r s : S4x8x8192.Idx) ∈ (((Cfg₀ m).win 4).blk (pointOf b s)).view.set := by
  have h := (((Cfg₀ m).win 4).blk (pointOf b s)).view.emb_mem_set (ix3 0 r (laneOf s) : S1x8x1024.Idx)
  have e := emb_4 m (pointOf b s) (ix3 0 r (laneOf s) : S1x8x1024.Idx)
  have e2 : (ix3 (seqOf (pointOf b s)) r (tokOf (pointOf b s) (laneOf s)) : S4x8x8192.Idx) = ix3 b r s := by
    rw [seq_pointOf, tok_pointOf]
  have e3 : (((Cfg₀ m).win 4).blk (pointOf b s)).view.emb (ix3 0 r (laneOf s) : S1x8x1024.Idx) = (ix3 b r s : S4x8x8192.Idx) := e.trans e2
  rw [e3] at h
  exact h

theorem covered_4 (i : S4x8x8192.Idx) : ∃ t : Fin grid0.N, ((Cfg₀ m).win 4).flush t = true ∧ i ∈ (((Cfg₀ m).win 4).blk t).view.set := by
  have hi : i = (ix3 (i 0) (i 1) (i 2) : S4x8x8192.Idx) := by
    funext a
    match a with
    | ⟨0, _⟩ => rfl
    | ⟨1, _⟩ => rfl
    | ⟨2, _⟩ => rfl
  refine ⟨(pointOf (i 0) (i 2)), flush_4 _, ?_⟩
  have h := mem_4 (m := m) (i 0) (i 1) (i 2)
  rw [← hi] at h
  exact h

include hfin hpos in
/-- The record array. -/
theorem final_2 : (vdats m 0 c).arrAt 2 (Cfg₀ m).N = Cert.ReferenceIdeal.Value.G3 (F := Ideal) (arg0 m c) (arg1 m c) (arg2 m c) :=
  (vdats m 0 c).arrAt_eq_of_cover 2 _ (fun t _ => flushed_2 c hfin hpos t) covered_2
include hfin in
/-- The codes. -/
theorem final_3 : (vdats m 0 c).arrAt 3 (Cfg₀ m).N = Cert.ReferenceIdeal.Value.G4 (F := Ideal) (arg0 m c) (arg1 m c) (arg2 m c) :=
  (vdats m 0 c).arrAt_eq_of_cover 3 _ (fun t _ => flushed_3 c hfin t) covered_3
include hfin in
/-- The scales. -/
theorem final_4 : (vdats m 0 c).arrAt 4 (Cfg₀ m).N = Cert.ReferenceIdeal.Value.G5 (F := Ideal) (arg0 m c) (arg1 m c) (arg2 m c) :=
  (vdats m 0 c).arrAt_eq_of_cover 4 _ (fun t _ => flushed_4 c hfin t) covered_4

/-- Every run ends with the three arrays at the reference's values, the arguments unchanged. -/
theorem value_run (ρ : Dev nD → PrngReg) (hfin : ∀ (c : Dev nD) (ch : Fin 1024), ∃ v : ℝ, arg1 m c (ix1 ch) = ((v : ℝ) : EReal) ∧ |v| ≤ 2 ^ 128)
    (hpos : ∀ (c : Dev nD) (b : Fin 4), (arg2 m c (ix1 b)).toInt ≤ 2147475456) :
    θ_run defs (onTc (τ := τ) (main (F := Ideal))) ⟨m, fun _ => 0, ρ⟩ fun r => ∀ c : Dev nD,
      r.2.mem ((c.tc : Thread nD τ).loc main_v2_0) = Cert.ReferenceIdeal.Value.G3 (F := Ideal) (arg0 m c) (arg1 m c) (arg2 m c)
      ∧ r.2.mem ((c.tc : Thread nD τ).loc main_v2_1) = Cert.ReferenceIdeal.Value.G4 (F := Ideal) (arg0 m c) (arg1 m c) (arg2 m c)
      ∧ r.2.mem ((c.tc : Thread nD τ).loc main_v2_2) = Cert.ReferenceIdeal.Value.G5 (F := Ideal) (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).1 2).trans (final_2 c (hfin c) (hpos c)),
       ((h c).1 3).trans (final_3 c (hfin c)),
       ((h c).1 4).trans (final_4 c (hfin c)),
       ((h c).2 main_arg0 (Pipeline.mem_restRefs_of (win := spec0) main_arg0 (by decide) (by decide : ∀ w : Fin 5, (spec0 w).arr.view.ref ≠ main_arg0))).trans (V_main_arg0 m c),
       ((h c).2 main_arg1 (Pipeline.mem_restRefs_of (win := spec0) main_arg1 (by decide) (by decide : ∀ w : Fin 5, (spec0 w).arr.view.ref ≠ main_arg1))).trans (V_main_arg1 m c),
       ((h c).2 main_arg2 (Pipeline.mem_restRefs_of (win := spec0) main_arg2 (by decide) (by decide : ∀ w : Fin 5, (spec0 w).arr.view.ref ≠ main_arg2))).trans (V_main_arg2 m c)⟩)
    (vrun m ρ)

end Cert.KernelIdeal.Run
-- ==== Proof.Pre.lean ====
module
/-
  What the precondition says of the arguments.
-/
public import proofs.«01_k».proof.Proof.Search
public import proofs.«01_k».proof.Pre_ordinary
public import Idealize.ShloMosaic.Lib.ReduceAll
@[expose] public section
set_option maxRecDepth 16384
noncomputable section
namespace Cert.Pre_ordinary
open Idealize.ShloMosaic Idealize.ShloMosaic.TcCoe Idealize.ShloMosaic.Tactic

theorem facts : Facts where
  bcast_S_S1024 := by decide
  reducesTo_S1024_S_d0 := by decide
  h_S_ := by decide
  bcast_S_S4 := by decide
  reducesTo_S4_S_d0 := by decide

theorem and_one {a b : BitVec 1} (h : a &&& b = 1#1) : a = 1#1 ∧ b = 1#1 := by
  revert a b; decide

instance : Subsingleton S_.Idx := ⟨fun a b => funext fun i => i.elim0⟩

/-- A magnitude at most the largest float is a number. -/
theorem num_of_le (x : EReal) (h : FloatOps.absf (F := Ideal) (φ := .f32) x ≤ Ideal.ofBits .f32 0x7F7FFFFF#32) : ∃ v : ℝ, x = ((v : ℝ) : EReal) ∧ |v| ≤ 2 ^ 128 := by
  rw [show Ideal.ofBits .f32 0x7F7FFFFF#32 = _ from Cert.KernelIdeal.Run.ofBits_fmax] at h
  induction x using EReal.rec with
  | bot => exact absurd (show max (⊥ : EReal) (-⊥) ≤ _ from h) (by simp)
  | top => exact absurd (show max (⊤ : EReal) (-⊤) ≤ _ from h) (by simp)
  | coe v =>
    rw [Cert.KernelIdeal.Run.absf_coe, EReal.coe_le_coe_iff] at h
    exact ⟨v, rfl, h.trans Cert.KernelIdeal.Run.fmax_lt.le⟩

/-- The precondition, read. -/
theorem read [hf : Facts] (x : FVec Ideal S4x8192x1088 .bf16) (γ : FVec Ideal S1024 .f32) (p : IVec S4 32) (h : fn (F := Ideal) x γ p = fun _ => 1#1) :
    (∀ c : Fin 1024, ∃ v : ℝ, γ (ix1 c) = ((v : ℝ) : EReal) ∧ |v| ≤ 2 ^ 128) ∧ ∀ b : Fin 4, (p (ix1 b)).toInt ≤ 2147475456 := by
  obtain ⟨h1, h2⟩ := and_one (congrFun h (fun i => i.elim0))
  refine ⟨fun c => num_of_le _ ?_, fun b => ?_⟩
  · have := Host.reduce_andi_all _ _ _ _ _ h1 (ix1 c)
    have h3 : BitVec.ofBool (decide (FloatOps.absf (F := Ideal) (φ := .f32) (γ (ix1 c)) ≤ Ideal.ofBits .f32 0x7F7FFFFF#32)) = 1#1 := this
    by_contra hc
    rw [decide_eq_false hc] at h3
    exact absurd h3 (by decide)
  · have := Host.reduce_andi_all _ _ _ _ _ h2 (ix1 b)
    exact IntOp.cmpi_sle.1 this

end Cert.Pre_ordinary
-- ==== Proof.lean ====
/-
  The proof of `Cert.Claim`: both programs run to an end with their arguments unchanged, and the kernel's three arrays
  are the reference's.
-/
module

public import proofs.«01_k».proof.Defs
public import proofs.«01_k».proof.Proof.KernelFrame
public import proofs.«01_k».proof.Proof.KernelIdealFrame
public import proofs.«01_k».proof.Proof.ReferenceRun
public import proofs.«01_k».proof.Proof.Arrays
public import proofs.«01_k».proof.Proof.Pre

@[expose] public section

noncomputable section

namespace Cert.Proof

open Idealize.ShloMosaic Idealize.SL.Sem

instance : Cert.Pre_ordinary.Facts := Cert.Pre_ordinary.facts

/-- The kernel and the reference end with equal results. -/
theorem algebraic : @Cert.algebraic_KernelIdeal_ReferenceIdeal_pre_ordinary Cert.KernelIdeal.Gen.facts Cert.ReferenceIdeal.Gen.facts Cert.Pre_ordinary.facts := by
  intro m g m' g' hpre hargs
  have hread := fun c => Cert.Pre_ordinary.read _ _ _ (hpre c)
  refine ⟨fun c => Cert.ReferenceIdeal.Value.G3 (F := Ideal) (Cert.KernelIdeal.Run.arg0 m c) (Cert.KernelIdeal.Run.arg1 m c) (Cert.KernelIdeal.Run.arg2 m c),
    fun c => Cert.ReferenceIdeal.Value.G4 (F := Ideal) (Cert.KernelIdeal.Run.arg0 m c) (Cert.KernelIdeal.Run.arg1 m c) (Cert.KernelIdeal.Run.arg2 m c),
    fun c => Cert.ReferenceIdeal.Value.G5 (F := Ideal) (Cert.KernelIdeal.Run.arg0 m c) (Cert.KernelIdeal.Run.arg1 m c) (Cert.KernelIdeal.Run.arg2 m c),
    Cert.KernelIdeal.Run.value_run (m := m) g (fun c => (hread c).1) (fun c => (hread c).2),
    (θ_run _ _ _).mono (fun r h c => ?_) (Cert.ReferenceIdeal.Value.run (F := Ideal) m' g')⟩
  obtain ⟨h0, h1, h2, k⟩ := h c
  obtain ⟨a0, a1, a2⟩ := hargs c
  refine ⟨h0.trans ?_, h1.trans ?_, h2.trans ?_, k⟩
  · exact congr (congr (congrArg _ a0) a1) a2
  · exact congr (congr (congrArg _ a0) a1) a2
  · exact congr (congr (congrArg _ a0) a1) a2

theorem claim : Cert.Claim := ⟨Cert.Kernel.Gen.facts, Cert.KernelIdeal.Gen.facts, Cert.ReferenceIdeal.Gen.facts, Cert.Pre_ordinary.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
